-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Stream (m : (ℓ : Loc Cert.Stream.nD Cert.Stream.τ Cert.Stream.sig) → Buf (Elt Bits) ℓ) : Prop :=
  True

def Pre_StreamIdeal (m : (ℓ : Loc Cert.StreamIdeal.nD Cert.StreamIdeal.τ Cert.StreamIdeal.sig) → Buf (Elt Ideal) ℓ) : Prop :=
  True

def Pre_StreamRefIdeal (m : (ℓ : Loc Cert.StreamRefIdeal.nD Cert.StreamRefIdeal.τ Cert.StreamRefIdeal.sig) → Buf (Elt Ideal) ℓ) : Prop :=
  True

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4))
      ∧ r.2.sem = fun _ => 0)

def quiescent_Stream [hStream : Cert.Stream.Facts] : Prop :=
  ∀ (m : (ℓ : Loc Cert.Stream.nD Cert.Stream.τ Cert.Stream.sig) → Buf (Elt Bits) ℓ) (g : Dev Cert.Stream.nD → PrngReg), Pre_Stream m →
    θ_run (Cert.Stream.defs (F := Bits)) (onTc (τ := Cert.Stream.τ) (Cert.Stream.main (F := Bits))) ⟨m, fun _ => 0, g⟩ (fun r => (∀ c : Dev Cert.Stream.nD,
      r.2.mem ((c.tc : Thread Cert.Stream.nD Cert.Stream.τ).loc Cert.Stream.main_arg0) = m ((c.tc : Thread Cert.Stream.nD Cert.Stream.τ).loc Cert.Stream.main_arg0)
      ∧ r.2.mem ((c.tc : Thread Cert.Stream.nD Cert.Stream.τ).loc Cert.Stream.main_arg1) = m ((c.tc : Thread Cert.Stream.nD Cert.Stream.τ).loc Cert.Stream.main_arg1)
      ∧ r.2.mem ((c.tc : Thread Cert.Stream.nD Cert.Stream.τ).loc Cert.Stream.main_arg2) = m ((c.tc : Thread Cert.Stream.nD Cert.Stream.τ).loc Cert.Stream.main_arg2)
      ∧ r.2.mem ((c.tc : Thread Cert.Stream.nD Cert.Stream.τ).loc Cert.Stream.main_arg3) = m ((c.tc : Thread Cert.Stream.nD Cert.Stream.τ).loc Cert.Stream.main_arg3)
      ∧ r.2.mem ((c.tc : Thread Cert.Stream.nD Cert.Stream.τ).loc Cert.Stream.main_arg4) = m ((c.tc : Thread Cert.Stream.nD Cert.Stream.τ).loc Cert.Stream.main_arg4)
      ∧ r.2.mem ((c.tc : Thread Cert.Stream.nD Cert.Stream.τ).loc Cert.Stream.main_arg5) = m ((c.tc : Thread Cert.Stream.nD Cert.Stream.τ).loc Cert.Stream.main_arg5)
      ∧ r.2.mem ((c.tc : Thread Cert.Stream.nD Cert.Stream.τ).loc Cert.Stream.main_arg6) = m ((c.tc : Thread Cert.Stream.nD Cert.Stream.τ).loc Cert.Stream.main_arg6)
      ∧ r.2.mem ((c.tc : Thread Cert.Stream.nD Cert.Stream.τ).loc Cert.Stream.main_arg7) = m ((c.tc : Thread Cert.Stream.nD Cert.Stream.τ).loc Cert.Stream.main_arg7)
      ∧ r.2.mem ((c.tc : Thread Cert.Stream.nD Cert.Stream.τ).loc Cert.Stream.main_arg8) = m ((c.tc : Thread Cert.Stream.nD Cert.Stream.τ).loc Cert.Stream.main_arg8)
      ∧ r.2.mem ((c.tc : Thread Cert.Stream.nD Cert.Stream.τ).loc Cert.Stream.main_arg9) = m ((c.tc : Thread Cert.Stream.nD Cert.Stream.τ).loc Cert.Stream.main_arg9)
      ∧ r.2.mem ((c.tc : Thread Cert.Stream.nD Cert.Stream.τ).loc Cert.Stream.main_arg10) = m ((c.tc : Thread Cert.Stream.nD Cert.Stream.τ).loc Cert.Stream.main_arg10)
      ∧ r.2.mem ((c.tc : Thread Cert.Stream.nD Cert.Stream.τ).loc Cert.Stream.main_arg11) = m ((c.tc : Thread Cert.Stream.nD Cert.Stream.τ).loc Cert.Stream.main_arg11)
      ∧ r.2.mem ((c.tc : Thread Cert.Stream.nD Cert.Stream.τ).loc Cert.Stream.main_arg12) = m ((c.tc : Thread Cert.Stream.nD Cert.Stream.τ).loc Cert.Stream.main_arg12)
      ∧ r.2.mem ((c.tc : Thread Cert.Stream.nD Cert.Stream.τ).loc Cert.Stream.main_arg13) = m ((c.tc : Thread Cert.Stream.nD Cert.Stream.τ).loc Cert.Stream.main_arg13)
      ∧ r.2.mem ((c.tc : Thread Cert.Stream.nD Cert.Stream.τ).loc Cert.Stream.main_arg14) = m ((c.tc : Thread Cert.Stream.nD Cert.Stream.τ).loc Cert.Stream.main_arg14))
      ∧ r.2.sem = fun _ => 0)

def quiescent_StreamIdeal [hStreamIdeal : Cert.StreamIdeal.Facts] : Prop :=
  ∀ (m : (ℓ : Loc Cert.StreamIdeal.nD Cert.StreamIdeal.τ Cert.StreamIdeal.sig) → Buf (Elt Ideal) ℓ) (g : Dev Cert.StreamIdeal.nD → PrngReg), Pre_StreamIdeal m →
    θ_run (Cert.StreamIdeal.defs (F := Ideal)) (onTc (τ := Cert.StreamIdeal.τ) (Cert.StreamIdeal.main (F := Ideal))) ⟨m, fun _ => 0, g⟩ (fun r => (∀ c : Dev Cert.StreamIdeal.nD,
      r.2.mem ((c.tc : Thread Cert.StreamIdeal.nD Cert.StreamIdeal.τ).loc Cert.StreamIdeal.main_arg0) = m ((c.tc : Thread Cert.StreamIdeal.nD Cert.StreamIdeal.τ).loc Cert.StreamIdeal.main_arg0)
      ∧ r.2.mem ((c.tc : Thread Cert.StreamIdeal.nD Cert.StreamIdeal.τ).loc Cert.StreamIdeal.main_arg1) = m ((c.tc : Thread Cert.StreamIdeal.nD Cert.StreamIdeal.τ).loc Cert.StreamIdeal.main_arg1)
      ∧ r.2.mem ((c.tc : Thread Cert.StreamIdeal.nD Cert.StreamIdeal.τ).loc Cert.StreamIdeal.main_arg2) = m ((c.tc : Thread Cert.StreamIdeal.nD Cert.StreamIdeal.τ).loc Cert.StreamIdeal.main_arg2)
      ∧ r.2.mem ((c.tc : Thread Cert.StreamIdeal.nD Cert.StreamIdeal.τ).loc Cert.StreamIdeal.main_arg3) = m ((c.tc : Thread Cert.StreamIdeal.nD Cert.StreamIdeal.τ).loc Cert.StreamIdeal.main_arg3)
      ∧ r.2.mem ((c.tc : Thread Cert.StreamIdeal.nD Cert.StreamIdeal.τ).loc Cert.StreamIdeal.main_arg4) = m ((c.tc : Thread Cert.StreamIdeal.nD Cert.StreamIdeal.τ).loc Cert.StreamIdeal.main_arg4)
      ∧ r.2.mem ((c.tc : Thread Cert.StreamIdeal.nD Cert.StreamIdeal.τ).loc Cert.StreamIdeal.main_arg5) = m ((c.tc : Thread Cert.StreamIdeal.nD Cert.StreamIdeal.τ).loc Cert.StreamIdeal.main_arg5)
      ∧ r.2.mem ((c.tc : Thread Cert.StreamIdeal.nD Cert.StreamIdeal.τ).loc Cert.StreamIdeal.main_arg6) = m ((c.tc : Thread Cert.StreamIdeal.nD Cert.StreamIdeal.τ).loc Cert.StreamIdeal.main_arg6)
      ∧ r.2.mem ((c.tc : Thread Cert.StreamIdeal.nD Cert.StreamIdeal.τ).loc Cert.StreamIdeal.main_arg7) = m ((c.tc : Thread Cert.StreamIdeal.nD Cert.StreamIdeal.τ).loc Cert.StreamIdeal.main_arg7)
      ∧ r.2.mem ((c.tc : Thread Cert.StreamIdeal.nD Cert.StreamIdeal.τ).loc Cert.StreamIdeal.main_arg8) = m ((c.tc : Thread Cert.StreamIdeal.nD Cert.StreamIdeal.τ).loc Cert.StreamIdeal.main_arg8)
      ∧ r.2.mem ((c.tc : Thread Cert.StreamIdeal.nD Cert.StreamIdeal.τ).loc Cert.StreamIdeal.main_arg9) = m ((c.tc : Thread Cert.StreamIdeal.nD Cert.StreamIdeal.τ).loc Cert.StreamIdeal.main_arg9)
      ∧ r.2.mem ((c.tc : Thread Cert.StreamIdeal.nD Cert.StreamIdeal.τ).loc Cert.StreamIdeal.main_arg10) = m ((c.tc : Thread Cert.StreamIdeal.nD Cert.StreamIdeal.τ).loc Cert.StreamIdeal.main_arg10)
      ∧ r.2.mem ((c.tc : Thread Cert.StreamIdeal.nD Cert.StreamIdeal.τ).loc Cert.StreamIdeal.main_arg11) = m ((c.tc : Thread Cert.StreamIdeal.nD Cert.StreamIdeal.τ).loc Cert.StreamIdeal.main_arg11)
      ∧ r.2.mem ((c.tc : Thread Cert.StreamIdeal.nD Cert.StreamIdeal.τ).loc Cert.StreamIdeal.main_arg12) = m ((c.tc : Thread Cert.StreamIdeal.nD Cert.StreamIdeal.τ).loc Cert.StreamIdeal.main_arg12)
      ∧ r.2.mem ((c.tc : Thread Cert.StreamIdeal.nD Cert.StreamIdeal.τ).loc Cert.StreamIdeal.main_arg13) = m ((c.tc : Thread Cert.StreamIdeal.nD Cert.StreamIdeal.τ).loc Cert.StreamIdeal.main_arg13)
      ∧ r.2.mem ((c.tc : Thread Cert.StreamIdeal.nD Cert.StreamIdeal.τ).loc Cert.StreamIdeal.main_arg14) = m ((c.tc : Thread Cert.StreamIdeal.nD Cert.StreamIdeal.τ).loc Cert.StreamIdeal.main_arg14))
      ∧ r.2.sem = fun _ => 0)

def quiescent_StreamRefIdeal [hStreamRefIdeal : Cert.StreamRefIdeal.Facts] : Prop :=
  ∀ (m : (ℓ : Loc Cert.StreamRefIdeal.nD Cert.StreamRefIdeal.τ Cert.StreamRefIdeal.sig) → Buf (Elt Ideal) ℓ) (g : Dev Cert.StreamRefIdeal.nD → PrngReg), Pre_StreamRefIdeal m →
    θ_run (Cert.StreamRefIdeal.defs (F := Ideal)) (onTc (τ := Cert.StreamRefIdeal.τ) (Cert.StreamRefIdeal.main (F := Ideal))) ⟨m, fun _ => 0, g⟩ (fun r => (∀ c : Dev Cert.StreamRefIdeal.nD,
      r.2.mem ((c.tc : Thread Cert.StreamRefIdeal.nD Cert.StreamRefIdeal.τ).loc Cert.StreamRefIdeal.main_arg0) = m ((c.tc : Thread Cert.StreamRefIdeal.nD Cert.StreamRefIdeal.τ).loc Cert.StreamRefIdeal.main_arg0)
      ∧ r.2.mem ((c.tc : Thread Cert.StreamRefIdeal.nD Cert.StreamRefIdeal.τ).loc Cert.StreamRefIdeal.main_arg1) = m ((c.tc : Thread Cert.StreamRefIdeal.nD Cert.StreamRefIdeal.τ).loc Cert.StreamRefIdeal.main_arg1)
      ∧ r.2.mem ((c.tc : Thread Cert.StreamRefIdeal.nD Cert.StreamRefIdeal.τ).loc Cert.StreamRefIdeal.main_arg2) = m ((c.tc : Thread Cert.StreamRefIdeal.nD Cert.StreamRefIdeal.τ).loc Cert.StreamRefIdeal.main_arg2)
      ∧ r.2.mem ((c.tc : Thread Cert.StreamRefIdeal.nD Cert.StreamRefIdeal.τ).loc Cert.StreamRefIdeal.main_arg3) = m ((c.tc : Thread Cert.StreamRefIdeal.nD Cert.StreamRefIdeal.τ).loc Cert.StreamRefIdeal.main_arg3)
      ∧ r.2.mem ((c.tc : Thread Cert.StreamRefIdeal.nD Cert.StreamRefIdeal.τ).loc Cert.StreamRefIdeal.main_arg4) = m ((c.tc : Thread Cert.StreamRefIdeal.nD Cert.StreamRefIdeal.τ).loc Cert.StreamRefIdeal.main_arg4)
      ∧ r.2.mem ((c.tc : Thread Cert.StreamRefIdeal.nD Cert.StreamRefIdeal.τ).loc Cert.StreamRefIdeal.main_arg5) = m ((c.tc : Thread Cert.StreamRefIdeal.nD Cert.StreamRefIdeal.τ).loc Cert.StreamRefIdeal.main_arg5)
      ∧ r.2.mem ((c.tc : Thread Cert.StreamRefIdeal.nD Cert.StreamRefIdeal.τ).loc Cert.StreamRefIdeal.main_arg6) = m ((c.tc : Thread Cert.StreamRefIdeal.nD Cert.StreamRefIdeal.τ).loc Cert.StreamRefIdeal.main_arg6)
      ∧ r.2.mem ((c.tc : Thread Cert.StreamRefIdeal.nD Cert.StreamRefIdeal.τ).loc Cert.StreamRefIdeal.main_arg7) = m ((c.tc : Thread Cert.StreamRefIdeal.nD Cert.StreamRefIdeal.τ).loc Cert.StreamRefIdeal.main_arg7)
      ∧ r.2.mem ((c.tc : Thread Cert.StreamRefIdeal.nD Cert.StreamRefIdeal.τ).loc Cert.StreamRefIdeal.main_arg8) = m ((c.tc : Thread Cert.StreamRefIdeal.nD Cert.StreamRefIdeal.τ).loc Cert.StreamRefIdeal.main_arg8)
      ∧ r.2.mem ((c.tc : Thread Cert.StreamRefIdeal.nD Cert.StreamRefIdeal.τ).loc Cert.StreamRefIdeal.main_arg9) = m ((c.tc : Thread Cert.StreamRefIdeal.nD Cert.StreamRefIdeal.τ).loc Cert.StreamRefIdeal.main_arg9)
      ∧ r.2.mem ((c.tc : Thread Cert.StreamRefIdeal.nD Cert.StreamRefIdeal.τ).loc Cert.StreamRefIdeal.main_arg10) = m ((c.tc : Thread Cert.StreamRefIdeal.nD Cert.StreamRefIdeal.τ).loc Cert.StreamRefIdeal.main_arg10)
      ∧ r.2.mem ((c.tc : Thread Cert.StreamRefIdeal.nD Cert.StreamRefIdeal.τ).loc Cert.StreamRefIdeal.main_arg11) = m ((c.tc : Thread Cert.StreamRefIdeal.nD Cert.StreamRefIdeal.τ).loc Cert.StreamRefIdeal.main_arg11)
      ∧ r.2.mem ((c.tc : Thread Cert.StreamRefIdeal.nD Cert.StreamRefIdeal.τ).loc Cert.StreamRefIdeal.main_arg12) = m ((c.tc : Thread Cert.StreamRefIdeal.nD Cert.StreamRefIdeal.τ).loc Cert.StreamRefIdeal.main_arg12)
      ∧ r.2.mem ((c.tc : Thread Cert.StreamRefIdeal.nD Cert.StreamRefIdeal.τ).loc Cert.StreamRefIdeal.main_arg13) = m ((c.tc : Thread Cert.StreamRefIdeal.nD Cert.StreamRefIdeal.τ).loc Cert.StreamRefIdeal.main_arg13)
      ∧ r.2.mem ((c.tc : Thread Cert.StreamRefIdeal.nD Cert.StreamRefIdeal.τ).loc Cert.StreamRefIdeal.main_arg14) = m ((c.tc : Thread Cert.StreamRefIdeal.nD Cert.StreamRefIdeal.τ).loc Cert.StreamRefIdeal.main_arg14))
      ∧ r.2.sem = fun _ => 0)

def preserves_Qkv_QkvIdeal : Prop :=
  True

def algebraic_QkvIdeal_QkvRefIdeal_on_code_lanes [hQkvIdeal : Cert.QkvIdeal.Facts] [hQkvRefIdeal : Cert.QkvRefIdeal.Facts] [hOn_code_lanes : Cert.On_code_lanes.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v6_0)) (v1 : (c : Dev Cert.QkvIdeal.nD) → Buf (Elt Ideal) ((c.tc : Thread Cert.QkvIdeal.nD Cert.QkvIdeal.τ).loc Cert.QkvIdeal.main_v6_1)) (v2 : (c : Dev Cert.QkvIdeal.nD) → Buf (Elt Ideal) ((c.tc : Thread Cert.QkvIdeal.nD Cert.QkvIdeal.τ).loc Cert.QkvIdeal.main_v6_2)) (v3 : (c : Dev Cert.QkvIdeal.nD) → Buf (Elt Ideal) ((c.tc : Thread Cert.QkvIdeal.nD Cert.QkvIdeal.τ).loc Cert.QkvIdeal.main_v6_6)) (v4 : (c : Dev Cert.QkvIdeal.nD) → Buf (Elt Ideal) ((c.tc : Thread Cert.QkvIdeal.nD Cert.QkvIdeal.τ).loc Cert.QkvIdeal.main_v6_8)) (v5 : (c : Dev Cert.QkvIdeal.nD) → Buf (Elt Ideal) ((c.tc : Thread Cert.QkvIdeal.nD Cert.QkvIdeal.τ).loc Cert.QkvIdeal.main_v6_9)) (v6 : (c : Dev Cert.QkvIdeal.nD) → Buf (Elt Ideal) ((c.tc : Thread Cert.QkvIdeal.nD Cert.QkvIdeal.τ).loc Cert.QkvIdeal.main_v6_10)) (v7 : (c : Dev Cert.QkvIdeal.nD) → Buf (Elt Ideal) ((c.tc : Thread Cert.QkvIdeal.nD Cert.QkvIdeal.τ).loc Cert.QkvIdeal.main_v6_12)) (v8 : (c : Dev Cert.QkvIdeal.nD) → Buf (Elt Ideal) ((c.tc : Thread Cert.QkvIdeal.nD Cert.QkvIdeal.τ).loc Cert.QkvIdeal.main_v6_13)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          (∀ i : (⟨2, ![24, 4096]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).1 i = 1#1 → r.2.mem ((c.tc : Thread Cert.QkvIdeal.nD Cert.QkvIdeal.τ).loc Cert.QkvIdeal.main_v6_0) i = v0 c i)
          ∧ (∀ i : (⟨2, ![24, 1]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.1 i = 1#1 → r.2.mem ((c.tc : Thread Cert.QkvIdeal.nD Cert.QkvIdeal.τ).loc Cert.QkvIdeal.main_v6_1) i = v1 c i)
          ∧ (∀ i : (⟨3, ![24, 32, 128]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.2.1 i = 1#1 → r.2.mem ((c.tc : Thread Cert.QkvIdeal.nD Cert.QkvIdeal.τ).loc Cert.QkvIdeal.main_v6_2) i = v2 c i)
          ∧ (∀ i : (⟨3, ![24, 8, 128]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.2.2.1 i = 1#1 → r.2.mem ((c.tc : Thread Cert.QkvIdeal.nD Cert.QkvIdeal.τ).loc Cert.QkvIdeal.main_v6_6) i = v3 c i)
          ∧ (∀ i : (⟨2, ![24, 8]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.2.2.2.1 i = 1#1 → r.2.mem ((c.tc : Thread Cert.QkvIdeal.nD Cert.QkvIdeal.τ).loc Cert.QkvIdeal.main_v6_8) i = v4 c i)
          ∧ (∀ i : (⟨2, ![24, 8]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.2.2.2.2.1 i = 1#1 → r.2.mem ((c.tc : Thread Cert.QkvIdeal.nD Cert.QkvIdeal.τ).loc Cert.QkvIdeal.main_v6_9) i = v5 c i)
          ∧ (∀ i : (⟨3, ![24, 8, 128]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.2.2.2.2.2.1 i = 1#1 → r.2.mem ((c.tc : Thread Cert.QkvIdeal.nD Cert.QkvIdeal.τ).loc Cert.QkvIdeal.main_v6_10) i = v6 c i)
          ∧ (∀ i : (⟨2, ![24, 8]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.2.2.2.2.2.2.1 i = 1#1 → r.2.mem ((c.tc : Thread Cert.QkvIdeal.nD Cert.QkvIdeal.τ).loc Cert.QkvIdeal.main_v6_12) i = v7 c i)
          ∧ (∀ i : (⟨2, ![24, 8]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.2.2.2.2.2.2.2 i = 1#1 → r.2.mem ((c.tc : Thread Cert.QkvIdeal.nD Cert.QkvIdeal.τ).loc Cert.QkvIdeal.main_v6_13) i = v8 c i)
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          (∀ i : (⟨2, ![24, 4096]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).1 i = 1#1 → r.2.mem ((c.tc : Thread Cert.QkvRefIdeal.nD Cert.QkvRefIdeal.τ).loc Cert.QkvRefIdeal.main_v6_0) i = v0 c i)
          ∧ (∀ i : (⟨2, ![24, 1]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.1 i = 1#1 → r.2.mem ((c.tc : Thread Cert.QkvRefIdeal.nD Cert.QkvRefIdeal.τ).loc Cert.QkvRefIdeal.main_v6_1) i = v1 c i)
          ∧ (∀ i : (⟨3, ![24, 32, 128]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.2.1 i = 1#1 → r.2.mem ((c.tc : Thread Cert.QkvRefIdeal.nD Cert.QkvRefIdeal.τ).loc Cert.QkvRefIdeal.main_v6_2) i = v2 c i)
          ∧ (∀ i : (⟨3, ![24, 8, 128]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.2.2.1 i = 1#1 → r.2.mem ((c.tc : Thread Cert.QkvRefIdeal.nD Cert.QkvRefIdeal.τ).loc Cert.QkvRefIdeal.main_v6_3) i = v3 c i)
          ∧ (∀ i : (⟨2, ![24, 8]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.2.2.2.1 i = 1#1 → r.2.mem ((c.tc : Thread Cert.QkvRefIdeal.nD Cert.QkvRefIdeal.τ).loc Cert.QkvRefIdeal.main_v6_4) i = v4 c i)
          ∧ (∀ i : (⟨2, ![24, 8]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.2.2.2.2.1 i = 1#1 → r.2.mem ((c.tc : Thread Cert.QkvRefIdeal.nD Cert.QkvRefIdeal.τ).loc Cert.QkvRefIdeal.main_v6_5) i = v5 c i)
          ∧ (∀ i : (⟨3, ![24, 8, 128]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.2.2.2.2.2.1 i = 1#1 → r.2.mem ((c.tc : Thread Cert.QkvRefIdeal.nD Cert.QkvRefIdeal.τ).loc Cert.QkvRefIdeal.main_v6_6) i = v6 c i)
          ∧ (∀ i : (⟨2, ![24, 8]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.2.2.2.2.2.2.1 i = 1#1 → r.2.mem ((c.tc : Thread Cert.QkvRefIdeal.nD Cert.QkvRefIdeal.τ).loc Cert.QkvRefIdeal.main_v6_7) i = v7 c i)
          ∧ (∀ i : (⟨2, ![24, 8]⟩ : Shape).Idx, (Cert.On_code_lanes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))).2.2.2.2.2.2.2.2 i = 1#1 → r.2.mem ((c.tc : Thread Cert.QkvRefIdeal.nD Cert.QkvRefIdeal.τ).loc Cert.QkvRefIdeal.main_v6_8) i = v8 c i)
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)) →
    ∃ (v0 : (c : Dev Cert.OprojIdeal.nD) → Buf (Elt Ideal) ((c.tc : Thread Cert.OprojIdeal.nD Cert.OprojIdeal.τ).loc Cert.OprojIdeal.main_v4_0)) (v1 : (c : Dev Cert.OprojIdeal.nD) → Buf (Elt Ideal) ((c.tc : Thread Cert.OprojIdeal.nD Cert.OprojIdeal.τ).loc Cert.OprojIdeal.main_v4_1)) (v2 : (c : Dev Cert.OprojIdeal.nD) → Buf (Elt Ideal) ((c.tc : Thread Cert.OprojIdeal.nD Cert.OprojIdeal.τ).loc Cert.OprojIdeal.main_v4_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v4_0) = v0 c
          ∧ r.2.mem ((c.tc : Thread Cert.OprojIdeal.nD Cert.OprojIdeal.τ).loc Cert.OprojIdeal.main_v4_1) = v1 c
          ∧ r.2.mem ((c.tc : Thread Cert.OprojIdeal.nD Cert.OprojIdeal.τ).loc Cert.OprojIdeal.main_v4_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v4_0) = v0 c
          ∧ r.2.mem ((c.tc : Thread Cert.OprojRefIdeal.nD Cert.OprojRefIdeal.τ).loc Cert.OprojRefIdeal.main_v4_1) = v1 c
          ∧ r.2.mem ((c.tc : Thread Cert.OprojRefIdeal.nD Cert.OprojRefIdeal.τ).loc Cert.OprojRefIdeal.main_v4_2) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4))

def preserves_Stream_StreamIdeal : Prop :=
  True

def algebraic_StreamIdeal_StreamRefIdeal [hStreamIdeal : Cert.StreamIdeal.Facts] [hStreamRefIdeal : Cert.StreamRefIdeal.Facts] : Prop :=
  ∀ (m : (ℓ : Loc Cert.StreamIdeal.nD Cert.StreamIdeal.τ Cert.StreamIdeal.sig) → Buf (Elt Ideal) ℓ) (g : Dev Cert.StreamIdeal.nD → PrngReg)
    (m' : (ℓ : Loc Cert.StreamRefIdeal.nD Cert.StreamRefIdeal.τ Cert.StreamRefIdeal.sig) → Buf (Elt Ideal) ℓ) (g' : Dev Cert.StreamRefIdeal.nD → PrngReg), Pre_StreamIdeal m →
    (∀ c : Dev Cert.StreamIdeal.nD,
      m' ((c.tc : Thread Cert.StreamRefIdeal.nD Cert.StreamRefIdeal.τ).loc Cert.StreamRefIdeal.main_arg0) = m ((c.tc : Thread Cert.StreamIdeal.nD Cert.StreamIdeal.τ).loc Cert.StreamIdeal.main_arg0)
      ∧ m' ((c.tc : Thread Cert.StreamRefIdeal.nD Cert.StreamRefIdeal.τ).loc Cert.StreamRefIdeal.main_arg1) = m ((c.tc : Thread Cert.StreamIdeal.nD Cert.StreamIdeal.τ).loc Cert.StreamIdeal.main_arg1)
      ∧ m' ((c.tc : Thread Cert.StreamRefIdeal.nD Cert.StreamRefIdeal.τ).loc Cert.StreamRefIdeal.main_arg2) = m ((c.tc : Thread Cert.StreamIdeal.nD Cert.StreamIdeal.τ).loc Cert.StreamIdeal.main_arg2)
      ∧ m' ((c.tc : Thread Cert.StreamRefIdeal.nD Cert.StreamRefIdeal.τ).loc Cert.StreamRefIdeal.main_arg3) = m ((c.tc : Thread Cert.StreamIdeal.nD Cert.StreamIdeal.τ).loc Cert.StreamIdeal.main_arg3)
      ∧ m' ((c.tc : Thread Cert.StreamRefIdeal.nD Cert.StreamRefIdeal.τ).loc Cert.StreamRefIdeal.main_arg4) = m ((c.tc : Thread Cert.StreamIdeal.nD Cert.StreamIdeal.τ).loc Cert.StreamIdeal.main_arg4)
      ∧ m' ((c.tc : Thread Cert.StreamRefIdeal.nD Cert.StreamRefIdeal.τ).loc Cert.StreamRefIdeal.main_arg5) = m ((c.tc : Thread Cert.StreamIdeal.nD Cert.StreamIdeal.τ).loc Cert.StreamIdeal.main_arg5)
      ∧ m' ((c.tc : Thread Cert.StreamRefIdeal.nD Cert.StreamRefIdeal.τ).loc Cert.StreamRefIdeal.main_arg6) = m ((c.tc : Thread Cert.StreamIdeal.nD Cert.StreamIdeal.τ).loc Cert.StreamIdeal.main_arg6)
      ∧ m' ((c.tc : Thread Cert.StreamRefIdeal.nD Cert.StreamRefIdeal.τ).loc Cert.StreamRefIdeal.main_arg7) = m ((c.tc : Thread Cert.StreamIdeal.nD Cert.StreamIdeal.τ).loc Cert.StreamIdeal.main_arg7)
      ∧ m' ((c.tc : Thread Cert.StreamRefIdeal.nD Cert.StreamRefIdeal.τ).loc Cert.StreamRefIdeal.main_arg8) = m ((c.tc : Thread Cert.StreamIdeal.nD Cert.StreamIdeal.τ).loc Cert.StreamIdeal.main_arg8)
      ∧ m' ((c.tc : Thread Cert.StreamRefIdeal.nD Cert.StreamRefIdeal.τ).loc Cert.StreamRefIdeal.main_arg9) = m ((c.tc : Thread Cert.StreamIdeal.nD Cert.StreamIdeal.τ).loc Cert.StreamIdeal.main_arg9)
      ∧ m' ((c.tc : Thread Cert.StreamRefIdeal.nD Cert.StreamRefIdeal.τ).loc Cert.StreamRefIdeal.main_arg10) = m ((c.tc : Thread Cert.StreamIdeal.nD Cert.StreamIdeal.τ).loc Cert.StreamIdeal.main_arg10)
      ∧ m' ((c.tc : Thread Cert.StreamRefIdeal.nD Cert.StreamRefIdeal.τ).loc Cert.StreamRefIdeal.main_arg11) = m ((c.tc : Thread Cert.StreamIdeal.nD Cert.StreamIdeal.τ).loc Cert.StreamIdeal.main_arg11)
      ∧ m' ((c.tc : Thread Cert.StreamRefIdeal.nD Cert.StreamRefIdeal.τ).loc Cert.StreamRefIdeal.main_arg12) = m ((c.tc : Thread Cert.StreamIdeal.nD Cert.StreamIdeal.τ).loc Cert.StreamIdeal.main_arg12)
      ∧ m' ((c.tc : Thread Cert.StreamRefIdeal.nD Cert.StreamRefIdeal.τ).loc Cert.StreamRefIdeal.main_arg13) = m ((c.tc : Thread Cert.StreamIdeal.nD Cert.StreamIdeal.τ).loc Cert.StreamIdeal.main_arg13)
      ∧ m' ((c.tc : Thread Cert.StreamRefIdeal.nD Cert.StreamRefIdeal.τ).loc Cert.StreamRefIdeal.main_arg14) = m ((c.tc : Thread Cert.StreamIdeal.nD Cert.StreamIdeal.τ).loc Cert.StreamIdeal.main_arg14)) →
    ∃ (v0 : (c : Dev Cert.StreamIdeal.nD) → Buf (Elt Ideal) ((c.tc : Thread Cert.StreamIdeal.nD Cert.StreamIdeal.τ).loc Cert.StreamIdeal.main_v6)),
      θ_run (Cert.StreamIdeal.defs (F := Ideal)) (onTc (τ := Cert.StreamIdeal.τ) (Cert.StreamIdeal.main (F := Ideal))) ⟨m, fun _ => 0, g⟩ (fun r => ∀ c : Dev Cert.StreamIdeal.nD,
          r.2.mem ((c.tc : Thread Cert.StreamIdeal.nD Cert.StreamIdeal.τ).loc Cert.StreamIdeal.main_v6) = v0 c
          ∧ r.2.mem ((c.tc : Thread Cert.StreamIdeal.nD Cert.StreamIdeal.τ).loc Cert.StreamIdeal.main_arg0) = m ((c.tc : Thread Cert.StreamIdeal.nD Cert.StreamIdeal.τ).loc Cert.StreamIdeal.main_arg0)
          ∧ r.2.mem ((c.tc : Thread Cert.StreamIdeal.nD Cert.StreamIdeal.τ).loc Cert.StreamIdeal.main_arg1) = m ((c.tc : Thread Cert.StreamIdeal.nD Cert.StreamIdeal.τ).loc Cert.StreamIdeal.main_arg1)
          ∧ r.2.mem ((c.tc : Thread Cert.StreamIdeal.nD Cert.StreamIdeal.τ).loc Cert.StreamIdeal.main_arg2) = m ((c.tc : Thread Cert.StreamIdeal.nD Cert.StreamIdeal.τ).loc Cert.StreamIdeal.main_arg2)
          ∧ r.2.mem ((c.tc : Thread Cert.StreamIdeal.nD Cert.StreamIdeal.τ).loc Cert.StreamIdeal.main_arg3) = m ((c.tc : Thread Cert.StreamIdeal.nD Cert.StreamIdeal.τ).loc Cert.StreamIdeal.main_arg3)
          ∧ r.2.mem ((c.tc : Thread Cert.StreamIdeal.nD Cert.StreamIdeal.τ).loc Cert.StreamIdeal.main_arg4) = m ((c.tc : Thread Cert.StreamIdeal.nD Cert.StreamIdeal.τ).loc Cert.StreamIdeal.main_arg4)
          ∧ r.2.mem ((c.tc : Thread Cert.StreamIdeal.nD Cert.StreamIdeal.τ).loc Cert.StreamIdeal.main_arg5) = m ((c.tc : Thread Cert.StreamIdeal.nD Cert.StreamIdeal.τ).loc Cert.StreamIdeal.main_arg5)
          ∧ r.2.mem ((c.tc : Thread Cert.StreamIdeal.nD Cert.StreamIdeal.τ).loc Cert.StreamIdeal.main_arg6) = m ((c.tc : Thread Cert.StreamIdeal.nD Cert.StreamIdeal.τ).loc Cert.StreamIdeal.main_arg6)
          ∧ r.2.mem ((c.tc : Thread Cert.StreamIdeal.nD Cert.StreamIdeal.τ).loc Cert.StreamIdeal.main_arg7) = m ((c.tc : Thread Cert.StreamIdeal.nD Cert.StreamIdeal.τ).loc Cert.StreamIdeal.main_arg7)
          ∧ r.2.mem ((c.tc : Thread Cert.StreamIdeal.nD Cert.StreamIdeal.τ).loc Cert.StreamIdeal.main_arg8) = m ((c.tc : Thread Cert.StreamIdeal.nD Cert.StreamIdeal.τ).loc Cert.StreamIdeal.main_arg8)
          ∧ r.2.mem ((c.tc : Thread Cert.StreamIdeal.nD Cert.StreamIdeal.τ).loc Cert.StreamIdeal.main_arg9) = m ((c.tc : Thread Cert.StreamIdeal.nD Cert.StreamIdeal.τ).loc Cert.StreamIdeal.main_arg9)
          ∧ r.2.mem ((c.tc : Thread Cert.StreamIdeal.nD Cert.StreamIdeal.τ).loc Cert.StreamIdeal.main_arg10) = m ((c.tc : Thread Cert.StreamIdeal.nD Cert.StreamIdeal.τ).loc Cert.StreamIdeal.main_arg10)
          ∧ r.2.mem ((c.tc : Thread Cert.StreamIdeal.nD Cert.StreamIdeal.τ).loc Cert.StreamIdeal.main_arg11) = m ((c.tc : Thread Cert.StreamIdeal.nD Cert.StreamIdeal.τ).loc Cert.StreamIdeal.main_arg11)
          ∧ r.2.mem ((c.tc : Thread Cert.StreamIdeal.nD Cert.StreamIdeal.τ).loc Cert.StreamIdeal.main_arg12) = m ((c.tc : Thread Cert.StreamIdeal.nD Cert.StreamIdeal.τ).loc Cert.StreamIdeal.main_arg12)
          ∧ r.2.mem ((c.tc : Thread Cert.StreamIdeal.nD Cert.StreamIdeal.τ).loc Cert.StreamIdeal.main_arg13) = m ((c.tc : Thread Cert.StreamIdeal.nD Cert.StreamIdeal.τ).loc Cert.StreamIdeal.main_arg13)
          ∧ r.2.mem ((c.tc : Thread Cert.StreamIdeal.nD Cert.StreamIdeal.τ).loc Cert.StreamIdeal.main_arg14) = m ((c.tc : Thread Cert.StreamIdeal.nD Cert.StreamIdeal.τ).loc Cert.StreamIdeal.main_arg14))
      ∧ θ_run (Cert.StreamRefIdeal.defs (F := Ideal)) (onTc (τ := Cert.StreamRefIdeal.τ) (Cert.StreamRefIdeal.main (F := Ideal))) ⟨m', fun _ => 0, g'⟩ (fun r => ∀ c : Dev Cert.StreamRefIdeal.nD,
          r.2.mem ((c.tc : Thread Cert.StreamRefIdeal.nD Cert.StreamRefIdeal.τ).loc Cert.StreamRefIdeal.main_v23) = v0 c
          ∧ r.2.mem ((c.tc : Thread Cert.StreamRefIdeal.nD Cert.StreamRefIdeal.τ).loc Cert.StreamRefIdeal.main_arg0) = m' ((c.tc : Thread Cert.StreamRefIdeal.nD Cert.StreamRefIdeal.τ).loc Cert.StreamRefIdeal.main_arg0)
          ∧ r.2.mem ((c.tc : Thread Cert.StreamRefIdeal.nD Cert.StreamRefIdeal.τ).loc Cert.StreamRefIdeal.main_arg1) = m' ((c.tc : Thread Cert.StreamRefIdeal.nD Cert.StreamRefIdeal.τ).loc Cert.StreamRefIdeal.main_arg1)
          ∧ r.2.mem ((c.tc : Thread Cert.StreamRefIdeal.nD Cert.StreamRefIdeal.τ).loc Cert.StreamRefIdeal.main_arg2) = m' ((c.tc : Thread Cert.StreamRefIdeal.nD Cert.StreamRefIdeal.τ).loc Cert.StreamRefIdeal.main_arg2)
          ∧ r.2.mem ((c.tc : Thread Cert.StreamRefIdeal.nD Cert.StreamRefIdeal.τ).loc Cert.StreamRefIdeal.main_arg3) = m' ((c.tc : Thread Cert.StreamRefIdeal.nD Cert.StreamRefIdeal.τ).loc Cert.StreamRefIdeal.main_arg3)
          ∧ r.2.mem ((c.tc : Thread Cert.StreamRefIdeal.nD Cert.StreamRefIdeal.τ).loc Cert.StreamRefIdeal.main_arg4) = m' ((c.tc : Thread Cert.StreamRefIdeal.nD Cert.StreamRefIdeal.τ).loc Cert.StreamRefIdeal.main_arg4)
          ∧ r.2.mem ((c.tc : Thread Cert.StreamRefIdeal.nD Cert.StreamRefIdeal.τ).loc Cert.StreamRefIdeal.main_arg5) = m' ((c.tc : Thread Cert.StreamRefIdeal.nD Cert.StreamRefIdeal.τ).loc Cert.StreamRefIdeal.main_arg5)
          ∧ r.2.mem ((c.tc : Thread Cert.StreamRefIdeal.nD Cert.StreamRefIdeal.τ).loc Cert.StreamRefIdeal.main_arg6) = m' ((c.tc : Thread Cert.StreamRefIdeal.nD Cert.StreamRefIdeal.τ).loc Cert.StreamRefIdeal.main_arg6)
          ∧ r.2.mem ((c.tc : Thread Cert.StreamRefIdeal.nD Cert.StreamRefIdeal.τ).loc Cert.StreamRefIdeal.main_arg7) = m' ((c.tc : Thread Cert.StreamRefIdeal.nD Cert.StreamRefIdeal.τ).loc Cert.StreamRefIdeal.main_arg7)
          ∧ r.2.mem ((c.tc : Thread Cert.StreamRefIdeal.nD Cert.StreamRefIdeal.τ).loc Cert.StreamRefIdeal.main_arg8) = m' ((c.tc : Thread Cert.StreamRefIdeal.nD Cert.StreamRefIdeal.τ).loc Cert.StreamRefIdeal.main_arg8)
          ∧ r.2.mem ((c.tc : Thread Cert.StreamRefIdeal.nD Cert.StreamRefIdeal.τ).loc Cert.StreamRefIdeal.main_arg9) = m' ((c.tc : Thread Cert.StreamRefIdeal.nD Cert.StreamRefIdeal.τ).loc Cert.StreamRefIdeal.main_arg9)
          ∧ r.2.mem ((c.tc : Thread Cert.StreamRefIdeal.nD Cert.StreamRefIdeal.τ).loc Cert.StreamRefIdeal.main_arg10) = m' ((c.tc : Thread Cert.StreamRefIdeal.nD Cert.StreamRefIdeal.τ).loc Cert.StreamRefIdeal.main_arg10)
          ∧ r.2.mem ((c.tc : Thread Cert.StreamRefIdeal.nD Cert.StreamRefIdeal.τ).loc Cert.StreamRefIdeal.main_arg11) = m' ((c.tc : Thread Cert.StreamRefIdeal.nD Cert.StreamRefIdeal.τ).loc Cert.StreamRefIdeal.main_arg11)
          ∧ r.2.mem ((c.tc : Thread Cert.StreamRefIdeal.nD Cert.StreamRefIdeal.τ).loc Cert.StreamRefIdeal.main_arg12) = m' ((c.tc : Thread Cert.StreamRefIdeal.nD Cert.StreamRefIdeal.τ).loc Cert.StreamRefIdeal.main_arg12)
          ∧ r.2.mem ((c.tc : Thread Cert.StreamRefIdeal.nD Cert.StreamRefIdeal.τ).loc Cert.StreamRefIdeal.main_arg13) = m' ((c.tc : Thread Cert.StreamRefIdeal.nD Cert.StreamRefIdeal.τ).loc Cert.StreamRefIdeal.main_arg13)
          ∧ r.2.mem ((c.tc : Thread Cert.StreamRefIdeal.nD Cert.StreamRefIdeal.τ).loc Cert.StreamRefIdeal.main_arg14) = m' ((c.tc : Thread Cert.StreamRefIdeal.nD Cert.StreamRefIdeal.τ).loc Cert.StreamRefIdeal.main_arg14))

def Claim : Prop :=
  ∃ (hQkv : Cert.Qkv.Facts) (hQkvIdeal : Cert.QkvIdeal.Facts) (hQkvRefIdeal : Cert.QkvRefIdeal.Facts) (hOproj : Cert.Oproj.Facts) (hOprojIdeal : Cert.OprojIdeal.Facts) (hOprojRefIdeal : Cert.OprojRefIdeal.Facts) (hStream : Cert.Stream.Facts) (hStreamIdeal : Cert.StreamIdeal.Facts) (hStreamRefIdeal : Cert.StreamRefIdeal.Facts) (hOn_code_lanes : Cert.On_code_lanes.Facts),
    quiescent_Qkv (hQkv := hQkv)
    ∧ quiescent_QkvIdeal (hQkvIdeal := hQkvIdeal)
    ∧ quiescent_QkvRefIdeal (hQkvRefIdeal := hQkvRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Stream (hStream := hStream)
    ∧ quiescent_StreamIdeal (hStreamIdeal := hStreamIdeal)
    ∧ quiescent_StreamRefIdeal (hStreamRefIdeal := hStreamRefIdeal)
    ∧ preserves_Qkv_QkvIdeal
    ∧ algebraic_QkvIdeal_QkvRefIdeal_on_code_lanes (hQkvIdeal := hQkvIdeal) (hQkvRefIdeal := hQkvRefIdeal) (hOn_code_lanes := hOn_code_lanes)
    ∧ preserves_Oproj_OprojIdeal
    ∧ algebraic_OprojIdeal_OprojRefIdeal (hOprojIdeal := hOprojIdeal) (hOprojRefIdeal := hOprojRefIdeal)
    ∧ preserves_Stream_StreamIdeal
    ∧ algebraic_StreamIdeal_StreamRefIdeal (hStreamIdeal := hStreamIdeal) (hStreamRefIdeal := hStreamRefIdeal)
-- ==== On_code_lanes.lean ====
abbrev S24x1x4096 : Shape := ⟨3, ![24, 1, 4096]⟩
abbrev S4096 : Shape := ⟨1, ![4096]⟩
abbrev S2048x6144 : Shape := ⟨2, ![2048, 6144]⟩
abbrev S6144 : Shape := ⟨1, ![6144]⟩
abbrev S24x1x64 : Shape := ⟨3, ![24, 1, 64]⟩
abbrev S24x8x128 : Shape := ⟨3, ![24, 8, 128]⟩
abbrev S_ : Shape := ⟨0, ![]⟩
abbrev S24x8 : Shape := ⟨2, ![24, 8]⟩
abbrev S24x4096 : Shape := ⟨2, ![24, 4096]⟩
abbrev S24x1 : Shape := ⟨2, ![24, 1]⟩
abbrev S24x32x128 : Shape := ⟨3, ![24, 32, 128]⟩

class Facts : Prop where
  bcast_S_S24x8x128 : S_.BroadcastsInDim S24x8x128 (![] : Fin 0 → Fin S24x8x128.rank)
  bcast_S_S24x8 : S_.BroadcastsInDim S24x8 (![] : Fin 0 → Fin S24x8.rank)
  bcast_S_S24x4096 : S_.BroadcastsInDim S24x4096 (![] : Fin 0 → Fin S24x4096.rank)
  bcast_S_S24x1 : S_.BroadcastsInDim S24x1 (![] : Fin 0 → Fin S24x1.rank)
  bcast_S_S24x32x128 : S_.BroadcastsInDim S24x32x128 (![] : Fin 0 → Fin S24x32x128.rank)

variable [Facts]

def fn {F : FTy → Type} [FloatOps F] (main_arg0 : FVec F S24x1x4096 .bf16) (main_arg1 : FVec F S4096 .f32) (main_arg2 : IVec S2048x6144 8) (main_arg3 : FVec F S6144 .f32) (main_arg4 : FVec F S6144 .f32) (main_arg5 : FVec F S24x1x64 .f32) (main_arg6 : FVec F S24x1x64 .f32) : IVec S24x4096 1 × IVec S24x1 1 × IVec S24x32x128 1 × IVec S24x8x128 1 × IVec S24x8 1 × IVec S24x8 1 × IVec S24x8x128 1 × IVec S24x8 1 × IVec S24x8 1 :=
  let main_v0 : IVec S24x8x128 32 := iotaInDim S24x8x128 32 2
  let main_c : IVec S_ 32 := constantI S_ 32 64#32
  let main_v1 : IVec S24x8x128 32 := broadcastInDim S24x8x128 ![] bcast_S_S24x8x128 main_c
  let main_v2 : IVec S24x8x128 1 := cmpi .slt main_v0 main_v1
  let main_c_0 : IVec S_ 1 := constantI S_ 1 1#1
  let main_v3 : IVec S24x8 1 := broadcastInDim S24x8 ![] bcast_S_S24x8 main_c_0
  let main_c_1 : IVec S_ 1 := constantI S_ 1 1#1
  let main_v4 : IVec S24x8 1 := broadcastInDim S24x8 ![] bcast_S_S24x8 main_c_1
  let main_c_2 : IVec S_ 1 := constantI S_ 1 1#1
  let main_v5 : IVec S24x4096 1 := broadcastInDim S24x4096 ![] bcast_S_S24x4096 main_c_2
  let main_c_3 : IVec S_ 1 := constantI S_ 1 1#1
  let main_v6 : IVec S24x1 1 := broadcastInDim S24x1 ![] bcast_S_S24x1 main_c_3
  let main_c_4 : IVec S_ 1 := constantI S_ 1 1#1
  let main_v7 : IVec S24x32x128 1 := broadcastInDim S24x32x128 ![] bcast_S_S24x32x128 main_c_4
  (main_v5, main_v6, main_v7, main_v2, main_v3, main_v4, main_v2, main_v3, main_v4)
-- ==== Qkv.lean ====
abbrev S24x1x4096 : Shape := ⟨3, ![24, 1, 4096]⟩
abbrev S4096 : Shape := ⟨1, ![4096]⟩
abbrev S2048x6144 : Shape := ⟨2, ![2048, 6144]⟩
abbrev S6144 : Shape := ⟨1, ![6144]⟩
abbrev S24x1x64 : Shape := ⟨3, ![24, 1, 64]⟩
abbrev S24x4096 : Shape := ⟨2, ![24, 4096]⟩
abbrev S1x4096 : Shape := ⟨2, ![1, 4096]⟩
abbrev S1x6144 : Shape := ⟨2, ![1, 6144]⟩
abbrev S24x64 : Shape := ⟨2, ![24, 64]⟩
abbrev S24x1 : Shape := ⟨2, ![24, 1]⟩
abbrev S24x32x128 : Shape := ⟨3, ![24, 32, 128]⟩
abbrev S3x24x512 : Shape := ⟨3, ![3, 24, 512]⟩
abbrev S12x8x24x128 : Shape := ⟨4, ![12, 8, 24, 128]⟩
abbrev S24x32 : Shape := ⟨2, ![24, 32]⟩
abbrev S24x8x128 : Shape := ⟨3, ![24, 8, 128]⟩
abbrev S24x8 : Shape := ⟨2, ![24, 8]⟩
abbrev S2048x1024 : Shape := ⟨2, ![2048, 1024]⟩
abbrev S1x1024 : Shape := ⟨2, ![1, 1024]⟩
abbrev S24x128 : Shape := ⟨2, ![24, 128]⟩
abbrev S24 : Shape := ⟨1, ![24]⟩
abbrev S512x1024 : Shape := ⟨2, ![512, 1024]⟩
abbrev S24x2048 : Shape := ⟨2, ![24, 2048]⟩
abbrev S24x1024 : Shape := ⟨2, ![24, 1024]⟩
abbrev S128x1024 : Shape := ⟨2, ![128, 1024]⟩
abbrev S24x1x128 : Shape := ⟨3, ![24, 1, 128]⟩
abbrev S1x24x128 : Shape := ⟨3, ![1, 24, 128]⟩
abbrev S1x1x24x128 : Shape := ⟨4, ![1, 1, 24, 128]⟩

abbrev nBuf : Space → Nat
  | .hbm => 27
  | .vmem => 26
  | .smem => 0
  | _ => 0

abbrev bufTy : (tb : Table) → Fin (tcTables nBuf tb) → BufTy
  | .hbm, ⟨0, _⟩ => ⟨S24x1x4096, .bf16⟩
  | .hbm, ⟨1, _⟩ => ⟨S4096, .f32⟩
  | .hbm, ⟨2, _⟩ => ⟨S2048x6144, .i8⟩
  | .hbm, ⟨3, _⟩ => ⟨S6144, .f32⟩
  | .hbm, ⟨4, _⟩ => ⟨S6144, .f32⟩
  | .hbm, ⟨5, _⟩ => ⟨S24x1x64, .f32⟩
  | .hbm, ⟨6, _⟩ => ⟨S24x1x64, .f32⟩
  | .hbm, ⟨7, _⟩ => ⟨S24x4096, .bf16⟩
  | .hbm, ⟨8, _⟩ => ⟨S1x4096, .f32⟩
  | .hbm, ⟨9, _⟩ => ⟨S1x6144, .f32⟩
  | .hbm, ⟨10, _⟩ => ⟨S1x6144, .f32⟩
  | .hbm, ⟨11, _⟩ => ⟨S24x64, .f32⟩
  | .hbm, ⟨12, _⟩ => ⟨S24x64, .f32⟩
  | .hbm, ⟨13, _⟩ => ⟨S24x4096, .i8⟩
  | .hbm, ⟨14, _⟩ => ⟨S24x1, .f32⟩
  | .hbm, ⟨15, _⟩ => ⟨S24x32x128, .f32⟩
  | .hbm, ⟨16, _⟩ => ⟨S3x24x512, .f32⟩
  | .hbm, ⟨17, _⟩ => ⟨S12x8x24x128, .f32⟩
  | .hbm, ⟨18, _⟩ => ⟨S24x32, .f32⟩
  | .hbm, ⟨19, _⟩ => ⟨S24x8x128, .i32⟩
  | .hbm, ⟨20, _⟩ => ⟨S24x8x128, .f32⟩
  | .hbm, ⟨21, _⟩ => ⟨S24x8, .f32⟩
  | .hbm, ⟨22, _⟩ => ⟨S24x8, .f32⟩
  | .hbm, ⟨23, _⟩ => ⟨S24x8x128, .i32⟩
  | .hbm, ⟨24, _⟩ => ⟨S24x8x128, .f32⟩
  | .hbm, ⟨25, _⟩ => ⟨S24x8, .f32⟩
  | .hbm, ⟨26, _⟩ => ⟨S24x8, .f32⟩
  | .local _ .vmem, ⟨0, _⟩ => ⟨S24x4096, .bf16⟩
  | .local _ .vmem, ⟨1, _⟩ => ⟨S1x4096, .f32⟩
  | .local _ .vmem, ⟨2, _⟩ => ⟨S2048x1024, .i8⟩
  | .local _ .vmem, ⟨3, _⟩ => ⟨S2048x1024, .i8⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S24x64, .f32⟩
  | .local _ .vmem, ⟨9, _⟩ => ⟨S24x64, .f32⟩
  | .local _ .vmem, ⟨10, _⟩ => ⟨S24x4096, .i8⟩
  | .local _ .vmem, ⟨11, _⟩ => ⟨S24x1, .f32⟩
  | .local _ .vmem, ⟨12, _⟩ => ⟨S24x32x128, .f32⟩
  | .local _ .vmem, ⟨13, _⟩ => ⟨S3x24x512, .f32⟩
  | .local _ .vmem, ⟨14, _⟩ => ⟨S12x8x24x128, .f32⟩
  | .local _ .vmem, ⟨15, _⟩ => ⟨S24x32, .f32⟩
  | .local _ .vmem, ⟨16, _⟩ => ⟨S24x8x128, .i32⟩
  | .local _ .vmem, ⟨17, _⟩ => ⟨S24x8x128, .f32⟩
  | .local _ .vmem, ⟨18, _⟩ => ⟨S24x8, .f32⟩
  | .local _ .vmem, ⟨19, _⟩ => ⟨S24x8, .f32⟩
  | .local _ .vmem, ⟨20, _⟩ => ⟨S24x8x128, .i32⟩
  | .local _ .vmem, ⟨21, _⟩ => ⟨S24x8x128, .f32⟩
  | .local _ .vmem, ⟨22, _⟩ => ⟨S24x8, .f32⟩
  | .local _ .vmem, ⟨23, _⟩ => ⟨S24x8, .f32⟩
  | .local _ .vmem, ⟨24, _⟩ => ⟨S24x4096, .bf16⟩
  | .local _ .vmem, ⟨25, _⟩ => ⟨S24x128, .f32⟩
  | _, _ => ⟨S24x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev main_v6_7 : Ref sig .tc := ⟨.hbm, 20, rfl⟩
abbrev main_v6_8 : Ref sig .tc := ⟨.hbm, 21, rfl⟩
abbrev main_v6_9 : Ref sig .tc := ⟨.hbm, 22, rfl⟩
abbrev main_v6_10 : Ref sig .tc := ⟨.hbm, 23, rfl⟩
abbrev main_v6_11 : Ref sig .tc := ⟨.hbm, 24, rfl⟩
abbrev main_v6_12 : Ref sig .tc := ⟨.hbm, 25, rfl⟩
abbrev main_v6_13 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_47 : BitVec 32 := 0#32
  let v139 : BitVec 1 := Scalar.cmpi .eq arg0 c0_i32_47
  let v140 : BitVec 32 := Scalar.extui v139
  let c0_i32_48 : BitVec 32 := 0#32
  let v141 : BitVec 1 := Scalar.cmpi .ne v140 c0_i32_48
  v141

def k0_cond3 (i : grid0.Coords) : BitVec 1 :=
  let arg0 : BitVec 32 := BitVec.ofNat 32 (i 0).val
  let c1_i32_49 : BitVec 32 := 1#32
  let v142 : BitVec 1 := Scalar.cmpi .eq arg0 c1_i32_49
  let v143 : BitVec 32 := Scalar.extui v142
  let c0_i32_50 : BitVec 32 := 0#32
  let v144 : BitVec 1 := Scalar.cmpi .ne v143 c0_i32_50
  v144

def k0_cond4 (i : grid0.Coords) : BitVec 1 :=
  let arg0 : BitVec 32 := BitVec.ofNat 32 (i 0).val
  let c2_i32_51 : BitVec 32 := 2#32
  let v145 : BitVec 1 := Scalar.cmpi .eq arg0 c2_i32_51
  let v146 : BitVec 32 := Scalar.extui v145
  let c0_i32_52 : BitVec 32 := 0#32
  let v147 : BitVec 1 := Scalar.cmpi .ne v146 c0_i32_52
  v147

def k0_cond5 (i : grid0.Coords) : BitVec 1 :=
  let arg0 : BitVec 32 := BitVec.ofNat 32 (i 0).val
  let c3_i32 : BitVec 32 := 3#32
  let v148 : BitVec 1 := Scalar.cmpi .eq arg0 c3_i32
  let v149 : BitVec 32 := Scalar.extui v148
  let c0_i32_53 : BitVec 32 := 0#32
  let v150 : BitVec 1 := Scalar.cmpi .ne v149 c0_i32_53
  v150

def k0_cond6 (i : grid0.Coords) : BitVec 1 :=
  let arg0 : BitVec 32 := BitVec.ofNat 32 (i 0).val
  let c4_i32_54 : BitVec 32 := 4#32
  let v151 : BitVec 1 := Scalar.cmpi .eq arg0 c4_i32_54
  let v152 : BitVec 32 := Scalar.extui v151
  let c0_i32_55 : BitVec 32 := 0#32
  let v153 : BitVec 1 := Scalar.cmpi .ne v152 c0_i32_55
  v153

def k0_cond7 (i : grid0.Coords) : BitVec 1 :=
  let arg0 : BitVec 32 := BitVec.ofNat 32 (i 0).val
  let c5_i32 : BitVec 32 := 5#32
  let v154 : BitVec 1 := Scalar.cmpi .eq arg0 c5_i32
  let v155 : BitVec 32 := Scalar.extui v154
  let c0_i32_56 : BitVec 32 := 0#32
  let v156 : BitVec 1 := Scalar.cmpi .ne v155 c0_i32_56
  v156

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S24x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S24x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S24x32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x24x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S12x8x24x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S24x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S24x8x128 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S24x8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S24x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S24x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S24x8x128 .i32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S24x8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S24x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S24x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== QkvRefIdeal.lean ====
abbrev S24x1x4096 : Shape := ⟨3, ![24, 1, 4096]⟩
abbrev S4096 : Shape := ⟨1, ![4096]⟩
abbrev S2048x6144 : Shape := ⟨2, ![2048, 6144]⟩
abbrev S6144 : Shape := ⟨1, ![6144]⟩
abbrev S24x1x64 : Shape := ⟨3, ![24, 1, 64]⟩
abbrev S24x4096 : Shape := ⟨2, ![24, 4096]⟩
abbrev S1x4096 : Shape := ⟨2, ![1, 4096]⟩
abbrev S1x6144 : Shape := ⟨2, ![1, 6144]⟩
abbrev S24x64 : Shape := ⟨2, ![24, 64]⟩
abbrev S24x1 : Shape := ⟨2, ![24, 1]⟩
abbrev S24x32x128 : Shape := ⟨3, ![24, 32, 128]⟩
abbrev S24x8x128 : Shape := ⟨3, ![24, 8, 128]⟩
abbrev S24x8 : Shape := ⟨2, ![24, 8]⟩
abbrev S24 : Shape := ⟨1, ![24]⟩
abbrev S24x2048 : Shape := ⟨2, ![24, 2048]⟩
abbrev S24x6144 : Shape := ⟨2, ![24, 6144]⟩
abbrev S24x32x64 : Shape := ⟨3, ![24, 32, 64]⟩
abbrev S24x1024 : Shape := ⟨2, ![24, 1024]⟩
abbrev S24x8x64 : Shape := ⟨3, ![24, 8, 64]⟩
abbrev S24x8x1 : Shape := ⟨3, ![24, 8, 1]⟩

abbrev nBuf : Space → Nat
  | .hbm => 22
  | .vmem => 16
  | .smem => 0
  | _ => 0

abbrev bufTy : (tb : Table) → Fin (tcTables nBuf tb) → BufTy
  | .hbm, ⟨0, _⟩ => ⟨S24x1x4096, .bf16⟩
  | .hbm, ⟨1, _⟩ => ⟨S4096, .f32⟩
  | .hbm, ⟨2, _⟩ => ⟨S2048x6144, .i8⟩
  | .hbm, ⟨3, _⟩ => ⟨S6144, .f32⟩
  | .hbm, ⟨4, _⟩ => ⟨S6144, .f32⟩
  | .hbm, ⟨5, _⟩ => ⟨S24x1x64, .f32⟩
  | .hbm, ⟨6, _⟩ => ⟨S24x1x64, .f32⟩
  | .hbm, ⟨7, _⟩ => ⟨S24x4096, .bf16⟩
  | .hbm, ⟨8, _⟩ => ⟨S1x4096, .f32⟩
  | .hbm, ⟨9, _⟩ => ⟨S1x6144, .f32⟩
  | .hbm, ⟨10, _⟩ => ⟨S1x6144, .f32⟩
  | .hbm, ⟨11, _⟩ => ⟨S24x64, .f32⟩
  | .hbm, ⟨12, _⟩ => ⟨S24x64, .f32⟩
  | .hbm, ⟨13, _⟩ => ⟨S24x4096, .i8⟩
  | .hbm, ⟨14, _⟩ => ⟨S24x1, .f32⟩
  | .hbm, ⟨15, _⟩ => ⟨S24x32x128, .f32⟩
  | .hbm, ⟨16, _⟩ => ⟨S24x8x128, .i32⟩
  | .hbm, ⟨17, _⟩ => ⟨S24x8, .f32⟩
  | .hbm, ⟨18, _⟩ => ⟨S24x8, .f32⟩
  | .hbm, ⟨19, _⟩ => ⟨S24x8x128, .i32⟩
  | .hbm, ⟨20, _⟩ => ⟨S24x8, .f32⟩
  | .hbm, ⟨21, _⟩ => ⟨S24x8, .f32⟩
  | .local _ .vmem, ⟨0, _⟩ => ⟨S24x4096, .bf16⟩
  | .local _ .vmem, ⟨1, _⟩ => ⟨S1x4096, .f32⟩
  | .local _ .vmem, ⟨2, _⟩ => ⟨S2048x6144, .i8⟩
  | .local _ .vmem, ⟨3, _⟩ => ⟨S1x6144, .f32⟩
  | .local _ .vmem, ⟨4, _⟩ => ⟨S1x6144, .f32⟩
  | .local _ .vmem, ⟨5, _⟩ => ⟨S24x64, .f32⟩
  | .local _ .vmem, ⟨6, _⟩ => ⟨S24x64, .f32⟩
  | .local _ .vmem, ⟨7, _⟩ => ⟨S24x4096, .i8⟩
  | .local _ .vmem, ⟨8, _⟩ => ⟨S24x1, .f32⟩
  | .local _ .vmem, ⟨9, _⟩ => ⟨S24x32x128, .f32⟩
  | .local _ .vmem, ⟨10, _⟩ => ⟨S24x8x128, .i32⟩
  | .local _ .vmem, ⟨11, _⟩ => ⟨S24x8, .f32⟩
  | .local _ .vmem, ⟨12, _⟩ => ⟨S24x8, .f32⟩
  | .local _ .vmem, ⟨13, _⟩ => ⟨S24x8x128, .i32⟩
  | .local _ .vmem, ⟨14, _⟩ => ⟨S24x8, .f32⟩
  | .local _ .vmem, ⟨15, _⟩ => ⟨S24x8, .f32⟩
  | _, _ => ⟨S24x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev main_v6_7 : Ref sig .tc := ⟨.hbm, 20, rfl⟩
abbrev main_v6_8 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S24x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x6144 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x8x128 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S24x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S24x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S24x8x128 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S24x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S24x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Oproj.lean ====
abbrev S24x1x4096 : Shape := ⟨3, ![24, 1, 4096]⟩
abbrev S2048x4096 : Shape := ⟨2, ![2048, 4096]⟩
abbrev S4096 : Shape := ⟨1, ![4096]⟩
abbrev S24x4096 : Shape := ⟨2, ![24, 4096]⟩
abbrev S1x4096 : Shape := ⟨2, ![1, 4096]⟩
abbrev S24x1 : Shape := ⟨2, ![24, 1]⟩
abbrev S24x1024 : Shape := ⟨2, ![24, 1024]⟩
abbrev S2048x1024 : Shape := ⟨2, ![2048, 1024]⟩
abbrev S1x1024 : Shape := ⟨2, ![1, 1024]⟩
abbrev S24x128 : Shape := ⟨2, ![24, 128]⟩
abbrev S24 : Shape := ⟨1, ![24]⟩
abbrev S512x1024 : Shape := ⟨2, ![512, 1024]⟩
abbrev S24x2048 : Shape := ⟨2, ![24, 2048]⟩

abbrev nBuf : Space → Nat
  | .hbm => 12
  | .vmem => 15
  | .smem => 0
  | _ => 0

abbrev bufTy : (tb : Table) → Fin (tcTables nBuf tb) → BufTy
  | .hbm, ⟨0, _⟩ => ⟨S24x1x4096, .f32⟩
  | .hbm, ⟨1, _⟩ => ⟨S24x1x4096, .bf16⟩
  | .hbm, ⟨2, _⟩ => ⟨S2048x4096, .i8⟩
  | .hbm, ⟨3, _⟩ => ⟨S4096, .f32⟩
  | .hbm, ⟨4, _⟩ => ⟨S4096, .f32⟩
  | .hbm, ⟨5, _⟩ => ⟨S24x4096, .f32⟩
  | .hbm, ⟨6, _⟩ => ⟨S24x4096, .bf16⟩
  | .hbm, ⟨7, _⟩ => ⟨S1x4096, .f32⟩
  | .hbm, ⟨8, _⟩ => ⟨S1x4096, .f32⟩
  | .hbm, ⟨9, _⟩ => ⟨S24x4096, .i8⟩
  | .hbm, ⟨10, _⟩ => ⟨S24x1, .f32⟩
  | .hbm, ⟨11, _⟩ => ⟨S24x4096, .bf16⟩
  | .local _ .vmem, ⟨0, _⟩ => ⟨S24x4096, .f32⟩
  | .local _ .vmem, ⟨1, _⟩ => ⟨S24x1024, .bf16⟩
  | .local _ .vmem, ⟨2, _⟩ => ⟨S24x1024, .bf16⟩
  | .local _ .vmem, ⟨3, _⟩ => ⟨S2048x1024, .i8⟩
  | .local _ .vmem, ⟨4, _⟩ => ⟨S2048x1024, .i8⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S24x4096, .i8⟩
  | .local _ .vmem, ⟨10, _⟩ => ⟨S24x1, .f32⟩
  | .local _ .vmem, ⟨11, _⟩ => ⟨S24x1024, .bf16⟩
  | .local _ .vmem, ⟨12, _⟩ => ⟨S24x1024, .bf16⟩
  | .local _ .vmem, ⟨13, _⟩ => ⟨S24x4096, .bf16⟩
  | .local _ .vmem, ⟨14, _⟩ => ⟨S24x128, .f32⟩
  | _, _ => ⟨S24x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S24x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S24x4096 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S24x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OprojRefIdeal.lean ====
abbrev S24x1x4096 : Shape := ⟨3, ![24, 1, 4096]⟩
abbrev S2048x4096 : Shape := ⟨2, ![2048, 4096]⟩
abbrev S4096 : Shape := ⟨1, ![4096]⟩
abbrev S24x4096 : Shape := ⟨2, ![24, 4096]⟩
abbrev S1x4096 : Shape := ⟨2, ![1, 4096]⟩
abbrev S24x1 : Shape := ⟨2, ![24, 1]⟩
abbrev S24 : Shape := ⟨1, ![24]⟩
abbrev S24x2048 : Shape := ⟨2, ![24, 2048]⟩

abbrev nBuf : Space → Nat
  | .hbm => 12
  | .vmem => 8
  | .smem => 0
  | _ => 0

abbrev bufTy : (tb : Table) → Fin (tcTables nBuf tb) → BufTy
  | .hbm, ⟨0, _⟩ => ⟨S24x1x4096, .f32⟩
  | .hbm, ⟨1, _⟩ => ⟨S24x1x4096, .bf16⟩
  | .hbm, ⟨2, _⟩ => ⟨S2048x4096, .i8⟩
  | .hbm, ⟨3, _⟩ => ⟨S4096, .f32⟩
  | .hbm, ⟨4, _⟩ => ⟨S4096, .f32⟩
  | .hbm, ⟨5, _⟩ => ⟨S24x4096, .f32⟩
  | .hbm, ⟨6, _⟩ => ⟨S24x4096, .bf16⟩
  | .hbm, ⟨7, _⟩ => ⟨S1x4096, .f32⟩
  | .hbm, ⟨8, _⟩ => ⟨S1x4096, .f32⟩
  | .hbm, ⟨9, _⟩ => ⟨S24x4096, .i8⟩
  | .hbm, ⟨10, _⟩ => ⟨S24x1, .f32⟩
  | .hbm, ⟨11, _⟩ => ⟨S24x4096, .bf16⟩
  | .local _ .vmem, ⟨0, _⟩ => ⟨S24x4096, .f32⟩
  | .local _ .vmem, ⟨1, _⟩ => ⟨S24x4096, .bf16⟩
  | .local _ .vmem, ⟨2, _⟩ => ⟨S2048x4096, .i8⟩
  | .local _ .vmem, ⟨3, _⟩ => ⟨S1x4096, .f32⟩
  | .local _ .vmem, ⟨4, _⟩ => ⟨S1x4096, .f32⟩
  | .local _ .vmem, ⟨5, _⟩ => ⟨S24x4096, .i8⟩
  | .local _ .vmem, ⟨6, _⟩ => ⟨S24x1, .f32⟩
  | .local _ .vmem, ⟨7, _⟩ => ⟨S24x4096, .bf16⟩
  | _, _ => ⟨S24x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x4096 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Stream.lean ====
abbrev S24 : Shape := ⟨1, ![24]⟩
abbrev S24x32x128 : Shape := ⟨3, ![24, 32, 128]⟩
abbrev S24x32 : Shape := ⟨2, ![24, 32]⟩
abbrev S24x5x320x64 : Shape := ⟨4, ![24, 5, 320, 64]⟩
abbrev S24x5x320 : Shape := ⟨3, ![24, 5, 320]⟩
abbrev S24x8x128 : Shape := ⟨3, ![24, 8, 128]⟩
abbrev S24x8 : Shape := ⟨2, ![24, 8]⟩
abbrev S24x5x64x320 : Shape := ⟨4, ![24, 5, 64, 320]⟩
abbrev S5x24x320 : Shape := ⟨3, ![5, 24, 320]⟩
abbrev S24x20x128 : Shape := ⟨3, ![24, 20, 128]⟩
abbrev S1x32x128 : Shape := ⟨3, ![1, 32, 128]⟩
abbrev S1x5x64x320 : Shape := ⟨4, ![1, 5, 64, 320]⟩
abbrev S1x8x128 : Shape := ⟨3, ![1, 8, 128]⟩
abbrev S1x20x128 : Shape := ⟨3, ![1, 20, 128]⟩
abbrev S4x320 : Shape := ⟨2, ![4, 320]⟩
abbrev S1 : Shape := ⟨1, ![1]⟩
abbrev S8x1 : Shape := ⟨2, ![8, 1]⟩
abbrev S1x4x128 : Shape := ⟨3, ![1, 4, 128]⟩
abbrev S4x128 : Shape := ⟨2, ![4, 128]⟩
abbrev S4 : Shape := ⟨1, ![4]⟩
abbrev S4x1 : Shape := ⟨2, ![4, 1]⟩
abbrev S1x1x64x320 : Shape := ⟨4, ![1, 1, 64, 320]⟩
abbrev S64x320 : Shape := ⟨2, ![64, 320]⟩
abbrev S16x320 : Shape := ⟨2, ![16, 320]⟩
abbrev S128x320 : Shape := ⟨2, ![128, 320]⟩
abbrev S1x8x320 : Shape := ⟨3, ![1, 8, 320]⟩
abbrev S8x320 : Shape := ⟨2, ![8, 320]⟩
abbrev S320 : Shape := ⟨1, ![320]⟩
abbrev S1x320 : Shape := ⟨2, ![1, 320]⟩
abbrev S1x1x128 : Shape := ⟨3, ![1, 1, 128]⟩
abbrev S1x128 : Shape := ⟨2, ![1, 128]⟩
abbrev S1x1 : Shape := ⟨2, ![1, 1]⟩

abbrev nBuf : Space → Nat
  | .hbm => 22
  | .vmem => 21
  | .smem => 1
  | _ => 0

abbrev bufTy : (tb : Table) → Fin (tcTables nBuf tb) → BufTy
  | .hbm, ⟨0, _⟩ => ⟨S24, .i32⟩
  | .hbm, ⟨1, _⟩ => ⟨S24x32x128, .f32⟩
  | .hbm, ⟨2, _⟩ => ⟨S24x32, .f32⟩
  | .hbm, ⟨3, _⟩ => ⟨S24x5x320x64, .i8⟩
  | .hbm, ⟨4, _⟩ => ⟨S24x5x320, .f32⟩
  | .hbm, ⟨5, _⟩ => ⟨S24x5x320, .f32⟩
  | .hbm, ⟨6, _⟩ => ⟨S24x5x320x64, .i8⟩
  | .hbm, ⟨7, _⟩ => ⟨S24x5x320, .f32⟩
  | .hbm, ⟨8, _⟩ => ⟨S24x5x320, .f32⟩
  | .hbm, ⟨9, _⟩ => ⟨S24x8x128, .f32⟩
  | .hbm, ⟨10, _⟩ => ⟨S24x8, .f32⟩
  | .hbm, ⟨11, _⟩ => ⟨S24x8, .f32⟩
  | .hbm, ⟨12, _⟩ => ⟨S24x8x128, .f32⟩
  | .hbm, ⟨13, _⟩ => ⟨S24x8, .f32⟩
  | .hbm, ⟨14, _⟩ => ⟨S24x8, .f32⟩
  | .hbm, ⟨15, _⟩ => ⟨S24x5x64x320, .i8⟩
  | .hbm, ⟨16, _⟩ => ⟨S5x24x320, .f32⟩
  | .hbm, ⟨17, _⟩ => ⟨S5x24x320, .f32⟩
  | .hbm, ⟨18, _⟩ => ⟨S24x5x64x320, .i8⟩
  | .hbm, ⟨19, _⟩ => ⟨S5x24x320, .f32⟩
  | .hbm, ⟨20, _⟩ => ⟨S5x24x320, .f32⟩
  | .hbm, ⟨21, _⟩ => ⟨S24x20x128, .f32⟩
  | .local _ .vmem, ⟨0, _⟩ => ⟨S1x32x128, .f32⟩
  | .local _ .vmem, ⟨1, _⟩ => ⟨S1x32x128, .f32⟩
  | .local _ .vmem, ⟨2, _⟩ => ⟨S24x32, .f32⟩
  | .local _ .vmem, ⟨3, _⟩ => ⟨S1x5x64x320, .i8⟩
  | .local _ .vmem, ⟨4, _⟩ => ⟨S1x5x64x320, .i8⟩
  | .local _ .vmem, ⟨5, _⟩ => ⟨S5x24x320, .f32⟩
  | .local _ .vmem, ⟨6, _⟩ => ⟨S5x24x320, .f32⟩
  | .local _ .vmem, ⟨7, _⟩ => ⟨S1x5x64x320, .i8⟩
  | .local _ .vmem, ⟨8, _⟩ => ⟨S1x5x64x320, .i8⟩
  | .local _ .vmem, ⟨9, _⟩ => ⟨S5x24x320, .f32⟩
  | .local _ .vmem, ⟨10, _⟩ => ⟨S5x24x320, .f32⟩
  | .local _ .vmem, ⟨11, _⟩ => ⟨S1x8x128, .f32⟩
  | .local _ .vmem, ⟨12, _⟩ => ⟨S1x8x128, .f32⟩
  | .local _ .vmem, ⟨13, _⟩ => ⟨S24x8, .f32⟩
  | .local _ .vmem, ⟨14, _⟩ => ⟨S24x8, .f32⟩
  | .local _ .vmem, ⟨15, _⟩ => ⟨S1x8x128, .f32⟩
  | .local _ .vmem, ⟨16, _⟩ => ⟨S1x8x128, .f32⟩
  | .local _ .vmem, ⟨17, _⟩ => ⟨S24x8, .f32⟩
  | .local _ .vmem, ⟨18, _⟩ => ⟨S24x8, .f32⟩
  | .local _ .vmem, ⟨19, _⟩ => ⟨S1x20x128, .f32⟩
  | .local _ .vmem, ⟨20, _⟩ => ⟨S1x20x128, .f32⟩
  | .local _ .smem, ⟨0, _⟩ => ⟨S24, .i32⟩
  | _, _ => ⟨S24, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![24], ![false]⟩

def k0_off1 (i : grid0.Coords) : Fin 1 → Nat :=
  let arg0 : BitVec 32 := BitVec.ofNat 32 (i 0).val
  let v1 : Index := Scalar.indexCast arg0
  ![v1.toNat]
def k0_mult1 (i : grid0.Coords) : BitVec 32 :=
  let arg0 : BitVec 32 := BitVec.ofNat 32 (i 0).val
  let c0_i32 : BitVec 32 := 0#32
  let v6 : BitVec 1 := Scalar.cmpi .sgt arg0 c0_i32
  let v7 : BitVec 32 := Scalar.extui v6
  let c0_i32_0 : BitVec 32 := 0#32
  let v8 : BitVec 1 := Scalar.cmpi .slt arg0 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi arg0 c8_i32
  let c0_i32_3 : BitVec 32 := 0#32
  let v18 : BitVec 1 := Scalar.cmpi .ne v17 c0_i32_3
  let v19 : BitVec 1 := Scalar.andi v16 v18
  let v5 : BitVec 32 := Scalar.divsi arg0 c8_i32
  let c1_i32 : BitVec 32 := 1#32
  let v20 : BitVec 32 := Scalar.subi v5 c1_i32
  let v21 : BitVec 32 := Scalar.select v19 v20 v5
  let c8_i32_4 : BitVec 32 := 8#32
  let v22 : BitVec 32 := Scalar.muli v21 c8_i32_4
  v22
def k0_off2 (i : grid0.Coords) : Fin 3 → Nat :=
  let c0_13 : Index := 0#32
  let arg0 : BitVec 32 := BitVec.ofNat 32 (i 0).val
  let c0_i32 : BitVec 32 := 0#32
  let v6 : BitVec 1 := Scalar.cmpi .sgt arg0 c0_i32
  let v7 : BitVec 32 := Scalar.extui v6
  let c0_i32_0 : BitVec 32 := 0#32
  let v8 : BitVec 1 := Scalar.cmpi .slt arg0 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi arg0 c8_i32
  let c0_i32_3 : BitVec 32 := 0#32
  let v18 : BitVec 1 := Scalar.cmpi .ne v17 c0_i32_3
  let v19 : BitVec 1 := Scalar.andi v16 v18
  let v5 : BitVec 32 := Scalar.divsi arg0 c8_i32
  let c1_i32 : BitVec 32 := 1#32
  let v20 : BitVec 32 := Scalar.subi v5 c1_i32
  let v21 : BitVec 32 := Scalar.select v19 v20 v5
  let c8_i32_4 : BitVec 32 := 8#32
  let v22 : BitVec 32 := Scalar.muli v21 c8_i32_4
  let v23 : BitVec 32 := v22
  let v49 : Index := Scalar.indexCast v23
  let c0_14 : Index := 0#32
  ![0, v49.toNat, 0]
def k0_off3 (i : grid0.Coords) : Fin 2 → Nat :=
  let arg0 : BitVec 32 := BitVec.ofNat 32 (i 0).val
  let v86 : Index := Scalar.indexCast arg0
  let c0_28 : Index := 0#32
  ![v86.toNat, 0]
def k0_off4 (i : grid0.Coords) : Fin 3 → Nat :=
  let c1_69 : Index := 1#32
  let arg0 : BitVec 32 := BitVec.ofNat 32 (i 0).val
  let c0_i32 : BitVec 32 := 0#32
  let v6 : BitVec 1 := Scalar.cmpi .sgt arg0 c0_i32
  let v7 : BitVec 32 := Scalar.extui v6
  let c0_i32_0 : BitVec 32 := 0#32
  let v8 : BitVec 1 := Scalar.cmpi .slt arg0 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi arg0 c8_i32
  let c0_i32_3 : BitVec 32 := 0#32
  let v18 : BitVec 1 := Scalar.cmpi .ne v17 c0_i32_3
  let v19 : BitVec 1 := Scalar.andi v16 v18
  let v5 : BitVec 32 := Scalar.divsi arg0 c8_i32
  let c1_i32 : BitVec 32 := 1#32
  let v20 : BitVec 32 := Scalar.subi v5 c1_i32
  let v21 : BitVec 32 := Scalar.select v19 v20 v5
  let c8_i32_4 : BitVec 32 := 8#32
  let v22 : BitVec 32 := Scalar.muli v21 c8_i32_4
  let v23 : BitVec 32 := v22
  let v196 : Index := Scalar.indexCast v23
  let c0_70 : Index := 0#32
  ![1, v196.toNat, 0]
def k0_off5 (i : grid0.Coords) : Fin 2 → Nat :=
  let arg0 : BitVec 32 := BitVec.ofNat 32 (i 0).val
  let v233 : Index := Scalar.indexCast arg0
  let c1_84 : Index := 1#32
  ![v233.toNat, 1]
def k0_off6 (i : grid0.Coords) : Fin 3 → Nat :=
  let c2_125 : Index := 2#32
  let arg0 : BitVec 32 := BitVec.ofNat 32 (i 0).val
  let c0_i32 : BitVec 32 := 0#32
  let v6 : BitVec 1 := Scalar.cmpi .sgt arg0 c0_i32
  let v7 : BitVec 32 := Scalar.extui v6
  let c0_i32_0 : BitVec 32 := 0#32
  let v8 : BitVec 1 := Scalar.cmpi .slt arg0 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi arg0 c8_i32
  let c0_i32_3 : BitVec 32 := 0#32
  let v18 : BitVec 1 := Scalar.cmpi .ne v17 c0_i32_3
  let v19 : BitVec 1 := Scalar.andi v16 v18
  let v5 : BitVec 32 := Scalar.divsi arg0 c8_i32
  let c1_i32 : BitVec 32 := 1#32
  let v20 : BitVec 32 := Scalar.subi v5 c1_i32
  let v21 : BitVec 32 := Scalar.select v19 v20 v5
  let c8_i32_4 : BitVec 32 := 8#32
  let v22 : BitVec 32 := Scalar.muli v21 c8_i32_4
  let v23 : BitVec 32 := v22
  let v343 : Index := Scalar.indexCast v23
  let c0_126 : Index := 0#32
  ![2, v343.toNat, 0]
def k0_off7 (i : grid0.Coords) : Fin 2 → Nat :=
  let arg0 : BitVec 32 := BitVec.ofNat 32 (i 0).val
  let v380 : Index := Scalar.indexCast arg0
  let c2_140 : Index := 2#32
  ![v380.toNat, 2]
def k0_off8 (i : grid0.Coords) : Fin 3 → Nat :=
  let c3_181 : Index := 3#32
  let arg0 : BitVec 32 := BitVec.ofNat 32 (i 0).val
  let c0_i32 : BitVec 32 := 0#32
  let v6 : BitVec 1 := Scalar.cmpi .sgt arg0 c0_i32
  let v7 : BitVec 32 := Scalar.extui v6
  let c0_i32_0 : BitVec 32 := 0#32
  let v8 : BitVec 1 := Scalar.cmpi .slt arg0 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi arg0 c8_i32
  let c0_i32_3 : BitVec 32 := 0#32
  let v18 : BitVec 1 := Scalar.cmpi .ne v17 c0_i32_3
  let v19 : BitVec 1 := Scalar.andi v16 v18
  let v5 : BitVec 32 := Scalar.divsi arg0 c8_i32
  let c1_i32 : BitVec 32 := 1#32
  let v20 : BitVec 32 := Scalar.subi v5 c1_i32
  let v21 : BitVec 32 := Scalar.select v19 v20 v5
  let c8_i32_4 : BitVec 32 := 8#32
  let v22 : BitVec 32 := Scalar.muli v21 c8_i32_4
  let v23 : BitVec 32 := v22
  let v490 : Index := Scalar.indexCast v23
  let c0_182 : Index := 0#32
  ![3, v490.toNat, 0]
def k0_off9 (i : grid0.Coords) : Fin 2 → Nat :=
  let arg0 : BitVec 32 := BitVec.ofNat 32 (i 0).val
  let v527 : Index := Scalar.indexCast arg0
  let c3_196 : Index := 3#32
  ![v527.toNat, 3]
def k0_off10 (i : grid0.Coords) : Fin 3 → Nat :=
  let c4_238 : Index := 4#32
  let arg0 : BitVec 32 := BitVec.ofNat 32 (i 0).val
  let c0_i32 : BitVec 32 := 0#32
  let v6 : BitVec 1 := Scalar.cmpi .sgt arg0 c0_i32
  let v7 : BitVec 32 := Scalar.extui v6
  let c0_i32_0 : BitVec 32 := 0#32
  let v8 : BitVec 1 := Scalar.cmpi .slt arg0 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi arg0 c8_i32
  let c0_i32_3 : BitVec 32 := 0#32
  let v18 : BitVec 1 := Scalar.cmpi .ne v17 c0_i32_3
  let v19 : BitVec 1 := Scalar.andi v16 v18
  let v5 : BitVec 32 := Scalar.divsi arg0 c8_i32
  let c1_i32 : BitVec 32 := 1#32
  let v20 : BitVec 32 := Scalar.subi v5 c1_i32
  let v21 : BitVec 32 := Scalar.select v19 v20 v5
  let c8_i32_4 : BitVec 32 := 8#32
  let v22 : BitVec 32 := Scalar.muli v21 c8_i32_4
  let v23 : BitVec 32 := v22
  let v637 : Index := Scalar.indexCast v23
  let c0_239 : Index := 0#32
  ![4, v637.toNat, 0]
def k0_off11 (i : grid0.Coords) : Fin 2 → Nat :=
  let arg0 : BitVec 32 := BitVec.ofNat 32 (i 0).val
  let v674 : Index := Scalar.indexCast arg0
  let c4_253 : Index := 4#32
  ![v674.toNat, 4]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S24 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x5x64x320 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5x24x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x24x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x5x64x320 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S5x24x320 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x24x320 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S24x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S24x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S24x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S24x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x20x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== StreamRefIdeal.lean ====
abbrev S24 : Shape := ⟨1, ![24]⟩
abbrev S24x32x128 : Shape := ⟨3, ![24, 32, 128]⟩
abbrev S24x32 : Shape := ⟨2, ![24, 32]⟩
abbrev S24x5x320x64 : Shape := ⟨4, ![24, 5, 320, 64]⟩
abbrev S24x5x320 : Shape := ⟨3, ![24, 5, 320]⟩
abbrev S24x8x128 : Shape := ⟨3, ![24, 8, 128]⟩
abbrev S24x8 : Shape := ⟨2, ![24, 8]⟩
abbrev S24x1 : Shape := ⟨2, ![24, 1]⟩
abbrev S24x5 : Shape := ⟨2, ![24, 5]⟩
abbrev S120x1x1 : Shape := ⟨3, ![120, 1, 1]⟩
abbrev S24x20x128 : Shape := ⟨3, ![24, 20, 128]⟩
abbrev S120x4x128 : Shape := ⟨3, ![120, 4, 128]⟩
abbrev S120x320x64 : Shape := ⟨3, ![120, 320, 64]⟩
abbrev S120x1x320 : Shape := ⟨3, ![120, 1, 320]⟩
abbrev S24x5x128 : Shape := ⟨3, ![24, 5, 128]⟩
abbrev S120x1x128 : Shape := ⟨3, ![120, 1, 128]⟩
abbrev S120x4 : Shape := ⟨2, ![120, 4]⟩
abbrev S120x4x1 : Shape := ⟨3, ![120, 4, 1]⟩
abbrev S120x4x64 : Shape := ⟨3, ![120, 4, 64]⟩
abbrev S120x4x320 : Shape := ⟨3, ![120, 4, 320]⟩

abbrev nBuf : Space → Nat
  | .hbm => 39
  | .vmem => 15
  | .smem => 0
  | _ => 0

abbrev bufTy : (tb : Table) → Fin (tcTables nBuf tb) → BufTy
  | .hbm, ⟨0, _⟩ => ⟨S24, .i32⟩
  | .hbm, ⟨1, _⟩ => ⟨S24x32x128, .f32⟩
  | .hbm, ⟨2, _⟩ => ⟨S24x32, .f32⟩
  | .hbm, ⟨3, _⟩ => ⟨S24x5x320x64, .i8⟩
  | .hbm, ⟨4, _⟩ => ⟨S24x5x320, .f32⟩
  | .hbm, ⟨5, _⟩ => ⟨S24x5x320, .f32⟩
  | .hbm, ⟨6, _⟩ => ⟨S24x5x320x64, .i8⟩
  | .hbm, ⟨7, _⟩ => ⟨S24x5x320, .f32⟩
  | .hbm, ⟨8, _⟩ => ⟨S24x5x320, .f32⟩
  | .hbm, ⟨9, _⟩ => ⟨S24x8x128, .f32⟩
  | .hbm, ⟨10, _⟩ => ⟨S24x8, .f32⟩
  | .hbm, ⟨11, _⟩ => ⟨S24x8, .f32⟩
  | .hbm, ⟨12, _⟩ => ⟨S24x8x128, .f32⟩
  | .hbm, ⟨13, _⟩ => ⟨S24x8, .f32⟩
  | .hbm, ⟨14, _⟩ => ⟨S24x8, .f32⟩
  | .hbm, ⟨15, _⟩ => ⟨S24x1, .i32⟩
  | .hbm, ⟨16, _⟩ => ⟨S24x5, .i32⟩
  | .hbm, ⟨17, _⟩ => ⟨S120x1x1, .i32⟩
  | .hbm, ⟨18, _⟩ => ⟨S24x20x128, .f32⟩
  | .hbm, ⟨19, _⟩ => ⟨S120x4x128, .f32⟩
  | .hbm, ⟨20, _⟩ => ⟨S120x320x64, .i8⟩
  | .hbm, ⟨21, _⟩ => ⟨S120x1x320, .f32⟩
  | .hbm, ⟨22, _⟩ => ⟨S120x1x320, .f32⟩
  | .hbm, ⟨23, _⟩ => ⟨S120x320x64, .i8⟩
  | .hbm, ⟨24, _⟩ => ⟨S120x1x320, .f32⟩
  | .hbm, ⟨25, _⟩ => ⟨S120x1x320, .f32⟩
  | .hbm, ⟨26, _⟩ => ⟨S24x5x128, .f32⟩
  | .hbm, ⟨27, _⟩ => ⟨S120x1x128, .f32⟩
  | .hbm, ⟨28, _⟩ => ⟨S24x5, .f32⟩
  | .hbm, ⟨29, _⟩ => ⟨S120x1x1, .f32⟩
  | .hbm, ⟨30, _⟩ => ⟨S24x5, .f32⟩
  | .hbm, ⟨31, _⟩ => ⟨S120x1x1, .f32⟩
  | .hbm, ⟨32, _⟩ => ⟨S24x5x128, .f32⟩
  | .hbm, ⟨33, _⟩ => ⟨S120x1x128, .f32⟩
  | .hbm, ⟨34, _⟩ => ⟨S24x5, .f32⟩
  | .hbm, ⟨35, _⟩ => ⟨S120x1x1, .f32⟩
  | .hbm, ⟨36, _⟩ => ⟨S24x5, .f32⟩
  | .hbm, ⟨37, _⟩ => ⟨S120x1x1, .f32⟩
  | .hbm, ⟨38, _⟩ => ⟨S24x20x128, .f32⟩
  | .local _ .vmem, ⟨0, _⟩ => ⟨S120x1x1, .i32⟩
  | .local _ .vmem, ⟨1, _⟩ => ⟨S120x4x128, .f32⟩
  | .local _ .vmem, ⟨2, _⟩ => ⟨S120x320x64, .i8⟩
  | .local _ .vmem, ⟨3, _⟩ => ⟨S120x1x320, .f32⟩
  | .local _ .vmem, ⟨4, _⟩ => ⟨S120x1x320, .f32⟩
  | .local _ .vmem, ⟨5, _⟩ => ⟨S120x320x64, .i8⟩
  | .local _ .vmem, ⟨6, _⟩ => ⟨S120x1x320, .f32⟩
  | .local _ .vmem, ⟨7, _⟩ => ⟨S120x1x320, .f32⟩
  | .local _ .vmem, ⟨8, _⟩ => ⟨S120x1x128, .f32⟩
  | .local _ .vmem, ⟨9, _⟩ => ⟨S120x1x1, .f32⟩
  | .local _ .vmem, ⟨10, _⟩ => ⟨S120x1x1, .f32⟩
  | .local _ .vmem, ⟨11, _⟩ => ⟨S120x1x128, .f32⟩
  | .local _ .vmem, ⟨12, _⟩ => ⟨S120x1x1, .f32⟩
  | .local _ .vmem, ⟨13, _⟩ => ⟨S120x1x1, .f32⟩
  | .local _ .vmem, ⟨14, _⟩ => ⟨S24x20x128, .f32⟩
  | _, _ => ⟨S24, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S120x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S120x4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S120x320x64 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S120x1x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S120x1x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S120x320x64 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S120x1x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S120x1x320 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S120x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S120x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S120x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S120x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S120x1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S120x1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S24x20x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.OprojKit.lean ====
/-
  Hand-written, untrusted. What the runs of the output projection's body are stated over: its branch condition over the grid
  points and the staging and scratch memrefs.
-/
module

public import proofs.«01_k».proof.Proof.Gen.OprojIdeal.Frame
public import proofs.«01_k».proof.Proof.Gen.OprojIdeal.Launch
public import proofs.«01_k».proof.Proof.Gen.OprojIdeal.Skeleton
public import proofs.«01_k».proof.Proof.Gen.OprojIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.OprojIdeal.Hand

open Idealize.ShloMosaic Idealize.ShloMosaic.TcCoe Idealize.ShloMosaic.Tactic Cert.OprojIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, k0_cond1, e0]
    word_cmp
   : ∀ t : Fin grid0.N, cond0_0 (grid0.coords t) ↔ t.val % 4 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S24x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S24x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S24x4096 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S24x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S24x1024 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S24x4096 .bf16 := Memref.whole cc0_scratch0
abbrev scM0_1 : Memref sig .tc .vmem S24x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.OprojIdeal.Hand

end
-- ==== Proof.Common.lean ====
/-
  Hand-written, untrusted. Loads and stores of whole buffers and of unit-stride windows, at shapes written out in literals.
-/
module

public import Idealize.ShloMosaic.Lib.VecWindow
public import Idealize.ShloMosaic.Lib.Pipeline.FrameBody
public import Idealize.ShloMosaic.Lib.WritesUnit
public import Idealize.ShloMosaic.Lib.ValueIdxCore

@[expose] public section

noncomputable section

namespace Cert.Common

open Idealize.ShloMosaic

variable {sig : RefSig} {κ : Kind} {sp : Space} {e : EltTy} {Val : EltTy → Type} {n m : ℕ}

/-- After a store of the whole of a rank-2 buffer the buffer reads the payload. -/
theorem read_writes_full2 (v : View sig κ sp ⟨2, ![n, m]⟩ e) (f : v.ty.Contents Val) (off : Fin 2 → ℕ) (inb : ∀ a, off a + (![n, m] : Fin 2 → ℕ) a ≤ (![n, m] : Fin 2 → ℕ) a)
    (w : (Rect.unit (s := ⟨2, ![n, m]⟩) off ![n, m] inb).shape.Idx → Val e) (L : List (View.Piece Val ⟨2, ![n, m]⟩ e)) :
    v.read Val (v.writes Val f (⟨Rect.unit off ![n, m] inb, w⟩ :: L)) = w :=
  View.read_writes_full v f inb w L

/-- A load of the whole of a rank-2 buffer reads its contents. -/
theorem readAt_full2 (v : View sig κ sp ⟨2, ![n, m]⟩ e) (f : v.ty.Contents Val) (off : Fin 2 → ℕ) (inb : ∀ a, off a + (![n, m] : Fin 2 → ℕ) a ≤ (![n, m] : Fin 2 → ℕ) a) :
    v.readAt Val (Rect.unit (s := ⟨2, ![n, m]⟩) off ![n, m] inb).toLoadRect f = v.read Val f :=
  View.readAt_full v f inb

/-- A load of any unit-stride window reads that window of the contents. -/
theorem readAt_window {s : Shape} (v : View sig κ sp s e) (f : v.ty.Contents Val) (off size : Fin s.rank → ℕ) (inb : ∀ a, off a + size a ≤ s.size a) :
    v.readAt Val (Rect.unit off size inb).toLoadRect f = VecWindow.window (v.read Val f) off size inb := rfl

/-- The window of a rank-2 array that is all of it is the array. -/
theorem window_full2 {α : Type} (x : (⟨2, ![n, m]⟩ : Shape).Idx → α) (off : Fin 2 → ℕ) (inb : ∀ a, off a + (![n, m] : Fin 2 → ℕ) a ≤ (![n, m] : Fin 2 → ℕ) a) :
    VecWindow.window (s := ⟨2, ![n, m]⟩) x off ![n, m] inb = x := by
  funext y
  refine congrArg x (funext fun a => Fin.ext ?_)
  have h := inb a
  have h0 : off a = 0 := by omega
  simp [h0]

/-- A load of the whole of a rank-2 buffer after a store of the whole reads the payload. -/
theorem readCov_full2 [∀ e, Nonempty (Val e)] (v : View sig κ sp ⟨2, ![n, m]⟩ e) (off off' : Fin 2 → ℕ) (inb : ∀ a, off a + (![n, m] : Fin 2 → ℕ) a ≤ (![n, m] : Fin 2 → ℕ) a)
    (inb' : ∀ a, off' a + (![n, m] : Fin 2 → ℕ) a ≤ (![n, m] : Fin 2 → ℕ) a)
    (w : (Rect.unit (s := ⟨2, ![n, m]⟩) off' ![n, m] inb').shape.Idx → Val e) (L : List (View.Piece Val ⟨2, ![n, m]⟩ e)) :
    v.readCov (⟨Rect.unit off' ![n, m] inb', w⟩ :: L) (Rect.unit (s := ⟨2, ![n, m]⟩) off ![n, m] inb).toLoadRect = w :=
  View.readCov_full v inb inb' w L

/-- A load of any unit-stride window after a store of the whole of a rank-2 buffer reads that window of the payload. -/
theorem readCov_window2 [∀ e, Nonempty (Val e)] (v : View sig κ sp ⟨2, ![n, m]⟩ e) (off off' size : Fin 2 → ℕ) (inb : ∀ a, off a + size a ≤ (![n, m] : Fin 2 → ℕ) a)
    (inb' : ∀ a, off' a + (![n, m] : Fin 2 → ℕ) a ≤ (![n, m] : Fin 2 → ℕ) a)
    (w : (Rect.unit (s := ⟨2, ![n, m]⟩) off' ![n, m] inb').shape.Idx → Val e) (L : List (View.Piece Val ⟨2, ![n, m]⟩ e)) :
    v.readCov (⟨Rect.unit off' ![n, m] inb', w⟩ :: L) (Rect.unit (s := ⟨2, ![n, m]⟩) off size inb).toLoadRect = VecWindow.window (s := ⟨2, ![n, m]⟩) w off size inb := by
  show v.readAt Val _ (v.writes Val v.junk _) = _
  rw [readAt_window, read_writes_full2]

/-- After a store of row `k` of the middle axis of a rank-3 buffer, that row reads the payload and the others what they read before. -/
theorem read_row3 {p : ℕ} (v : View sig κ sp ⟨3, ![n, m, p]⟩ e) (f : v.ty.Contents Val) (k : ℕ)
    (inb : ∀ a, (![0, k, 0] : Fin 3 → ℕ) a + (![n, 1, p] : Fin 3 → ℕ) a ≤ (![n, m, p] : Fin 3 → ℕ) a)
    (w : (Rect.unit (s := ⟨3, ![n, m, p]⟩) ![0, k, 0] ![n, 1, p] inb).shape.Idx → Val e) (L : List (View.Piece Val ⟨3, ![n, m, p]⟩ e))
    (r : Fin n) (h : Fin m) (l : Fin p) :
    v.read Val (v.writes Val f (⟨Rect.unit ![0, k, 0] ![n, 1, p] inb, w⟩ :: L)) (ValueIdx.ix3 r h l)
      = if h.val = k then w (ValueIdx.ix3 r (0 : Fin 1) l) else v.read Val (v.writes Val f L) (ValueIdx.ix3 r h l) := by
  by_cases hk : h.val = k
  · rw [if_pos hk]
    refine View.read_writes_cons_unit_of_mem v f inb w L _ (ValueIdx.ix3 r (0 : Fin 1) l) rfl fun a => ?_
    fin_cases a
    · exact (Nat.zero_add _).symm
    · exact hk
    · exact (Nat.zero_add _).symm
  · rw [if_neg hk]
    refine View.read_writes_cons_unit_of_not_mem v f inb w L _ rfl (1 : Fin 3) ?_
    show h.val < k ∨ k + 1 ≤ h.val
    omega

/-- After a store of column `k` of a rank-2 buffer, that column reads the payload and the others what they read before. -/
theorem read_col2 (v : View sig κ sp ⟨2, ![n, m]⟩ e) (f : v.ty.Contents Val) (k : ℕ)
    (inb : ∀ a, (![0, k] : Fin 2 → ℕ) a + (![n, 1] : Fin 2 → ℕ) a ≤ (![n, m] : Fin 2 → ℕ) a)
    (w : (Rect.unit (s := ⟨2, ![n, m]⟩) ![0, k] ![n, 1] inb).shape.Idx → Val e) (L : List (View.Piece Val ⟨2, ![n, m]⟩ e))
    (r : Fin n) (h : Fin m) :
    v.read Val (v.writes Val f (⟨Rect.unit ![0, k] ![n, 1] inb, w⟩ :: L)) (ValueIdx.ix2 r h)
      = if h.val = k then w (ValueIdx.ix2 r (0 : Fin 1)) else v.read Val (v.writes Val f L) (ValueIdx.ix2 r h) := by
  by_cases hk : h.val = k
  · rw [if_pos hk]
    refine View.read_writes_cons_unit_of_mem v f inb w L _ (ValueIdx.ix2 r (0 : Fin 1)) rfl fun a => ?_
    fin_cases a
    · exact (Nat.zero_add _).symm
    · exact hk
  · rw [if_neg hk]
    refine View.read_writes_cons_unit_of_not_mem v f inb w L _ rfl (1 : Fin 2) ?_
    show h.val < k ∨ k + 1 ≤ h.val
    omega

end Cert.Common
end
-- ==== Proof.OprojRuns.lean ====
/-
  Hand-written, untrusted. The runs of the output projection's body with the contents of every buffer named.
-/
module

public import proofs.«01_k».proof.Proof.OprojKit
public import proofs.«01_k».proof.Proof.Common
public import Idealize.ShloMosaic.Lib.VecWindow
public import proofs.«01_k».proof.Proof.Gen.OprojIdeal.Frame
public import proofs.«01_k».proof.Proof.Gen.OprojIdeal.Launch
public import proofs.«01_k».proof.Proof.Gen.OprojIdeal.Skeleton
public import proofs.«01_k».proof.Proof.Gen.OprojIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.OprojIdeal.Hand

open Idealize.ShloMosaic Idealize.ShloMosaic.TcCoe Idealize.ShloMosaic.Tactic Cert.OprojIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The output block from the codes, their sums, their scales and the blocks of the inputs. -/
def outBlk (codes : Vec F S24x4096 .bf16) (asum : Vec F S24x128 .f32) (sc : Vec F S24x1 .f32) (x1 : Vec F S24x1024 .bf16) (x2 : Vec F S2048x1024 .i8)
    (x3 x4 : Vec F S1x1024 .f32) : Vec F S24x1024 .bf16 :=
  k0_pay1 (k0_pay8 x2 (VecWindow.window codes ![0, 0] S24x2048.size inb_S24x4096_S24x2048_0_0)
    (VecWindow.window codes ![0, 2048] S24x2048.size inb_S24x4096_S24x2048_0_2048) x4
    (VecWindow.window asum ![0, 0] S24x1.size inb_S24x128_S24x1_0_0) sc x3) x1

set_option maxHeartbeats 1000000 in
/-- The body at the first grid point: the attention row codes, their scales, and the two scratch buffers are written from the
    attention block, and the output block is computed from them. -/
theorem run_first (c : Dev nD) (i : grid0.Coords) (arg1 : Memref sig .tc .vmem S24x4096 .f32) (harg1 : arg1.IsWhole) (arg2 : Memref sig .tc .vmem S24x1024 .bf16) (harg2 : arg2.IsWhole) (arg3 : Memref sig .tc .vmem S2048x1024 .i8) (harg3 : arg3.IsWhole) (arg4 : Memref sig .tc .vmem S1x1024 .f32) (harg4 : arg4.IsWhole) (arg5 : Memref sig .tc .vmem S1x1024 .f32) (harg5 : arg5.IsWhole) (arg6 : Memref sig .tc .vmem S24x4096 .i8) (harg6 : arg6.IsWhole) (arg7 : Memref sig .tc .vmem S24x1 .f32) (harg7 : arg7.IsWhole) (arg8 : Memref sig .tc .vmem S24x1024 .bf16) (harg8 : arg8.IsWhole) (arg9 : Memref sig .tc .vmem S24x4096 .bf16) (harg9 : arg9.IsWhole) (arg10 : Memref sig .tc .vmem S24x128 .f32) (harg10 : arg10.IsWhole) (hc0 : cond0_0 i)
    (x0 : Vec F S24x4096 .f32) (x1 : Vec F S24x1024 .bf16) (x2 : Vec F S2048x1024 .i8) (x3 : Vec F S1x1024 .f32) (x4 : Vec F S1x1024 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay7 x0) ∗ owns (c : Thread nD τ) arg7 fullShare (k0_pay3 x0) ∗ owns (c : Thread nD τ) arg8 fullShare (outBlk (k0_pay5 x0) (k0_pay6 x0) (k0_pay3 x0) x1 x2 x3 x4) ∗ owns (c : Thread nD τ) arg9 fullShare (k0_pay5 x0) ∗ owns (c : Thread nD τ) arg10 fullShare (k0_pay6 x0)) -∗ K ⟨⟩))
        ⊢ wp frame (wpE (defs₀ (F := F)) Variants.none c none) E (cc0_oproj i arg1 harg1 arg2 harg2 arg3 harg3 arg4 harg4 arg5 harg5 arg6 harg6 arg7 harg7 arg8 harg8 arg9 harg9 arg10 harg10) K := by
  intro E K
  simp only [cc0_oproj_eq_skeleton]; unfold cc0_oproj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; (sl_unfold_words; simp only [Common.read_writes_full2, Common.readAt_full2, Common.readCov_full2, Common.readCov_window2, Common.readAt_window, Common.window_full2, outBlk, Memref.IsWhole.read_unread, *]; skip)
  isplitl [H6]
  · iexists _; isplitr; swap; · iexact H6
    ipureintro; (sl_unfold_words; simp only [Common.read_writes_full2, Common.readAt_full2, Common.readCov_full2, Common.readCov_window2, Common.readAt_window, Common.window_full2, outBlk, Memref.IsWhole.read_unread, *]; skip)
  isplitl [H7]
  · iexists _; isplitr; swap; · iexact H7
    ipureintro; (sl_unfold_words; simp only [Common.read_writes_full2, Common.readAt_full2, Common.readCov_full2, Common.readCov_window2, Common.readAt_window, Common.window_full2, outBlk, Memref.IsWhole.read_unread, *]; skip)
  isplitl [HS0]
  · iexists _; isplitr; swap; · iexact HS0
    ipureintro; (sl_unfold_words; simp only [Common.read_writes_full2, Common.readAt_full2, Common.readCov_full2, Common.readCov_window2, Common.readAt_window, Common.window_full2, outBlk, Memref.IsWhole.read_unread, *]; skip)
  · iexists _; isplitr; swap; · iexact HS1
    ipureintro; (sl_unfold_words; simp only [Common.read_writes_full2, Common.readAt_full2, Common.readCov_full2, Common.readCov_window2, Common.readAt_window, Common.window_full2, outBlk, Memref.IsWhole.read_unread, *]; skip)

set_option maxHeartbeats 1000000 in
/-- The body at a later grid point: codes, scales and scratch are read and left as found, and the output block is computed from them. -/
theorem run_later (c : Dev nD) (i : grid0.Coords) (arg1 : Memref sig .tc .vmem S24x4096 .f32) (harg1 : arg1.IsWhole) (arg2 : Memref sig .tc .vmem S24x1024 .bf16) (harg2 : arg2.IsWhole) (arg3 : Memref sig .tc .vmem S2048x1024 .i8) (harg3 : arg3.IsWhole) (arg4 : Memref sig .tc .vmem S1x1024 .f32) (harg4 : arg4.IsWhole) (arg5 : Memref sig .tc .vmem S1x1024 .f32) (harg5 : arg5.IsWhole) (arg6 : Memref sig .tc .vmem S24x4096 .i8) (harg6 : arg6.IsWhole) (arg7 : Memref sig .tc .vmem S24x1 .f32) (harg7 : arg7.IsWhole) (arg8 : Memref sig .tc .vmem S24x1024 .bf16) (harg8 : arg8.IsWhole) (arg9 : Memref sig .tc .vmem S24x4096 .bf16) (harg9 : arg9.IsWhole) (arg10 : Memref sig .tc .vmem S24x128 .f32) (harg10 : arg10.IsWhole) (hc0 : ¬ cond0_0 i)
    (x0 : Vec F S24x4096 .f32) (x1 : Vec F S24x1024 .bf16) (x2 : Vec F S2048x1024 .i8) (x3 : Vec F S1x1024 .f32) (x4 : Vec F S1x1024 .f32)
    (y5 : Vec F S24x4096 .i8) (y6 : Vec F S24x1 .f32) (s0 : Vec F S24x4096 .bf16) (s1 : Vec F S24x128 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ (∃ d, owns (c : Thread nD τ) arg8 fullShare d) ∗ owns (c : Thread nD τ) arg9 fullShare s0 ∗ owns (c : Thread nD τ) arg10 fullShare s1
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ owns (c : Thread nD τ) arg8 fullShare (outBlk s0 s1 y6 x1 x2 x3 x4) ∗ owns (c : Thread nD τ) arg9 fullShare s0 ∗ owns (c : Thread nD τ) arg10 fullShare s1) -∗ K ⟨⟩))
        ⊢ wp frame (wpE (defs₀ (F := F)) Variants.none c none) E (cc0_oproj i arg1 harg1 arg2 harg2 arg3 harg3 arg4 harg4 arg5 harg5 arg6 harg6 arg7 harg7 arg8 harg8 arg9 harg9 arg10 harg10) K := by
  intro E K
  simp only [cc0_oproj_eq_skeleton]; unfold cc0_oproj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; assumption
  isplitl [H6]
  · iexists _; isplitr; swap; · iexact H6
    ipureintro; assumption
  isplitl [H7]
  · iexists _; isplitr; swap; · iexact H7
    ipureintro; (sl_unfold_words; simp only [Common.read_writes_full2, Common.readAt_full2, Common.readCov_full2, Common.readCov_window2, Common.readAt_window, Common.window_full2, outBlk, Memref.IsWhole.read_unread, *]; skip)
  isplitl [HS0]
  · iexists _; isplitr; swap; · iexact HS0
    ipureintro; assumption
  · iexists _; isplitr; swap; · iexact HS1
    ipureintro; assumption

end Cert.OprojIdeal.Hand
end
-- ==== Proof.CommonPipe.lean ====
/-
  Hand-written, untrusted. Pipeline proof data with some windows held to a predicate: what a kept window is found to hold, and what the
  arrays hold after the run.
-/
module

public import Idealize.ShloMosaic.Lib.Pipeline.DatRel
public import Idealize.ShloMosaic.Lib.Pipeline.ArrRel

@[expose] public section

noncomputable section

namespace Cert.Common

open Idealize.ShloMosaic Idealize.ShloMosaic.Pipeline Idealize.ShloMosaic.TcCoe
open Idealize.SL Idealize.SL.RA

variable {nD : Nat} {τ : Topo} {sig : RefSig} {Val : EltTy → Type} {Λ₀ : Idealize.SL.Sem.Labels}
variable {Ix : Type} [DecidableEq Ix] {Name : Type} [DecidableEq Name] {U : Type} [URA U] {Lvl : Type}
variable {cfg : Cfg sig Λ₀} {c : Dev nD} (dat : Dat τ Val Ix Name U Lvl cfg c)
variable {fgt : Fin cfg.W → Bool} {Rl : (w : Fin cfg.W) → Fin cfg.N → ((cfg.win w).block.Idx → Val (cfg.win w).elt) → Prop}

/-- A marked output window that the point before did not write back is found holding what the predicate says of that point. -/
theorem rel_of_finds {w : Fin cfg.W} (h : fgt w = true) (hout : (cfg.win w).isOut = true) (t : Fin cfg.N) (ht : t.val ≠ 0)
    (hfl : (cfg.win w).flush ⟨t.val - 1, Nat.lt_of_le_of_lt (Nat.sub_le _ _) t.isLt⟩ = false) {Y}
    (hY : (dat.toRRel fgt Rl).Finds w t Y) : Rl w ⟨t.val - 1, Nat.lt_of_le_of_lt (Nat.sub_le _ _) t.isLt⟩ Y := by
  rw [RDat.finds_of_pos _ ((cfg.win w).fetch_out hout t) ht] at hY
  rcases hY with hf | hL
  · rw [hfl] at hf; exact absurd hf Bool.false_ne_true
  · exact dat.toRRel_leaves h hL

/-- An unmarked window's array holds what the exact data name. -/
theorem toRRel_arrAt_iff [∀ e, Nonempty (Val e)] {w : Fin cfg.W} (h : fgt w = false) (t : Nat)
    (G : Buf Val ((cfg.win w).arr.view.loc (c.tc : Thread nD τ))) : (dat.toRRel fgt Rl).ArrAt w t G ↔ G = dat.arrAt w t :=
  (dat.toR.override_arrAt (by simp only [h]) t G).trans (dat.toR_arrAt_iff w t G)

/-- A marked output window whose one write-back covers its array: the array holds, element by element, some contents that meet the predicate
    at the point of the write-back. -/
theorem arr_of_rel [∀ e, Nonempty (Val e)] {w : Fin cfg.W} (h : fgt w = true) {G : Buf Val ((cfg.win w).arr.view.loc (c.tc : Thread nD τ))}
    (hG : (dat.toRRel fgt Rl).ArrAt w cfg.N G) (t₀ : Fin cfg.N) (hw : (cfg.win w).WholeAt t₀) :
    ∃ X, Rl w t₀ X ∧ ∀ j : (cfg.win w).shape.Idx,
      G ((cfg.win w).arr.view.emb j) = _root_.cast (congrArg Val (cfg.win w).arr.view.elt_eq.symm) (X fun a => ⟨j a, hw.lt_size j a⟩) := by
  obtain ⟨X, hX, hj⟩ := RDat.ArrAt.emb_eq_of_wholeAt hG hw
  exact ⟨X, dat.toRRel_leaves h hX, hj⟩

end Cert.Common
end
-- ==== Proof.OprojFrame.lean ====
/-
  Hand-written, untrusted. The output projection's pipeline with its contents named: the proof data, the body obligation, the run
  and the frame. The row codes and their scales (windows 5, 6) are stored at the first point and kept; the output block (window 7)
  is stored at every point.
-/
module

public import proofs.«01_k».proof.Proof.OprojRuns
public import proofs.«01_k».proof.Proof.CommonPipe
public import Idealize.ShloMosaic.Lib.Pipeline.DatRel
public import Idealize.ShloMosaic.Lib.Pipeline.ArrRel
public import Idealize.ShloMosaic.Lib.Claim

@[expose] public section

-- membership in a rectangle of production extents (`View.cover_of_tiled`): the elaborator's structural look
-- recurses once per coordinate of the long axes
set_option maxRecDepth 16384

noncomputable section

namespace Cert.OprojIdeal.Hand

open Idealize.ShloMosaic Idealize.ShloMosaic.TcCoe Idealize.ShloMosaic.Tactic Cert.OprojIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The attention rows as the first point finds them: all of them, the window being the whole array. -/
abbrev rows (c : Dev nD) : Vec F S24x4096 .f32 := iblk m c 0 t0_0

/-- The output block of point `t`. -/
def blkOut (c : Dev nD) (t : Fin cfg0.N) : Vec F S24x1024 .bf16 :=
  outBlk (k0_pay5 (rows m c)) (k0_pay6 (rows m c)) (k0_pay3 (rows m c)) (iblk m c 1 t) (iblk m c 2 t) (iblk m c 3 t) (iblk m c 4 t)

/-- What the invariant says of the scratch: anything before the first point, the codes and their sums afterwards. -/
def Phi (c : Dev nD) (n : ℕ) : sProp 𝕄 :=
  if n = 0 then Pipeline.ΦA spec0 c
  else iprop(iprop(owns (c : Thread nD τ) scM0_0 fullShare (k0_pay5 (rows m c)) ∗ owns (c : Thread nD τ) scM0_1 fullShare (k0_pay6 (rows m c))) ∗ (∃ r, prngReg c r))

/-- The windows held to a predicate: the row codes and the scales. -/
def marked : Fin 8 → Bool := fun w => w.val == 5 || w.val == 6

/-- What the marked windows hold after every point. -/
def Rl (c : Dev nD) : (w : Fin cfg0.W) → Fin cfg0.N → ((cfg0.win w).block.Idx → Elt F (cfg0.win w).elt) → Prop
  | ⟨5, _⟩ => fun _ X => X = k0_pay7 (rows m c)
  | ⟨6, _⟩ => fun _ X => X = k0_pay3 (rows m c)
  | _ => fun _ _ => True

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay7 (rows m c)
    | ⟨6, _⟩ => k0_pay3 (rows m c)
    | ⟨7, _⟩ => blkOut m c t
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_7 (c : Dev nD) (t : Fin cfg0.N) : (dats m 0 c).after 7 t = blkOut m c t := by dsimp only [dats]

/-- The relational reading of the proof data. -/
abbrev rdats (c : Dev nD) : Pipeline.RDat τ (Elt F) Unit ℕ (UR sig nD τ) ℕ cfg0 c := (dats m 0 c).toRRel marked (Rl m c)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜(rdats m c).Finds 5 t Y⌝ ∗ owns (c : Thread nD τ) (ms0_5 t) fullShare Y)
    ∗ (∃ Y, ⌜(rdats m c).Finds 6 t Y⌝ ∗ owns (c : Thread nD τ) (ms0_6 t) fullShare Y)
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, ⌜Rl m c 5 t X⌝ ∗ owns (c : Thread nD τ) (ms0_5 t) fullShare X)
    ∗ (∃ X, ⌜Rl m c 6 t X⌝ ∗ owns (c : Thread nD τ) (ms0_6 t) fullShare X)
    ∗ owns (c : Thread nD τ) (ms0_7 t) fullShare ((dats m 0 c).after 7 t))

/-- After the first point the kept windows are found as the point before left them. -/
theorem finds5 (c : Dev nD) (t : Fin cfg0.N) (h : t.val % 4 ≠ 0) (Y) (hY : (rdats m c).Finds 5 t Y) : Y = k0_pay7 (rows m c) :=
  Common.rel_of_finds (dats m 0 c) (w := 5) rfl rfl t (by omega) (by
    have hN : t.val < 4 := lt_of_lt_of_eq t.isLt (show cfg0.N = 4 from N_0)
    rw [Bool.eq_false_iff]; intro hf; have := (flush0_5 _).mp hf; dsimp only at this; omega) hY
theorem finds6 (c : Dev nD) (t : Fin cfg0.N) (h : t.val % 4 ≠ 0) (Y) (hY : (rdats m c).Finds 6 t Y) : Y = k0_pay3 (rows m c) :=
  Common.rel_of_finds (dats m 0 c) (w := 6) rfl rfl t (by omega) (by
    have hN : t.val < 4 := lt_of_lt_of_eq t.isLt (show cfg0.N = 4 from N_0)
    rw [Bool.eq_false_iff]; intro hf; have := (flush0_6 _).mp hf; dsimp only at this; omega) hY

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, after0_0, after0_1, after0_2, after0_3, after0_4, after0_7]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  have hN : t.val < 4 := lt_of_lt_of_eq t.isLt (show cfg0.N = 4 from N_0)
  rw [show Phi m c (t.val + 1) = _ from if_neg (Nat.succ_ne_zero _)]
  by_cases h0 : t.val % 4 = 0
  · have ht : t = t0_0 := Fin.ext (by show t.val = 0; omega)
    rw [show Phi m c t.val = _ from if_pos (by omega), PhiA0_eq]
    iintro ⟨⟨⟨HS0, HS1⟩, Hg⟩, Ho, ⟨%d0, H0⟩, ⟨%d1, H1⟩, ⟨%d2, H2⟩, ⟨%d3, H3⟩, ⟨%d4, H4⟩, ⟨%d5, -, H5⟩, ⟨%d6, -, H6⟩, ⟨%d7, H7⟩⟩
    iapply ((run_first c (grid0.coords t) _ _ _ _ _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    subst ht
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; rfl
    isplitl [H6]
    · iexists _; isplitr; swap; · iexact H6
      ipureintro; rfl
    iexact H7
  · rw [show Phi m c t.val = _ from if_neg (by omega)]
    iintro ⟨⟨⟨HS0, HS1⟩, Hg⟩, Ho, ⟨%d0, H0⟩, ⟨%d1, H1⟩, ⟨%d2, H2⟩, ⟨%d3, H3⟩, ⟨%d4, H4⟩, ⟨%d5, %h5, H5⟩, ⟨%d6, %h6, H6⟩, ⟨%d7, H7⟩⟩
    obtain rfl := finds5 m c t h0 d5 h5
    obtain rfl := finds6 m c t h0 d6 h6
    iapply ((run_later c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t)
      (k0_pay7 (rows m c)) (k0_pay3 (rows m c)) (k0_pay5 (rows m c)) (k0_pay6 (rows m c))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; rfl
    isplitl [H6]
    · iexists _; isplitr; swap; · iexact H6
      ipureintro; rfl
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : Pipeline.BodyObligationRel (dats (F := F) m 0 c) (defs₀ (F := F)) Variants.none () Set.univ marked (Rl m c) := fun t => by
  rw [bigSep_W0, bigSep_W0, defs₀_row]
  exact triple_restated (sound_body m c t) rfl .rfl fun _ => .rfl

/-- Before the first point the invariant is the scratch at anything. -/
theorem phi_in (c : Dev nD) : Pipeline.ΦA spec0 c ⊢ (dats m 0 c).Φ 0 := by
  rw [show (dats m 0 c).Φ 0 = Phi m c 0 from rfl, show Phi m c 0 = _ from if_pos rfl]

/-- After the last point the scratch is given back at what it holds. -/
theorem phi_out (c : Dev nD) : (dats m 0 c).Φ (Fin.last cfg0.N) ⊢ (Pipeline.ΦA spec0 c : sProp 𝕄) := by
  rw [show (dats m 0 c).Φ (Fin.last cfg0.N) = Phi m c cfg0.N from rfl, show Phi m c cfg0.N = _ from if_neg (by rw [show cfg0.N = 4 from N_0]; decide), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The run: every weakly fair execution ends with every array at contents the proof data name, and every semaphore counter at zero. -/
theorem run_main : θ_run defs (onTc (τ := τ) (main (F := F))) (s₀ m ρ) (fun r => (Pipeline.RDat.FramePost (cfgs 0) (fun c => rdats m c) (V m)) r ∧ r.2.sem = fun _ => 0) :=
  Pipeline.RDat.θ_run_frame_track (Q' := _) cfgs (0 : Fin 1) launch0 defs₀ Variants.none (fun c => rdats m c) m ρ main
    (fun c => (body_obligation m c).toRRel) (fun c => (dats m 0 c).share_full fun _ => rfl)
    (fun _ _ => rfl) (V m) (hmain m Variants.none) (A_eq m) (phi_in m) (phi_out m)

/-- What an input window stages, and every array no window stages, is as launched after the run. -/
theorem kept (r : PUnit × MemSt nD τ sig (Elt F)) (h : Pipeline.RDat.FramePost (cfgs 0) (fun c => rdats m c) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (h.arr_in c 2 rfl).trans ((A_eq m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩

/-- The frame: every weakly fair execution ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept m r h.1 c, h.2⟩) (run_main m ρ)

/-- The run with its three result arrays named: the row codes, their scales, and the output array block by block. -/
theorem run_blocks : θ_run defs (onTc (τ := τ) (main (F := F))) ⟨m, fun _ => 0, ρ⟩ fun r => ∀ c : Dev nD,
      r.2.mem ((c : Thread nD τ).loc main_v4_0) = k0_pay7 (rows m c)
      ∧ r.2.mem ((c : Thread nD τ).loc main_v4_1) = k0_pay3 (rows m c)
      ∧ r.2.mem ((c : Thread nD τ).loc main_v4_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨?_, ?_, ?_, kept m r h.1 c⟩) (run_main m ρ)
  · obtain ⟨X, hX, hj⟩ := Common.arr_of_rel (dats m 0 c) (w := 5) rfl ((h.1 c).1 5) t0_3 (by decide +kernel)
    exact funext fun j => (hj j).trans (congrFun hX j)
  · obtain ⟨X, hX, hj⟩ := Common.arr_of_rel (dats m 0 c) (w := 6) rfl ((h.1 c).1 6) t0_3 (by decide +kernel)
    exact funext fun j => (hj j).trans (congrFun hX j)
  · exact (Common.toRRel_arrAt_iff (dats m 0 c) (w := 7) rfl _ _).mp ((h.1 c).1 7)

end Cert.OprojIdeal.Hand

end
-- ==== Proof.OprojRefValue.lean ====
/-
  Hand-written, untrusted. The run of the output projection's reference with its three results named as functions of the arguments.
-/
module

public import proofs.«01_k».proof.Proof.Gen.OprojRefIdeal.Frame
public import Idealize.ShloMosaic.Lib.Pipeline.Value
public import Idealize.ShloMosaic.Lib.Pipeline.ValueKit
public import Idealize.ShloMosaic.Lib.Claim

@[expose] public section

set_option maxRecDepth 16384

noncomputable section

namespace Cert.OprojRefIdeal.Hand

open Cert.OprojRefIdeal Cert.OprojRefIdeal.Gen Idealize.ShloMosaic Idealize.ShloMosaic.TcCoe Idealize.SL.Sem Idealize.ShloMosaic.Tactic
open Idealize.ShloMosaic.Pipeline (Dat)

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v4_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v4_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v4_2) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_v4_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c⟩)
    (run_main m ρ)

/-- The one grid point. -/
def t₀ : Fin cfg0.N := ⟨0, by decide⟩

/-! ## The arrays the region works on, as functions of the arguments -/

/-- The attention rows without their unit axis. -/
theorem V_main_v0 (c : Dev nD) : V m c main_v0 = shapeCast S24x4096 (m ((c : Thread nD τ).loc main_arg0)) shapeCasts_S24x1x4096_S24x4096 := by
  unfold_abbrev_sides; after_results; rfl
/-- The rows of `x` without their unit axis. -/
theorem V_main_v1 (c : Dev nD) : V m c main_v1 = shapeCast S24x4096 (m ((c : Thread nD τ).loc main_arg1)) shapeCasts_S24x1x4096_S24x4096 := by
  unfold_abbrev_sides; after_results; rfl
/-- The weight scales as a row. -/
theorem V_main_v2 (c : Dev nD) : V m c main_v2 = broadcastInDim S1x4096 ![1] bcast_S4096_S1x4096_1 (m ((c : Thread nD τ).loc main_arg3)) := by
  unfold_abbrev_sides; after_results
/-- The weight zeros as a row. -/
theorem V_main_v3 (c : Dev nD) : V m c main_v3 = broadcastInDim S1x4096 ![1] bcast_S4096_S1x4096_1 (m ((c : Thread nD τ).loc main_arg4)) := by
  unfold_abbrev_sides; after_results

/-- Window 0's one block is its whole array. -/
theorem iblk_0 (c : Dev nD) : iblk m c 0 t₀ = V m c main_v0 := by
  funext y
  have e : win0_0.index t₀ = ![0, 0] := by decide +kernel
  blk_simp [iblk]
  refine congrArg (V m c main_v0) ?_
  blk_ext [e]
/-- Window 1's one block is its whole array. -/
theorem iblk_1 (c : Dev nD) : iblk m c 1 t₀ = V m c main_v1 := by
  funext y
  have e : win0_1.index t₀ = ![0, 0] := by decide +kernel
  blk_simp [iblk]
  refine congrArg (V m c main_v1) ?_
  blk_ext [e]
/-- Window 2's one block is its whole array. -/
theorem iblk_2 (c : Dev nD) : iblk m c 2 t₀ = V m c main_arg2 := by
  funext y
  have e : win0_2.index t₀ = ![0, 0] := by decide +kernel
  blk_simp [iblk]
  refine congrArg (V m c main_arg2) ?_
  blk_ext [e]
/-- Window 3's one block is its whole array. -/
theorem iblk_3 (c : Dev nD) : iblk m c 3 t₀ = V m c main_v2 := by
  funext y
  have e : win0_3.index t₀ = ![0, 0] := by decide +kernel
  blk_simp [iblk]
  refine congrArg (V m c main_v2) ?_
  blk_ext [e]
/-- Window 4's one block is its whole array. -/
theorem iblk_4 (c : Dev nD) : iblk m c 4 t₀ = V m c main_v3 := by
  funext y
  have e : win0_4.index t₀ = ![0, 0] := by decide +kernel
  blk_simp [iblk]
  refine congrArg (V m c main_v3) ?_
  blk_ext [e]

theorem hz2 (a b : ℕ) : (![0, 0] : Fin (⟨2, ![a, b]⟩ : Shape).rank → ℕ) = fun _ => 0 := funext fun k => by fin_cases k <;> rfl

/-- The codes of the attention rows. -/
theorem out5_eq (x0 : Vec F S24x4096 .f32) (x1 : Vec F S24x4096 .bf16) (x2 : Vec F S2048x4096 .i8) (x3 x4 : Vec F S1x4096 .f32) :
    out0_5 x0 x1 x2 x3 x4 = k0_pay4 x0 := by
  unfold out0_5
  rw [View.canon_unit_zero (hz2 24 4096), View.ld_unit_zero (hz2 24 4096)]

/-- The scales of the attention rows. -/
theorem out6_eq (x0 : Vec F S24x4096 .f32) (x1 : Vec F S24x4096 .bf16) (x2 : Vec F S2048x4096 .i8) (x3 x4 : Vec F S1x4096 .f32) :
    out0_6 x0 x1 x2 x3 x4 = k0_pay3 x0 := by
  unfold out0_6 k0_pay9
  rw [View.canon_unit_zero (hz2 24 1), View.ld_unit_zero (hz2 24 4096)]

/-- The projected rows added to `x`. -/
theorem out7_eq (x0 : Vec F S24x4096 .f32) (x1 : Vec F S24x4096 .bf16) (x2 : Vec F S2048x4096 .i8) (x3 x4 : Vec F S1x4096 .f32) :
    out0_7 x0 x1 x2 x3 x4 = k0_pay1 (k0_pay3 x0) x3 x4 (k0_pay7 x0 x2) (k0_pay8 x0) x1 := by
  unfold out0_7 k0_pay9
  rw [View.canon_unit_zero (hz2 24 4096), View.ld_unit_zero (hz2 24 4096), View.ld_unit_zero (hz2 24 4096), View.ld_unit_zero (hz2 1 4096),
    View.ld_unit_zero (hz2 1 4096), View.ld_unit_zero (hz2 2048 4096)]
  unfold k0_pay5 k0_pay6
  rw [shapeCast_self, shapeCast_self]

/-- Output window 5's array after the run. -/
theorem final5 (c : Dev nD) : (dats m 0 c).arrAt 5 cfg0.N = k0_pay4 (V m c main_v0) := by
  refine (dats m 0 c).arrAt_eq_of_after_last 5 t₀ (by decide +kernel) _ fun j => ?_
  rw [after0_5, iblk_0, iblk_1, iblk_2, iblk_3, iblk_4, out5_eq]
  rfl

/-- Output window 6's array after the run. -/
theorem final6 (c : Dev nD) : (dats m 0 c).arrAt 6 cfg0.N = k0_pay3 (V m c main_v0) := by
  refine (dats m 0 c).arrAt_eq_of_after_last 6 t₀ (by decide +kernel) _ fun j => ?_
  rw [after0_6, iblk_0, iblk_1, iblk_2, iblk_3, iblk_4, out6_eq]
  rfl

/-- Output window 7's array after the run. -/
theorem final7 (c : Dev nD) : (dats m 0 c).arrAt 7 cfg0.N = k0_pay1 (k0_pay3 (V m c main_v0)) (V m c main_v2) (V m c main_v3) (k0_pay7 (V m c main_v0) (V m c main_arg2)) (k0_pay8 (V m c main_v0)) (V m c main_v1) := by
  refine (dats m 0 c).arrAt_eq_of_after_last 7 t₀ (by decide +kernel) _ fun j => ?_
  rw [after0_7, iblk_0, iblk_1, iblk_2, iblk_3, iblk_4, out7_eq]
  rfl

end Cert.OprojRefIdeal.Hand

end
-- ==== Proof.W4A8.lean ====
/-
  Hand-written, untrusted. The arithmetic shared by the two W4A8 projections: the nibbles of packed weight bytes taken four bytes at a
  time and one byte at a time, and signed eight-bit codes read back as the whole numbers they were rounded to.
-/
module

public import Idealize.ShloMosaic.Lib.BitcastFour
public import Idealize.ShloMosaic.Lib.ValueIdx
public import Idealize.ShloMosaic.Lib.MatmulPlain
public import Idealize.ShloMosaic.Lib.Pipeline.Value
public import Idealize.ShloMosaic.Lib.VecWindow

@[expose] public section

noncomputable section

namespace Cert.Common

open Idealize.ShloMosaic Idealize.ShloMosaic.ValueIdx

/-- The word 0x0F0F0F0F has the low four bits of every byte. -/
theorem mask_getLsbD (q : ℕ) (hq : q < 32) : (252645135#32 : BitVec 32).getLsbD q = decide (q % 8 < 4) := by
  interval_cases q <;> rfl

/-- The byte 15 has its low four bits. -/
theorem fifteen_getLsbD (q : ℕ) (hq : q < 8) : (15#8 : BitVec 8).getLsbD q = decide (q < 4) := by
  interval_cases q <;> rfl

section Bytes

variable {R r n : ℕ} (w : (⟨2, ![R, n]⟩ : Shape).Idx → BitVec 8) (h : (⟨2, ![R, n]⟩ : Shape).Bitcasts 8 ⟨2, ![r, n]⟩ 32)
  (h' : (⟨2, ![r, n]⟩ : Shape).Bitcasts 32 ⟨2, ![R, n]⟩ 8)

/-- A matrix of words read as bytes: bit `q` of the byte at row `a` is bit `8 (a mod 4) + q` of the word at row `a / 4`. -/
theorem bitcast_32_8_getLsbD_ix2 (x : (⟨2, ![r, n]⟩ : Shape).Idx → BitVec 32) (a : Fin R) (l : Fin n) (q : ℕ) (hq : q < 8)
    (p : Fin r) (hp : p.val = a.val / 4) :
    (bitcast ⟨2, ![R, n]⟩ 8 x h' (ix2 a l)).getLsbD q = (x (ix2 p l)).getLsbD (8 * (a.val % 4) + q) := by
  rw [bitcast_getLsbD x h' _ q hq (by decide)]
  have hrow : (⟨2, ![R, n]⟩ : Shape).row (ix2 a l) = a.val := rfl
  have e1 : ((⟨2, ![R, n]⟩ : Shape).row (ix2 a l) * 8 + q) / 32 = p.val := by rw [hrow]; omega
  have e2 : ((⟨2, ![R, n]⟩ : Shape).row (ix2 a l) * 8 + q) % 32 = 8 * (a.val % 4) + q := by rw [hrow]; omega
  rw [e2]
  congr 2
  funext c
  match c with
  | ⟨0, _⟩ => exact Fin.ext ((h'.srcIdx_row _ _ _ ⟨0, Nat.zero_lt_two⟩ rfl).trans e1)
  | ⟨1, _⟩ => exact Fin.ext (h'.srcIdx_other _ _ _ ⟨1, Nat.one_lt_two⟩ (by show ¬ 1 + 2 = 2; omega))

include h in
/-- The words are a quarter of the bytes. -/
theorem rows_eq : r * 4 = R := by
  have := h.2.2 0
  simp at this
  omega

/-- The words masked by 0x0F0F0F0F hold every byte's low nibble. -/
theorem low_nibbles (i : (⟨2, ![R, n]⟩ : Shape).Idx) :
    bitcast ⟨2, ![R, n]⟩ 8 (andi (bitcast ⟨2, ![r, n]⟩ 32 w h) (broadcast ⟨2, ![r, n]⟩ 252645135#32)) h' i = w i &&& 15#8 := by
  have hR := rows_eq h
  obtain ⟨a, l, rfl⟩ : ∃ (a : Fin R) (l : Fin n), i = ix2 a l := ⟨i 0, i 1, eq_ix2 i⟩
  have hlt := a.isLt
  apply BitVec.eq_of_getLsbD_eq
  intro q hq
  rw [bitcast_32_8_getLsbD_ix2 h' _ a l q hq ⟨a.val / 4, by omega⟩ rfl]
  show (bitcast ⟨2, ![r, n]⟩ 32 w h _ &&& 252645135#32).getLsbD _ = _
  rw [BitVec.getLsbD_and, BitVec.getLsbD_and, bitcast_8_32_getLsbD_ix2 w h _ l _ (by omega) a (by show a.val = 4 * (a.val / 4) + _; omega),
    mask_getLsbD _ (by omega), fifteen_getLsbD _ hq]
  congr 2
  · congr 1; omega
  · rw [show (8 * (a.val % 4) + q) % 8 = q by omega]

/-- The words shifted right by four and masked hold every byte's high nibble. -/
theorem high_nibbles (i : (⟨2, ![R, n]⟩ : Shape).Idx) :
    bitcast ⟨2, ![R, n]⟩ 8 (andi (shrsi (bitcast ⟨2, ![r, n]⟩ 32 w h) (broadcast ⟨2, ![r, n]⟩ 4#32))
      (broadcast ⟨2, ![r, n]⟩ 252645135#32)) h' i = w i >>> 4 := by
  have hR := rows_eq h
  obtain ⟨a, l, rfl⟩ : ∃ (a : Fin R) (l : Fin n), i = ix2 a l := ⟨i 0, i 1, eq_ix2 i⟩
  have hlt := a.isLt
  apply BitVec.eq_of_getLsbD_eq
  intro q hq
  rw [bitcast_32_8_getLsbD_ix2 h' _ a l q hq ⟨a.val / 4, by omega⟩ rfl]
  show ((bitcast ⟨2, ![r, n]⟩ 32 w h _).sshiftRight 4 &&& 252645135#32).getLsbD _ = _
  rw [BitVec.getLsbD_and, mask_getLsbD _ (by omega), BitVec.getLsbD_sshiftRight, BitVec.getLsbD_ushiftRight]
  rw [show (8 * (a.val % 4) + q) % 8 = q by omega]
  by_cases h4 : q < 4
  · rw [if_pos (by omega), bitcast_8_32_getLsbD_ix2 w h _ l _ (by omega) a (by show a.val = 4 * (a.val / 4) + _; omega)]
    rw [show (4 + (8 * (a.val % 4) + q)) % 8 = 4 + q by omega]
    simp [h4]; omega
  · have : (w (ix2 a l)).getLsbD (4 + q) = false := BitVec.getLsbD_of_ge _ _ (by omega)
    simp [h4, this]

end Bytes

/-- A byte's low nibble read without sign is the same nibble of the byte widened to a word and read with sign. -/
theorem low_toInt (b : BitVec 8) : ((b.setWidth 32) &&& 15#32).toInt = ((b &&& 15#8).toNat : ℤ) := by
  revert b; decide +kernel

/-- A byte's high nibble read without sign is the same nibble of the byte widened to a word and read with sign. -/
theorem high_toInt (b : BitVec 8) : ((b.setWidth 32).sshiftRight 4).toInt = ((b >>> 4).toNat : ℤ) := by
  revert b; decide +kernel

/-- A quotient rounded to a whole number and clipped to [-127, 127]. -/
def clip127 (x : EReal) : EReal :=
  min (Scalar.sitofp (F := Ideal) .f32 127#32) (max (Scalar.sitofp (F := Ideal) .f32 4294967169#32) (Ideal.liftRound Ideal.roundHalfEven x))

/-- Rounding and clipping of a vector, at an element. -/
theorem clip_at {s : Shape} (q : FVec Ideal s .f32) (i : s.Idx) :
    minimumf (broadcast s (Scalar.sitofp (F := Ideal) .f32 127#32)) (maximumf (broadcast s (Scalar.sitofp (F := Ideal) .f32 4294967169#32)) (roundeven q)) i
      = clip127 (q i) := rfl

/-- Rounding and clipping give a whole number between -127 and 127. -/
theorem clip127_int (x : EReal) : ∃ z : ℤ, -127 ≤ z ∧ z ≤ 127 ∧ clip127 x = ((z : ℝ) : EReal) := by
  have h1 : Scalar.sitofp (F := Ideal) .f32 127#32 = (((127 : ℤ) : ℝ) : EReal) := by
    rw [Ideal.scalar_sitofp_def]; rfl
  have h2 : Scalar.sitofp (F := Ideal) .f32 4294967169#32 = (((-127 : ℤ) : ℝ) : EReal) := by
    rw [Ideal.scalar_sitofp_def]; rfl
  unfold clip127
  rw [h1, h2]
  induction x using EReal.rec with
  | bot => exact ⟨-127, by omega, by omega, by rw [Ideal.liftRound_bot, max_eq_left bot_le]; exact min_eq_right (by exact_mod_cast (by norm_num : (-127 : ℝ) ≤ 127))⟩
  | top => exact ⟨127, by omega, by omega, by rw [Ideal.liftRound_top, max_eq_right le_top]; exact min_eq_left le_top⟩
  | coe r =>
    refine ⟨min 127 (max (-127) (Ideal.roundHalfEven r)), by omega, by omega, ?_⟩
    rw [Ideal.liftRound_coe]
    push_cast
    rw [EReal.coe_strictMono.monotone.map_min, EReal.coe_strictMono.monotone.map_max]
    push_cast
    rfl

/-- An eight-bit code read back is the clipped number it was converted from. -/
theorem code_back (x : EReal) : (((Ideal.fptosi 8 (clip127 x)).toInt : ℝ) : EReal) = clip127 x := by
  obtain ⟨z, hl, hu, he⟩ := clip127_int x
  rw [he, Ideal.fptosi, Ideal.toIntClamped_coe]
  have hz : (if (0 : ℝ) ≤ (z : ℝ) then ⌊(z : ℝ)⌋ else ⌈(z : ℝ)⌉) = z := by split <;> simp
  rw [hz]
  have : max (-((2 ^ (8 - 1) : ℕ) : ℤ)) (min (((2 ^ (8 - 1) : ℕ) : ℤ) - 1) z) = z := by
    norm_num; omega
  rw [this, BitVec.toInt_ofInt_eq_self (by norm_num) (by norm_num; omega) (by norm_num; omega)]

/-! ## Elements of spread rows and columns, of windows and of the two half products -/

section Layout

variable {α : Type} {m n : ℕ}

/-- A row `[1, n]` spread over `m` rows, read at an element. -/
theorem spread_row (x : (⟨2, ![1, n]⟩ : Shape).Idx → α) (h : (⟨2, ![1, n]⟩ : Shape).Broadcasts ⟨2, ![m, n]⟩) (r : Fin m) (j : Fin n) :
    broadcastTo ⟨2, ![m, n]⟩ x h (ix2 r j) = x (ix2 0 j) :=
  broadcastTo_apply x h _ _ fun a => match a with
    | ⟨0, _⟩ => rfl
    | ⟨1, _⟩ => by
      show j.val = if n = 1 then 0 else j.val
      split
      · have := j.isLt; omega
      · rfl

/-- A column `[m, 1]` spread over `n` columns, read at an element. -/
theorem spread_col (x : (⟨2, ![m, 1]⟩ : Shape).Idx → α) (h : (⟨2, ![m, 1]⟩ : Shape).Broadcasts ⟨2, ![m, n]⟩) (r : Fin m) (j : Fin n) :
    broadcastTo ⟨2, ![m, n]⟩ x h (ix2 r j) = x (ix2 r 0) :=
  broadcastTo_apply x h _ _ fun a => match a with
    | ⟨0, _⟩ => by
      show r.val = if m = 1 then 0 else r.val
      split
      · have := r.isLt; omega
      · rfl
    | ⟨1, _⟩ => rfl

/-- A vector `[m]` as a column, read at an element. -/
theorem column (x : (⟨1, ![m]⟩ : Shape).Idx → α) (h : (⟨1, ![m]⟩ : Shape).ShapeCasts ⟨2, ![m, 1]⟩) (r : Fin m) :
    shapeCast ⟨2, ![m, 1]⟩ x h (ix2 r 0) = x (ix1 r) := by
  refine shapeCast_apply x h _ _ ?_
  rw [Shape.rowMajor_val_one, Shape.rowMajor_val_two]
  show r.val = r.val * 1 + 0
  omega

/-- A window of a matrix, read at an element. -/
theorem window_at {a b : ℕ} (x : (⟨2, ![m, n]⟩ : Shape).Idx → α) (off : Fin 2 → ℕ)
    (h : ∀ k, off k + (![a, b] : Fin 2 → ℕ) k ≤ (⟨2, ![m, n]⟩ : Shape).size k) (i : Fin a) (j : Fin b) (i' : Fin m) (j' : Fin n)
    (hi : i'.val = off 0 + i.val) (hj : j'.val = off 1 + j.val) :
    VecWindow.window (s := ⟨2, ![m, n]⟩) x off ![a, b] h (ix2 i j) = x (ix2 i' j') := by
  refine congrArg x (funext fun k => Fin.ext ?_)
  match k with
  | ⟨0, _⟩ => show off 0 + 1 * i.val = i'.val; omega
  | ⟨1, _⟩ => show off 1 + 1 * j.val = j'.val; omega

/-- A slice of a matrix, read at an element. -/
theorem slice_at {a b : ℕ} (x : (⟨2, ![m, n]⟩ : Shape).Idx → α) (off : Fin 2 → ℕ)
    (h : (⟨2, ![m, n]⟩ : Shape).Slices off ⟨2, ![a, b]⟩) (i : Fin a) (j : Fin b) (i' : Fin m) (j' : Fin n)
    (hi : i'.val = off 0 + i.val) (hj : j'.val = off 1 + j.val) :
    extractStridedSlice ⟨2, ![a, b]⟩ off x h (ix2 i j) = x (ix2 i' j') :=
  extractStridedSlice_apply off x h _ _ fun k => match k with
    | ⟨0, _⟩ => hi
    | ⟨1, _⟩ => hj

end Layout

/-- The product of the rows `q` (first half against low nibbles, second half against high nibbles) with column `J` of the packed weights. -/
def halves (q : Fin 4096 → EReal) (W : Fin 2048 → BitVec 8) : EReal :=
  (∑ k : Fin 2048, q ⟨k.val, by omega⟩ * (((W k &&& 15#8).toNat : ℝ) : EReal) : EReal)
    + (∑ k : Fin 2048, q ⟨2048 + k.val, by omega⟩ * (((W k >>> 4).toNat : ℝ) : EReal) : EReal)

section Products

variable {B n : ℕ}

/-- The two half products as the kernel computes them: nibbles taken four bytes at a time and read without sign. -/
theorem kernel_halves (X : FVec Ideal ⟨2, ![B, 4096]⟩ .bf16) (w : IVec ⟨2, ![2048, n]⟩ 8)
    (h : (⟨2, ![2048, n]⟩ : Shape).Bitcasts 8 ⟨2, ![512, n]⟩ 32) (h' : (⟨2, ![512, n]⟩ : Shape).Bitcasts 32 ⟨2, ![2048, n]⟩ 8)
    (w0 : ∀ k, (![0, 0] : Fin 2 → ℕ) k + (![B, 2048] : Fin 2 → ℕ) k ≤ (⟨2, ![B, 4096]⟩ : Shape).size k)
    (w1 : ∀ k, (![0, 2048] : Fin 2 → ℕ) k + (![B, 2048] : Fin 2 → ℕ) k ≤ (⟨2, ![B, 4096]⟩ : Shape).size k) (r : Fin B) (j : Fin n) :
    addf (matmul (DotDims.plain B 2048 n) none (VecWindow.window (s := ⟨2, ![B, 4096]⟩) X ![0, 0] ![B, 2048] w0 : FVec Ideal ⟨2, ![B, 2048]⟩ .bf16)
        (uitofp .bf16 (bitcast ⟨2, ![2048, n]⟩ 8 (andi (bitcast ⟨2, ![512, n]⟩ 32 w h) (broadcast ⟨2, ![512, n]⟩ 252645135#32)) h'))
        (constant ⟨2, ![B, n]⟩ .f32 0x00000000#32))
      (matmul (DotDims.plain B 2048 n) none (VecWindow.window (s := ⟨2, ![B, 4096]⟩) X ![0, 2048] ![B, 2048] w1 : FVec Ideal ⟨2, ![B, 2048]⟩ .bf16)
        (uitofp .bf16 (bitcast ⟨2, ![2048, n]⟩ 8 (andi (shrsi (bitcast ⟨2, ![512, n]⟩ 32 w h) (broadcast ⟨2, ![512, n]⟩ 4#32))
          (broadcast ⟨2, ![512, n]⟩ 252645135#32)) h'))
        (constant ⟨2, ![B, n]⟩ .f32 0x00000000#32)) (ix2 r j)
      = halves (fun k => X (ix2 r k)) (fun k => w (ix2 k j)) := by
  rw [addf_apply]
  simp only [matmul]
  rw [Ideal.matmul_plain_apply, Ideal.matmul_plain_apply]
  unfold halves
  have hz : (constant ⟨2, ![B, n]⟩ .f32 0x00000000#32 : FVec Ideal ⟨2, ![B, n]⟩ .f32) (ix2 r j) = 0 := Ideal.ofBits_zero_f32
  rw [hz]
  refine congrArg₂ (fun a b : EReal => a + b) ((zero_add _).trans ?_) ((zero_add _).trans ?_)
  · refine Finset.sum_congr rfl fun k _ => ?_
    rw [window_at X ![0, 0] w0 r k r ⟨k.val, by omega⟩ (by simp) (by simp)]
    refine congrArg (X (ix2 r ⟨k.val, by omega⟩) * ·) ?_
    show (((bitcast _ 8 _ h' (ix2 k j)).toNat : ℝ) : EReal) = _
    rw [low_nibbles w h h']
  · refine Finset.sum_congr rfl fun k _ => ?_
    rw [window_at X ![0, 2048] w1 r k r ⟨2048 + k.val, by omega⟩ (by simp) (by simp)]
    refine congrArg (X (ix2 r ⟨2048 + k.val, by omega⟩) * ·) ?_
    show (((bitcast _ 8 _ h' (ix2 k j)).toNat : ℝ) : EReal) = _
    rw [high_nibbles w h h']

/-- The two half products as the reference writes them: each byte widened, masked or shifted, and read with sign. -/
theorem reference_halves (X : FVec Ideal ⟨2, ![B, 4096]⟩ .bf16) (w : IVec ⟨2, ![2048, n]⟩ 8) (hw : 8 < 32)
    (s0 : (⟨2, ![B, 4096]⟩ : Shape).Slices ![0, 0] ⟨2, ![B, 2048]⟩) (s1 : (⟨2, ![B, 4096]⟩ : Shape).Slices ![0, 2048] ⟨2, ![B, 2048]⟩) (r : Fin B) (j : Fin n) :
    addf (matmul (DotDims.plain B 2048 n) none (extractStridedSlice ⟨2, ![B, 2048]⟩ ![0, 0] X s0 : FVec Ideal ⟨2, ![B, 2048]⟩ .bf16)
        (sitofp .bf16 (andi (extui 32 w hw) (broadcast ⟨2, ![2048, n]⟩ 15#32)))
        (constant ⟨2, ![B, n]⟩ .f32 0x00000000#32))
      (matmul (DotDims.plain B 2048 n) none (extractStridedSlice ⟨2, ![B, 2048]⟩ ![0, 2048] X s1 : FVec Ideal ⟨2, ![B, 2048]⟩ .bf16)
        (sitofp .bf16 (shrsi (extui 32 w hw) (broadcast ⟨2, ![2048, n]⟩ 4#32)))
        (constant ⟨2, ![B, n]⟩ .f32 0x00000000#32)) (ix2 r j)
      = halves (fun k => X (ix2 r k)) (fun k => w (ix2 k j)) := by
  rw [addf_apply]
  simp only [matmul]
  rw [Ideal.matmul_plain_apply, Ideal.matmul_plain_apply]
  unfold halves
  have hz : (constant ⟨2, ![B, n]⟩ .f32 0x00000000#32 : FVec Ideal ⟨2, ![B, n]⟩ .f32) (ix2 r j) = 0 := Ideal.ofBits_zero_f32
  rw [hz]
  refine congrArg₂ (fun a b : EReal => a + b) ((zero_add _).trans ?_) ((zero_add _).trans ?_)
  · refine Finset.sum_congr rfl fun k _ => ?_
    rw [slice_at X ![0, 0] s0 r k r ⟨k.val, by omega⟩ (by simp) (by simp)]
    refine congrArg (X (ix2 r ⟨k.val, by omega⟩) * ·) ?_
    show ((((w (ix2 k j)).setWidth 32 &&& 15#32).toInt : ℝ) : EReal) = _
    rw [low_toInt]; rfl
  · refine Finset.sum_congr rfl fun k _ => ?_
    rw [slice_at X ![0, 2048] s1 r k r ⟨2048 + k.val, by omega⟩ (by simp) (by simp)]
    refine congrArg (X (ix2 r ⟨2048 + k.val, by omega⟩) * ·) ?_
    show (((((w (ix2 k j)).setWidth 32).sshiftRight 4).toInt : ℝ) : EReal) = _
    rw [high_toInt]; rfl

/-- The product minus the zero points' share, scaled by row and by column, at an element. -/
theorem rescale_at (P : FVec Ideal ⟨2, ![B, n]⟩ .f32) (wz ws : FVec Ideal ⟨2, ![1, n]⟩ .f32) (u sc : FVec Ideal ⟨2, ![B, 1]⟩ .f32)
    (h1 h4 : (⟨2, ![1, n]⟩ : Shape).Broadcasts ⟨2, ![B, n]⟩) (h2 h3 : (⟨2, ![B, 1]⟩ : Shape).Broadcasts ⟨2, ![B, n]⟩) (r : Fin B) (j : Fin n) :
    mulf (mulf (subf P (mulf (broadcastTo ⟨2, ![B, n]⟩ wz h1) (broadcastTo ⟨2, ![B, n]⟩ u h2))) (broadcastTo ⟨2, ![B, n]⟩ sc h3))
      (broadcastTo ⟨2, ![B, n]⟩ ws h4) (ix2 r j)
      = (P (ix2 r j) - wz (ix2 0 j) * u (ix2 r 0)) * sc (ix2 r 0) * ws (ix2 0 j) := by
  rw [mulf_apply, mulf_apply, subf_apply, mulf_apply, spread_row, spread_row, spread_col, spread_col]

end Products

end Cert.Common

end
-- ==== Proof.OprojValue.lean ====
/-
  Hand-written, untrusted. The output projection's results at exact arithmetic: what the kernel's output block holds, element by element,
  is what the reference computes there.
-/
module

public import proofs.«01_k».proof.Proof.OprojFrame
public import proofs.«01_k».proof.Proof.OprojRefValue
public import proofs.«01_k».proof.Proof.W4A8

@[expose] public section

set_option maxRecDepth 16384

noncomputable section

namespace Cert.OprojValue

open Idealize.ShloMosaic hiding ix1 ix2 eq_ix2
open Idealize.ShloMosaic.ValueIdx (ix1 ix2 eq_ix2)
open Cert.Common

/-- The scales: the two programs compute them the same way. -/
theorem scale_eq (A : Vec Ideal OprojIdeal.S24x4096 .f32) : OprojIdeal.Gen.k0_pay3 A = OprojRefIdeal.Gen.k0_pay3 A := rfl

/-- The clipped quotient the kernel keeps, at an element. -/
theorem quotient_at (A : Vec Ideal OprojIdeal.S24x4096 .f32) (r : Fin 24) (k : Fin 4096) :
    OprojIdeal.Gen.k0_pay4 A (ix2 r k) = clip127 (divf (OprojIdeal.Gen.k0_pay2 A) (broadcastTo OprojIdeal.S24x4096 (OprojIdeal.Gen.k0_pay3 A) OprojIdeal.Gen.broadcasts_S24x1_S24x4096) (ix2 r k)) :=
  clip_at _ _

/-- The code of the reference is the clipped quotient converted, at an element. -/
theorem code_at (A : Vec Ideal OprojIdeal.S24x4096 .f32) (r : Fin 24) (k : Fin 4096) :
    OprojRefIdeal.Gen.k0_pay4 A (ix2 r k) = Ideal.fptosi 8 (OprojIdeal.Gen.k0_pay4 A (ix2 r k)) := rfl

/-- The codes the two programs store are the same. -/
theorem codes_eq (A : Vec Ideal OprojIdeal.S24x4096 .f32) : OprojIdeal.Gen.k0_pay7 A = OprojRefIdeal.Gen.k0_pay4 A := rfl

/-- A code of the reference read back is the clipped quotient the kernel keeps. -/
theorem code_value (A : Vec Ideal OprojIdeal.S24x4096 .f32) (r : Fin 24) (k : Fin 4096) :
    (((OprojRefIdeal.Gen.k0_pay4 A (ix2 r k)).toInt : ℝ) : EReal) = OprojIdeal.Gen.k0_pay4 A (ix2 r k) := by
  rw [code_at, quotient_at, code_back]

/-- The codes of the reference read back, as a vector. -/
theorem codes_value (A : Vec Ideal OprojIdeal.S24x4096 .f32) (φ : FTy) :
    (sitofp φ (OprojRefIdeal.Gen.k0_pay4 A) : FVec Ideal OprojIdeal.S24x4096 φ) = (OprojIdeal.Gen.k0_pay4 A : OprojIdeal.S24x4096.Idx → EReal) := by
  funext i
  obtain ⟨r, k, rfl⟩ : ∃ (r : Fin 24) (k : Fin 4096), i = ix2 r k := ⟨i 0, i 1, eq_ix2 i⟩
  exact code_value A r k

/-- The row sums of the codes, which the kernel keeps spread over 128 lanes, are the reference's. -/
theorem sum_at (A : Vec Ideal OprojIdeal.S24x4096 .f32) (r : Fin 24) (l : Fin 128) :
    OprojIdeal.Gen.k0_pay6 A (ix2 r l) = OprojRefIdeal.Gen.k0_pay8 A (ix1 r) := by
  unfold OprojIdeal.Gen.k0_pay6 OprojRefIdeal.Gen.k0_pay8
  rw [codes_value]
  dsimp only
  rw [shapeCast_self, shapeCast_self, spread_col, column]

/-- An element of the kernel's output block is the reference's element of the same row and of the block's column. -/
theorem block_eq (A : Vec Ideal OprojIdeal.S24x4096 .f32) (x1 : Vec Ideal OprojIdeal.S24x1024 .bf16) (x2 : Vec Ideal OprojIdeal.S2048x1024 .i8)
    (x3 x4 : Vec Ideal OprojIdeal.S1x1024 .f32) (x : Vec Ideal OprojRefIdeal.S24x4096 .bf16) (w : Vec Ideal OprojRefIdeal.S2048x4096 .i8)
    (ws wz : Vec Ideal OprojRefIdeal.S1x4096 .f32) (r : Fin 24) (j : Fin 1024) (J : Fin 4096)
    (h1 : x1 (ix2 r j) = x (ix2 r J)) (h2 : ∀ k : Fin 2048, x2 (ix2 k j) = w (ix2 k J))
    (h3 : x3 (ix2 0 j) = ws (ix2 0 J)) (h4 : x4 (ix2 0 j) = wz (ix2 0 J)) :
    OprojIdeal.Hand.outBlk (OprojIdeal.Gen.k0_pay5 A) (OprojIdeal.Gen.k0_pay6 A) (OprojIdeal.Gen.k0_pay3 A) x1 x2 x3 x4 (ix2 r j)
      = OprojRefIdeal.Gen.k0_pay1 (OprojRefIdeal.Gen.k0_pay3 A) ws wz (OprojRefIdeal.Gen.k0_pay7 A w) (OprojRefIdeal.Gen.k0_pay8 A) x (ix2 r J) := by
  unfold OprojIdeal.Hand.outBlk OprojIdeal.Gen.k0_pay1 OprojIdeal.Gen.k0_pay8 OprojRefIdeal.Gen.k0_pay1
  dsimp only
  simp only [shapeCast_self]
  have e1 := kernel_halves (B := 24) (n := 1024) (OprojIdeal.Gen.k0_pay5 A) x2 OprojIdeal.Gen.bitcasts_S2048x1024_w8_S512x1024_w32
    OprojIdeal.Gen.bitcasts_S512x1024_w32_S2048x1024_w8 (by decide) (by decide) r j
  have e2 := reference_halves (B := 24) (n := 4096) (sitofp .bf16 (OprojRefIdeal.Gen.k0_pay4 A)) w OprojRefIdeal.Gen.natLt_8_32
    OprojRefIdeal.Gen.slices_S24x4096_o0_0_S24x2048 OprojRefIdeal.Gen.slices_S24x4096_o0_2048_S24x2048 r J
  have e : OprojRefIdeal.Gen.k0_pay7 A w (ix2 r J) = _ := e2
  rw [codes_value] at e
  have e5 : OprojIdeal.Gen.k0_pay5 A = (OprojIdeal.Gen.k0_pay4 A : OprojIdeal.S24x4096.Idx → EReal) := by
    unfold OprojIdeal.Gen.k0_pay5
    dsimp only
    rw [shapeCast_self]; rfl
  rw [e5] at e1 ⊢
  simp only [h2] at e1
  refine congrArg₂ (fun a b : EReal => a + b) h1 ?_
  refine (rescale_at _ _ _ _ _ _ _ _ _ _ _).trans ((congrArg₂ (fun a b : EReal => a * b) (congrArg₂ (fun a b : EReal => a * b)
    (congrArg₂ (fun a b : EReal => a - b) (e1.trans e.symm) ?_) rfl) h3).trans (rescale_at _ _ _ _ _ _ _ _ _ _ _).symm)
  rw [window_at _ _ _ r 0 r 0 (by simp) (by simp), sum_at, column, h4]

end Cert.OprojValue

end
-- ==== Proof.OprojBits.lean ====
/-
  Hand-written, untrusted. The output projection at bit patterns: it is printed with the text of its idealization, so the frame proved for
  any instance of the floats is its frame too.
-/
module

public import proofs.«01_k».proof.Proof.OprojFrame
public import proofs.«01_k».proof.Proof.Gen.Oproj

@[expose] public section

set_option maxRecDepth 16384
noncomputable section

namespace Cert.OprojSame
open Idealize.ShloMosaic Idealize.ShloMosaic.TcCoe Idealize.SL.Sem
variable {F : FTy → Type} [FloatOps F]

/-- The two texts of the kernel's body are one. -/
theorem body_eq : @Oproj.cc0_oproj F _ _ = @OprojIdeal.cc0_oproj F _ _ := rfl

/-- So are the tables of bodies. -/
theorem defs₀_eq : (Oproj.defs₀ (F := F)) = (OprojIdeal.defs₀ (F := F)) := by
  unfold Oproj.defs₀ OprojIdeal.defs₀
  refine congrArg Defs.onTc ?_
  funext ℓ a
  match ℓ, a with
  | 0, (t, s) => rfl
  | ⟨_ + 1, h⟩, _ => exact absurd h (Nat.not_lt.2 (Nat.le_add_left _ _))

/-- So are the tables with the pipelines' own bodies. -/
theorem defs_eq : (Oproj.defs (F := F)) = (OprojIdeal.defs (F := F)) := by
  unfold Oproj.defs OprojIdeal.defs
  rw [defs₀_eq]
  rfl

/-- So are the two mains. -/
theorem main_eq : (Oproj.main (F := F)) = (OprojIdeal.main (F := F)) := rfl

variable (m : (ℓ : Loc Oproj.nD Oproj.τ Oproj.sig) → Buf (Elt F) ℓ) (ρ : Dev Oproj.nD → PrngReg)

open Oproj in
/-- The frame: every weakly fair execution ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact OprojIdeal.Hand.frame (F := F) m ρ

end Cert.OprojSame
end
-- ==== Proof.OprojFinal.lean ====
/-
  Hand-written, untrusted. The output projection and its reference run to equal results from equal arguments.
-/
module

public import proofs.«01_k».proof.Proof.OprojValue
public import proofs.«01_k».proof.Proof.OprojBits
public import proofs.«01_k».proof.Defs

@[expose] public section

set_option maxRecDepth 16384

noncomputable section

namespace Cert.OprojIdeal.Hand

open Cert.OprojIdeal Cert.OprojIdeal.Gen
open Idealize.ShloMosaic hiding ix1 ix2 eq_ix2
open Idealize.ShloMosaic.ValueIdx (ix1 ix2 eq_ix2)
open Idealize.ShloMosaic.TcCoe Idealize.SL.Sem Idealize.ShloMosaic.Tactic
open Idealize.ShloMosaic.Pipeline (Dat)

section Arrays

variable {F : FTy → Type} [FloatOps F]
variable (m : (ℓ : Loc nD τ sig) → Buf (Elt F) ℓ)

/-- The attention rows without their unit axis. -/
theorem V_main_v0 (c : Dev nD) : V m c main_v0 = shapeCast S24x4096 (m ((c : Thread nD τ).loc main_arg0)) shapeCasts_S24x1x4096_S24x4096 := by
  unfold_abbrev_sides; after_results; rfl
/-- The rows of `x` without their unit axis. -/
theorem V_main_v1 (c : Dev nD) : V m c main_v1 = shapeCast S24x4096 (m ((c : Thread nD τ).loc main_arg1)) shapeCasts_S24x1x4096_S24x4096 := by
  unfold_abbrev_sides; after_results; rfl
/-- The weight scales as a row. -/
theorem V_main_v2 (c : Dev nD) : V m c main_v2 = broadcastInDim S1x4096 ![1] bcast_S4096_S1x4096_1 (m ((c : Thread nD τ).loc main_arg3)) := by
  unfold_abbrev_sides; after_results
/-- The weight zeros as a row. -/
theorem V_main_v3 (c : Dev nD) : V m c main_v3 = broadcastInDim S1x4096 ![1] bcast_S4096_S1x4096_1 (m ((c : Thread nD τ).loc main_arg4)) := by
  unfold_abbrev_sides; after_results

theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)
theorem idx7 : ∀ t : Fin cfg0.N, win0_7.index t = ![0, t.val] := (by decide +kernel : ∀ t : Fin grid0.N, _)

/-- Column `j` of block `t` as a column of the whole array. -/
def col (t : Fin cfg0.N) (j : Fin 1024) : Fin 4096 := ⟨t.val * 1024 + j.val, by have h : t.val < 4 := t.isLt; omega⟩

/-- The block of the attention rows is all of them. -/
theorem rows_eq (c : Dev nD) : rows m c = V m c main_v0 := by
  funext y
  have e : win0_0.index t0_0 = ![0, 0] := by decide +kernel
  unfold rows
  blk_simp [iblk]
  refine congrArg (V m c main_v0) ?_
  blk_ext [e]
theorem iblk1_at (c : Dev nD) (t : Fin cfg0.N) (r : Fin 24) (j : Fin 1024) : iblk m c 1 t (ix2 r j) = V m c main_v1 (ix2 r (col t j)) := by
  have e := idx1 t
  blk_simp [iblk]
  refine congrArg (V m c main_v1) ?_
  unfold col
  blk_ext [e]
theorem iblk2_at (c : Dev nD) (t : Fin cfg0.N) (r : Fin 2048) (j : Fin 1024) : iblk m c 2 t (ix2 r j) = V m c main_arg2 (ix2 r (col t j)) := by
  have e := idx2 t
  blk_simp [iblk]
  refine congrArg (V m c main_arg2) ?_
  unfold col
  blk_ext [e]
theorem iblk3_at (c : Dev nD) (t : Fin cfg0.N) (r : Fin 1) (j : Fin 1024) : iblk m c 3 t (ix2 r j) = V m c main_v2 (ix2 r (col t j)) := by
  have e := idx3 t
  blk_simp [iblk]
  refine congrArg (V m c main_v2) ?_
  unfold col
  blk_ext [e]
theorem iblk4_at (c : Dev nD) (t : Fin cfg0.N) (r : Fin 1) (j : Fin 1024) : iblk m c 4 t (ix2 r j) = V m c main_v3 (ix2 r (col t j)) := by
  have e := idx4 t
  blk_simp [iblk]
  refine congrArg (V m c main_v3) ?_
  unfold col
  blk_ext [e]

end Arrays

/-- The output array after the run is the reference's expression of the arrays the region works on. -/
theorem final7 (m : (ℓ : Loc nD τ sig) → Buf (Elt Ideal) ℓ) (c : Dev nD) : (dats m 0 c).arrAt 7 cfg0.N
    = OprojRefIdeal.Gen.k0_pay1 (OprojRefIdeal.Gen.k0_pay3 (V m c main_v0)) (V m c main_v2) (V m c main_v3)
        (OprojRefIdeal.Gen.k0_pay7 (V m c main_v0) (V m c main_arg2)) (OprojRefIdeal.Gen.k0_pay8 (V m c main_v0)) (V m c main_v1) := by
  refine (dats m 0 c).arrAt_eq_of_covers 7 _ (by decide +kernel) fun t hf y => ?_
  blk_simp
  rw [after0_7]
  obtain ⟨r, j, rfl⟩ : ∃ (r : Fin 24) (j : Fin 1024), y = ix2 r j := ⟨y 0, y 1, eq_ix2 y⟩
  have e := idx7 t
  have he : ((win0_7.blk t).view.emb (ix2 r j)) = ix2 r (col t j) := by
    unfold col
    blk_ext [e]
  refine Eq.trans ?_ (congrArg _ he.symm)
  unfold blkOut
  rw [rows_eq]
  exact OprojValue.block_eq _ _ _ _ _ _ _ _ _ r j (col t j) (iblk1_at m c t r j) (fun k => iblk2_at m c t k j) (iblk3_at m c t 0 j) (iblk4_at m c t 0 j)

end Cert.OprojIdeal.Hand

namespace Cert.OprojFinal

open Idealize.ShloMosaic Idealize.ShloMosaic.TcCoe Idealize.SL.Sem Idealize.ShloMosaic.Tactic

/-- The frame of the kernel at bit patterns. -/
theorem quiescent_oproj : Cert.quiescent_Oproj (hOproj := Cert.Oproj.Gen.facts) := fun m g _ => Cert.OprojSame.frame m g

/-- The frame of the kernel at exact arithmetic. -/
theorem quiescent_oprojIdeal : Cert.quiescent_OprojIdeal (hOprojIdeal := Cert.OprojIdeal.Gen.facts) := fun m g _ => Cert.OprojIdeal.Hand.frame m g

/-- The frame of the reference. -/
theorem quiescent_oprojRef : Cert.quiescent_OprojRefIdeal (hOprojRefIdeal := Cert.OprojRefIdeal.Gen.facts) := fun m g _ => Cert.OprojRefIdeal.Gen.frame m g

/-- The kernel and its reference end with equal codes, scales and projected rows. -/
theorem algebraic : Cert.algebraic_OprojIdeal_OprojRefIdeal (hOprojIdeal := Cert.OprojIdeal.Gen.facts) (hOprojRefIdeal := Cert.OprojRefIdeal.Gen.facts) := by
  intro m g m' g' _ hagree
  have e0 : ∀ c, OprojRefIdeal.Gen.V m' c OprojRefIdeal.main_v0 = OprojIdeal.Gen.V m c OprojIdeal.main_v0 := fun c => by
    rw [OprojRefIdeal.Hand.V_main_v0, OprojIdeal.Hand.V_main_v0, (hagree c).1]
  have e1 : ∀ c, OprojRefIdeal.Gen.V m' c OprojRefIdeal.main_v1 = OprojIdeal.Gen.V m c OprojIdeal.main_v1 := fun c => by
    rw [OprojRefIdeal.Hand.V_main_v1, OprojIdeal.Hand.V_main_v1, (hagree c).2.1]
  have e2 : ∀ c, OprojRefIdeal.Gen.V m' c OprojRefIdeal.main_arg2 = OprojIdeal.Gen.V m c OprojIdeal.main_arg2 := fun c => by
    rw [OprojRefIdeal.Gen.V_main_arg2, OprojIdeal.Gen.V_main_arg2, (hagree c).2.2.1]
  have e3 : ∀ c, OprojRefIdeal.Gen.V m' c OprojRefIdeal.main_v2 = OprojIdeal.Gen.V m c OprojIdeal.main_v2 := fun c => by
    rw [OprojRefIdeal.Hand.V_main_v2, OprojIdeal.Hand.V_main_v2, (hagree c).2.2.2.1]
  have e4 : ∀ c, OprojRefIdeal.Gen.V m' c OprojRefIdeal.main_v3 = OprojIdeal.Gen.V m c OprojIdeal.main_v3 := fun c => by
    rw [OprojRefIdeal.Hand.V_main_v3, OprojIdeal.Hand.V_main_v3, (hagree c).2.2.2.2]
  refine ⟨fun c => OprojIdeal.Gen.k0_pay7 (OprojIdeal.Hand.rows m c), fun c => OprojIdeal.Gen.k0_pay3 (OprojIdeal.Hand.rows m c),
    fun c => (OprojIdeal.Hand.dats m 0 c).arrAt 7 OprojIdeal.cfg0.N, OprojIdeal.Hand.run_blocks m g, ?_⟩
  refine (θ_run OprojRefIdeal.defs _ _).mono (fun r h c => ?_) (OprojRefIdeal.Hand.run_blocks m' g')
  obtain ⟨h0, h1, h2, hk⟩ := h c
  refine ⟨h0.trans ?_, h1.trans ?_, h2.trans ?_, hk⟩
  · rw [OprojRefIdeal.Hand.final5, e0]
    show _ = OprojIdeal.Gen.k0_pay7 (OprojIdeal.Hand.rows m c)
    rw [OprojIdeal.Hand.rows_eq]
    exact (OprojValue.codes_eq _).symm
  · rw [OprojRefIdeal.Hand.final6, e0]
    show _ = OprojIdeal.Gen.k0_pay3 (OprojIdeal.Hand.rows m c)
    rw [OprojIdeal.Hand.rows_eq]
    exact (OprojValue.scale_eq _).symm
  · rw [OprojRefIdeal.Hand.final7, e0, e1, e2, e3, e4]
    exact (OprojIdeal.Hand.final7 m c).symm

end Cert.OprojFinal

end
-- ==== Proof.QkvKit.lean ====
/-
  Hand-written, untrusted. What the runs of the QKV projection's body are stated over: its branch conditions over the grid
  points and the staging and scratch memrefs.
-/
module

public import proofs.«01_k».proof.Proof.Gen.QkvIdeal.Frame
public import proofs.«01_k».proof.Proof.Gen.QkvIdeal.Launch
public import proofs.«01_k».proof.Proof.Gen.QkvIdeal.Skeleton
public import proofs.«01_k».proof.Proof.Gen.QkvIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.QkvIdeal.Hand

open Idealize.ShloMosaic Idealize.ShloMosaic.TcCoe Idealize.ShloMosaic.Tactic Cert.QkvIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_1, k0_cond2, e0]
    word_cmp
   : ∀ t : Fin grid0.N, cond0_1 (grid0.coords t) ↔ t.val % 6 = 0)

/-- The condition of the body's `scf.if` 2 (`k0_h3`), from the grid coordinates (the skeleton's scalar
    chain substituted). -/
abbrev cond0_2 (i : grid0.Coords) : Prop := k0_cond3 i = 1#1
/-- It holds at point 1 only — by arithmetic of the point. -/
theorem hcond0_2 : ∀ t : Fin cfg0.N, cond0_2 (grid0.coords t) ↔ t.val % 6 = 1 :=
  (fun t => by
    have ht : t.val < 6 := Nat.lt_of_lt_of_eq t.isLt N_0
    have e0 : (grid0.coords t 0).val = t.val / 1 % 6 := Pipeline.Grid.coords_val t 0 (by decide) rfl
    simp only [cond0_2, k0_cond3, e0]
    word_cmp
   : ∀ t : Fin grid0.N, cond0_2 (grid0.coords t) ↔ t.val % 6 = 1)

/-- The condition of the body's `scf.if` 3 (`k0_h4`), from the grid coordinates (the skeleton's scalar
    chain substituted). -/
abbrev cond0_3 (i : grid0.Coords) : Prop := k0_cond4 i = 1#1
/-- It holds at point 2 only — by arithmetic of the point. -/
theorem hcond0_3 : ∀ t : Fin cfg0.N, cond0_3 (grid0.coords t) ↔ t.val % 6 = 2 :=
  (fun t => by
    have ht : t.val < 6 := Nat.lt_of_lt_of_eq t.isLt N_0
    have e0 : (grid0.coords t 0).val = t.val / 1 % 6 := Pipeline.Grid.coords_val t 0 (by decide) rfl
    simp only [cond0_3, k0_cond4, e0]
    word_cmp
   : ∀ t : Fin grid0.N, cond0_3 (grid0.coords t) ↔ t.val % 6 = 2)

/-- The condition of the body's `scf.if` 4 (`k0_h5`), from the grid coordinates (the skeleton's scalar
    chain substituted). -/
abbrev cond0_4 (i : grid0.Coords) : Prop := k0_cond5 i = 1#1
/-- It holds at point 3 only — by arithmetic of the point. -/
theorem hcond0_4 : ∀ t : Fin cfg0.N, cond0_4 (grid0.coords t) ↔ t.val % 6 = 3 :=
  (fun t => by
    have ht : t.val < 6 := Nat.lt_of_lt_of_eq t.isLt N_0
    have e0 : (grid0.coords t 0).val = t.val / 1 % 6 := Pipeline.Grid.coords_val t 0 (by decide) rfl
    simp only [cond0_4, k0_cond5, e0]
    word_cmp
   : ∀ t : Fin grid0.N, cond0_4 (grid0.coords t) ↔ t.val % 6 = 3)

/-- The condition of the body's `scf.if` 5 (`k0_h6`), from the grid coordinates (the skeleton's scalar
    chain substituted). -/
abbrev cond0_5 (i : grid0.Coords) : Prop := k0_cond6 i = 1#1
/-- It holds at point 4 only — by arithmetic of the point. -/
theorem hcond0_5 : ∀ t : Fin cfg0.N, cond0_5 (grid0.coords t) ↔ t.val % 6 = 4 :=
  (fun t => by
    have ht : t.val < 6 := Nat.lt_of_lt_of_eq t.isLt N_0
    have e0 : (grid0.coords t 0).val = t.val / 1 % 6 := Pipeline.Grid.coords_val t 0 (by decide) rfl
    simp only [cond0_5, k0_cond6, e0]
    word_cmp
   : ∀ t : Fin grid0.N, cond0_5 (grid0.coords t) ↔ t.val % 6 = 4)

/-- The condition of the body's `scf.if` 6 (`k0_h7`), from the grid coordinates (the skeleton's scalar
    chain substituted). -/
abbrev cond0_6 (i : grid0.Coords) : Prop := k0_cond7 i = 1#1
/-- It holds at the last point only — by arithmetic of the point. -/
theorem hcond0_6 : ∀ t : Fin cfg0.N, cond0_6 (grid0.coords t) ↔ t.val % 6 = 5 :=
  (fun t => by
    have ht : t.val < 6 := Nat.lt_of_lt_of_eq t.isLt N_0
    have e0 : (grid0.coords t 0).val = t.val / 1 % 6 := Pipeline.Grid.coords_val t 0 (by decide) rfl
    simp only [cond0_6, k0_cond7, e0]
    word_cmp
   : ∀ t : Fin grid0.N, cond0_6 (grid0.coords t) ↔ t.val % 6 = 5)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S24x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S24x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S24x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S24x4096 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S24x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S24x32x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x24x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S12x8x24x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S24x32 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S24x8x128 .i32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S24x8x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S24x8 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S24x8 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S24x8x128 .i32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S24x8x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S24x8 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S24x8 .f32 := win0_20.stage (cfg0.slots t 20)
abbrev hs0_20 (t : Fin cfg0.N) : (ms0_20 t).IsWhole := hstage0_20 ((cfg0.slots t 20).cast nbuf0_20)
/-- The scratch operands: whole scoped buffers of the kernel's own, passed beside the windows. -/
abbrev scM0_0 : Memref sig .tc .vmem S24x4096 .bf16 := Memref.whole cc0_scratch0
abbrev scM0_1 : Memref sig .tc .vmem S24x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.QkvIdeal.Hand

end
-- ==== Proof.QkvSpec.lean ====
/-
  Hand-written, untrusted. The values the QKV projection's body stores, as functions of what it loads: one tile's 1024 columns of the
  product, a head's 128 columns of a tile, the rotary embedding of a head, and the minimum, scale and packed codes of a head's rows.
-/
module

public import proofs.«01_k».proof.Proof.QkvKit
public import proofs.«01_k».proof.Proof.Common
public import Idealize.ShloMosaic.Lib.VecWindow
public import proofs.«01_k».proof.Proof.Gen.QkvIdeal.Frame
public import proofs.«01_k».proof.Proof.Gen.QkvIdeal.Launch
public import proofs.«01_k».proof.Proof.Gen.QkvIdeal.Skeleton
public import proofs.«01_k».proof.Proof.Gen.QkvIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.QkvIdeal.Hand

open Idealize.ShloMosaic Idealize.ShloMosaic.TcCoe Idealize.ShloMosaic.Tactic Cert.QkvIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One tile's columns of the product, from the row codes, their sums, their scales and the tile's blocks. -/
def yTile (codes : Vec F S24x4096 .bf16) (xsum : Vec F S24x128 .f32) (sc : Vec F S24x1 .f32) (x2 : Vec F S2048x1024 .i8) (x3 x4 : Vec F S1x1024 .f32) :
    FVec F S24x1024 .f32 :=
  k0_pay358 x2 (VecWindow.window codes ![0, 0] S24x2048.size inb_S24x4096_S24x2048_0_0)
    (VecWindow.window codes ![0, 2048] S24x2048.size inb_S24x4096_S24x2048_0_2048) x4
    (VecWindow.window xsum ![0, 0] S24x1.size inb_S24x128_S24x1_0_0) sc x3

theorem slices_head : ∀ i : Fin 8, S24x1024.Slices ![0, 128 * i.val] S24x128 := by decide

/-- Head `i` of a tile: its 128 columns. -/
def head (y : FVec F S24x1024 .f32) (i : Fin 8) : FVec F S24x128 .f32 :=
  extractStridedSlice S24x128 ![0, 128 * i.val] y (slices_head i)

/-- The rotary embedding of one head, from the doubled cosines and the doubled sines whose first half is negated. -/
def rope (c s : FVec F S24x128 .f32) (v : FVec F S24x128 .f32) : FVec F S24x128 .f32 :=
  addf (mulf v c) (mulf (dynamicRotate 1 64#32 none v rotates_S24x128_d1) s)

/-- The least element of each row of a head. -/
def low (v : FVec F S24x128 .f32) : FVec F S24x1 .f32 :=
  shapeCast S24x1 (multiReduction .minimumf [1] S24 v 0x7F800000#32 reduces_S24x128_S24 (.inl rfl) rfl) shapeCasts_S24_S24x1

/-- The greatest element of each row of a head. -/
def high (v : FVec F S24x128 .f32) : FVec F S24x1 .f32 :=
  shapeCast S24x1 (multiReduction .maximumf [1] S24 v 0xFF800000#32 reduces_S24x128_S24 (.inl rfl) rfl) shapeCasts_S24_S24x1

/-- The scale of each row of a head: its range over 15, or 1. -/
def step (v : FVec F S24x128 .f32) : FVec F S24x1 .f32 :=
  select (cmpf .ogt (high v) (low v)) (divf (subf (high v) (low v)) (broadcast S24x1 (Scalar.ofBits .f32 0x41700000#32)))
    (broadcast S24x1 (Scalar.ofBits .f32 0x3F800000#32))

/-- The four-bit code of each element of a head, as a float. -/
def code (v : FVec F S24x128 .f32) : FVec F S24x128 .f32 :=
  minimumf (broadcast S24x128 (Scalar.sitofp .f32 15#32)) (maximumf (broadcast S24x128 (Scalar.sitofp .f32 0#32))
    (roundeven (divf (subf v (broadcastTo S24x128 (low v) broadcasts_S24x1_S24x128)) (broadcastTo S24x128 (step v) broadcasts_S24x1_S24x128))))

/-- Each code with the code of the opposite half above it. -/
def packed (v : FVec F S24x128 .f32) : IVec S24x128 32 :=
  ori (fptosi 32 (code v)) (shli (dynamicRotate 1 64#32 none (fptosi 32 (code v)) rotates_S24x128_d1) (broadcast S24x128 4#32))

/-- A head's rows as a slab of the head axis. -/
abbrev slab {α : Type} (v : S24x128.Idx → α) : S24x1x128.Idx → α := shapeCast S24x1x128 v shapeCasts_S24x128_S24x1x128

open Idealize.ShloMosaic.ValueIdx (ix2 ix3)

/-- A buffer of query heads holds tile `n`'s eight heads. -/
def RowsAt (n : ℕ) (hn : n < 4) (y : FVec F S24x1024 .f32) (c s : FVec F S24x128 .f32) (X : Vec F S24x32x128 .f32) : Prop :=
  ∀ (i : Fin 8) (r : Fin 24) (l : Fin 128), X (ix3 r (⟨8 * n + i.val, by omega⟩ : Fin 32) l) = slab (rope c s (head y i)) (ix3 r (0 : Fin 1) l)

/-- A buffer of query heads holds, in the heads before tile `n`, what another holds. -/
def SameBelow (n : ℕ) (Y X : Vec F S24x32x128 .f32) : Prop :=
  ∀ (h : Fin 32), h.val < 8 * n → ∀ (r : Fin 24) (l : Fin 128), X (ix3 r h l) = Y (ix3 r h l)

/-- A buffer of packed codes holds those of eight heads. -/
def CodesAt (v : Fin 8 → FVec F S24x128 .f32) (X : Vec F S24x8x128 .i32) : Prop :=
  ∀ (i : Fin 8) (r : Fin 24) (l : Fin 128), X (ix3 r i l) = slab (packed (v i)) (ix3 r (0 : Fin 1) l)

/-- A buffer of one number a row and head holds those of eight heads. -/
def ColsAt (v : Fin 8 → FVec F S24x1 .f32) (X : Vec F S24x8 .f32) : Prop :=
  ∀ (i : Fin 8) (r : Fin 24), X (ix2 r i) = v i (ix2 r (0 : Fin 1))

end Cert.QkvIdeal.Hand
end
-- ==== Proof.QkvRunA.lean ====
/-
  Hand-written, untrusted. One run of the QKV projection's body with the contents of the buffers it fills named.
-/
module

public import proofs.«01_k».proof.Proof.QkvSpec
public import proofs.«01_k».proof.Proof.Gen.QkvIdeal.Frame
public import proofs.«01_k».proof.Proof.Gen.QkvIdeal.Launch
public import proofs.«01_k».proof.Proof.Gen.QkvIdeal.Skeleton
public import proofs.«01_k».proof.Proof.Gen.QkvIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.QkvIdeal.Hand

open Idealize.ShloMosaic Idealize.ShloMosaic.TcCoe Idealize.ShloMosaic.Tactic Cert.QkvIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first grid point: the row codes, their scales and the scratch are written, and the first eight query heads. -/
theorem run_A (c : Dev nD) (i : grid0.Coords) (arg1 : Memref sig .tc .vmem S24x4096 .bf16) (harg1 : arg1.IsWhole) (arg2 : Memref sig .tc .vmem S1x4096 .f32) (harg2 : arg2.IsWhole) (arg3 : Memref sig .tc .vmem S2048x1024 .i8) (harg3 : arg3.IsWhole) (arg4 : Memref sig .tc .vmem S1x1024 .f32) (harg4 : arg4.IsWhole) (arg5 : Memref sig .tc .vmem S1x1024 .f32) (harg5 : arg5.IsWhole) (arg6 : Memref sig .tc .vmem S24x64 .f32) (harg6 : arg6.IsWhole) (arg7 : Memref sig .tc .vmem S24x64 .f32) (harg7 : arg7.IsWhole) (arg8 : Memref sig .tc .vmem S24x4096 .i8) (harg8 : arg8.IsWhole) (arg9 : Memref sig .tc .vmem S24x1 .f32) (harg9 : arg9.IsWhole) (arg10 : Memref sig .tc .vmem S24x32x128 .f32) (harg10 : arg10.IsWhole) (arg11 : Memref sig .tc .vmem S3x24x512 .f32) (harg11 : arg11.IsWhole) (arg12 : Memref sig .tc .vmem S12x8x24x128 .f32) (harg12 : arg12.IsWhole) (arg13 : Memref sig .tc .vmem S24x32 .f32) (harg13 : arg13.IsWhole) (arg14 : Memref sig .tc .vmem S24x8x128 .i32) (harg14 : arg14.IsWhole) (arg15 : Memref sig .tc .vmem S24x8x128 .f32) (harg15 : arg15.IsWhole) (arg16 : Memref sig .tc .vmem S24x8 .f32) (harg16 : arg16.IsWhole) (arg17 : Memref sig .tc .vmem S24x8 .f32) (harg17 : arg17.IsWhole) (arg18 : Memref sig .tc .vmem S24x8x128 .i32) (harg18 : arg18.IsWhole) (arg19 : Memref sig .tc .vmem S24x8x128 .f32) (harg19 : arg19.IsWhole) (arg20 : Memref sig .tc .vmem S24x8 .f32) (harg20 : arg20.IsWhole) (arg21 : Memref sig .tc .vmem S24x8 .f32) (harg21 : arg21.IsWhole) (arg22 : Memref sig .tc .vmem S24x4096 .bf16) (harg22 : arg22.IsWhole) (arg23 : Memref sig .tc .vmem S24x128 .f32) (harg23 : arg23.IsWhole) (hc0 : cond0_0 i) (hc1 : cond0_1 i) (hc2 : ¬cond0_2 i) (hc3 : ¬cond0_3 i) (hc4 : ¬cond0_4 i) (hc5 : ¬cond0_5 i) (hc6 : ¬cond0_6 i)
    (x0 : Vec F S24x4096 .bf16) (x1 : Vec F S1x4096 .f32) (x2 : Vec F S2048x1024 .i8) (x3 : Vec F S1x1024 .f32) (x4 : Vec F S1x1024 .f32) (x5 : Vec F S24x64 .f32) (x6 : Vec F S24x64 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay357 (k0_pay32 x0 x1)) ∗ owns (c : Thread nD τ) arg9 fullShare (k0_pay31 x0 x1) ∗ (∃ X, ⌜RowsAt 0 (by decide) (yTile (k0_pay33 x0 x1) (k0_pay356 (k0_pay34 x0 x1)) (k0_pay31 x0 x1) x2 x3 x4) (k0_pay359 x5 x5) (k0_pay360 x6 x6) X⌝ ∗ owns (c : Thread nD τ) arg10 fullShare X) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare (k0_pay33 x0 x1) ∗ owns (c : Thread nD τ) arg23 fullShare (k0_pay356 (k0_pay34 x0 x1))) -∗ K ⟨⟩))
        ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  intro E K
  simp only [cc0_qkv_eq_skeleton]; unfold cc0_qkv_skel
  simp only [k0_part42_eq_skeleton, k0_part1_eq_skeleton, k0_part43_eq_skeleton, k0_part44_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2 | sl_exact hc3 | sl_exact hc4 | sl_exact hc5 | sl_exact hc6)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; sl_unfold_words; simp only [Common.read_writes_full2, Common.readAt_full2, Common.readCov_full2, Common.readCov_window2, Common.readAt_window, Common.window_full2, Memref.IsWhole.read_unread, *]
  isplitl [H9]
  · iexists _; isplitr; swap; · iexact H9
    ipureintro; sl_unfold_words; simp only [Common.read_writes_full2, Common.readAt_full2, Common.readCov_full2, Common.readCov_window2, Common.readAt_window, Common.window_full2, Memref.IsWhole.read_unread, *]
  isplitl [H10]
  · iexists _; isplitr; swap
    · iexists _; isplitr; swap; · iexact H10
      ipureintro; rfl
    ipureintro; intro i r l; sl_unfold_words; simp only [Common.read_writes_full2, Common.readAt_full2, Common.readCov_full2, Common.readCov_window2, Common.readAt_window, Common.window_full2, Memref.IsWhole.read_unread, Common.read_row3, *]; fin_cases i <;> rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _; isplitr; swap; · iexact H22
    ipureintro; sl_unfold_words; simp only [Common.read_writes_full2, Common.readAt_full2, Common.readCov_full2, Common.readCov_window2, Common.readAt_window, Common.window_full2, Memref.IsWhole.read_unread, *]
  · iexists _; isplitr; swap; · iexact H23
    ipureintro; sl_unfold_words; simp only [Common.read_writes_full2, Common.readAt_full2, Common.readCov_full2, Common.readCov_window2, Common.readAt_window, Common.window_full2, Memref.IsWhole.read_unread, *]

end Cert.QkvIdeal.Hand
end
-- ==== Proof.QkvRunB.lean ====
/-
  Hand-written, untrusted. One run of the QKV projection's body with the contents of the buffers it fills named.
-/
module

public import proofs.«01_k».proof.Proof.QkvRunA
public import proofs.«01_k».proof.Proof.Gen.QkvIdeal.Frame
public import proofs.«01_k».proof.Proof.Gen.QkvIdeal.Launch
public import proofs.«01_k».proof.Proof.Gen.QkvIdeal.Skeleton
public import proofs.«01_k».proof.Proof.Gen.QkvIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.QkvIdeal.Hand

open Idealize.ShloMosaic Idealize.ShloMosaic.TcCoe Idealize.ShloMosaic.Tactic Cert.QkvIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the second grid point: eight more query heads are written. -/
theorem run_B (c : Dev nD) (i : grid0.Coords) (arg1 : Memref sig .tc .vmem S24x4096 .bf16) (harg1 : arg1.IsWhole) (arg2 : Memref sig .tc .vmem S1x4096 .f32) (harg2 : arg2.IsWhole) (arg3 : Memref sig .tc .vmem S2048x1024 .i8) (harg3 : arg3.IsWhole) (arg4 : Memref sig .tc .vmem S1x1024 .f32) (harg4 : arg4.IsWhole) (arg5 : Memref sig .tc .vmem S1x1024 .f32) (harg5 : arg5.IsWhole) (arg6 : Memref sig .tc .vmem S24x64 .f32) (harg6 : arg6.IsWhole) (arg7 : Memref sig .tc .vmem S24x64 .f32) (harg7 : arg7.IsWhole) (arg8 : Memref sig .tc .vmem S24x4096 .i8) (harg8 : arg8.IsWhole) (arg9 : Memref sig .tc .vmem S24x1 .f32) (harg9 : arg9.IsWhole) (arg10 : Memref sig .tc .vmem S24x32x128 .f32) (harg10 : arg10.IsWhole) (arg11 : Memref sig .tc .vmem S3x24x512 .f32) (harg11 : arg11.IsWhole) (arg12 : Memref sig .tc .vmem S12x8x24x128 .f32) (harg12 : arg12.IsWhole) (arg13 : Memref sig .tc .vmem S24x32 .f32) (harg13 : arg13.IsWhole) (arg14 : Memref sig .tc .vmem S24x8x128 .i32) (harg14 : arg14.IsWhole) (arg15 : Memref sig .tc .vmem S24x8x128 .f32) (harg15 : arg15.IsWhole) (arg16 : Memref sig .tc .vmem S24x8 .f32) (harg16 : arg16.IsWhole) (arg17 : Memref sig .tc .vmem S24x8 .f32) (harg17 : arg17.IsWhole) (arg18 : Memref sig .tc .vmem S24x8x128 .i32) (harg18 : arg18.IsWhole) (arg19 : Memref sig .tc .vmem S24x8x128 .f32) (harg19 : arg19.IsWhole) (arg20 : Memref sig .tc .vmem S24x8 .f32) (harg20 : arg20.IsWhole) (arg21 : Memref sig .tc .vmem S24x8 .f32) (harg21 : arg21.IsWhole) (arg22 : Memref sig .tc .vmem S24x4096 .bf16) (harg22 : arg22.IsWhole) (arg23 : Memref sig .tc .vmem S24x128 .f32) (harg23 : arg23.IsWhole) (hc0 : ¬cond0_0 i) (hc1 : ¬cond0_1 i) (hc2 : cond0_2 i) (hc3 : ¬cond0_3 i) (hc4 : ¬cond0_4 i) (hc5 : ¬cond0_5 i) (hc6 : ¬cond0_6 i)
    (x0 : Vec F S24x4096 .bf16) (x1 : Vec F S1x4096 .f32) (x2 : Vec F S2048x1024 .i8) (x3 : Vec F S1x1024 .f32) (x4 : Vec F S1x1024 .f32) (x5 : Vec F S24x64 .f32) (x6 : Vec F S24x64 .f32) (y8 : Vec F S24x4096 .i8) (y9 : Vec F S24x1 .f32) (y10 : Vec F S24x32x128 .f32) (y22 : Vec F S24x4096 .bf16) (y23 : Vec F S24x128 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y8 ∗ owns (c : Thread nD τ) arg9 fullShare y9 ∗ owns (c : Thread nD τ) arg10 fullShare y10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare y22 ∗ owns (c : Thread nD τ) arg23 fullShare y23
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y8 ∗ owns (c : Thread nD τ) arg9 fullShare y9 ∗ (∃ X, ⌜RowsAt 1 (by decide) (yTile y22 y23 y9 x2 x3 x4) (k0_pay359 x5 x5) (k0_pay360 x6 x6) X ∧ SameBelow 1 y10 X⌝ ∗ owns (c : Thread nD τ) arg10 fullShare X) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare y22 ∗ owns (c : Thread nD τ) arg23 fullShare y23) -∗ K ⟨⟩))
        ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  intro E K
  simp only [cc0_qkv_eq_skeleton]; unfold cc0_qkv_skel
  simp only [k0_part42_eq_skeleton, k0_part43_eq_skeleton, k0_part44_eq_skeleton, k0_part4_eq_skeleton, k0_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2 | sl_exact hc3 | sl_exact hc4 | sl_exact hc5 | sl_exact hc6)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; assumption
  isplitl [H9]
  · iexists _; isplitr; swap; · iexact H9
    ipureintro; assumption
  isplitl [H10]
  · iexists _; isplitr; swap
    · iexists _; isplitr; swap; · iexact H10
      ipureintro; rfl
    ipureintro; refine ⟨?_, ?_⟩
    · intro i r l; sl_unfold_words; simp only [Common.read_writes_full2, Common.readAt_full2, Common.readCov_full2, Common.readCov_window2, Common.readAt_window, Common.window_full2, Memref.IsWhole.read_unread, Common.read_row3, *]; fin_cases i <;> rfl
    · intro h hh r l; sl_unfold_words
      rw [Common.read_row3, if_neg (by omega), Common.read_row3, if_neg (by omega), Common.read_row3, if_neg (by omega), Common.read_row3, if_neg (by omega), Common.read_row3, if_neg (by omega), Common.read_row3, if_neg (by omega), Common.read_row3, if_neg (by omega), Common.read_row3, if_neg (by omega)]
      exact congrFun hf10 _
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _; isplitr; swap; · iexact H22
    ipureintro; assumption
  · iexists _; isplitr; swap; · iexact H23
    ipureintro; assumption

end Cert.QkvIdeal.Hand
end
-- ==== Proof.QkvRunC.lean ====
/-
  Hand-written, untrusted. One run of the QKV projection's body with the contents of the buffers it fills named.
-/
module

public import proofs.«01_k».proof.Proof.QkvRunB
public import proofs.«01_k».proof.Proof.Gen.QkvIdeal.Frame
public import proofs.«01_k».proof.Proof.Gen.QkvIdeal.Launch
public import proofs.«01_k».proof.Proof.Gen.QkvIdeal.Skeleton
public import proofs.«01_k».proof.Proof.Gen.QkvIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.QkvIdeal.Hand

open Idealize.ShloMosaic Idealize.ShloMosaic.TcCoe Idealize.ShloMosaic.Tactic Cert.QkvIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the third grid point: eight more query heads are written. -/
theorem run_C (c : Dev nD) (i : grid0.Coords) (arg1 : Memref sig .tc .vmem S24x4096 .bf16) (harg1 : arg1.IsWhole) (arg2 : Memref sig .tc .vmem S1x4096 .f32) (harg2 : arg2.IsWhole) (arg3 : Memref sig .tc .vmem S2048x1024 .i8) (harg3 : arg3.IsWhole) (arg4 : Memref sig .tc .vmem S1x1024 .f32) (harg4 : arg4.IsWhole) (arg5 : Memref sig .tc .vmem S1x1024 .f32) (harg5 : arg5.IsWhole) (arg6 : Memref sig .tc .vmem S24x64 .f32) (harg6 : arg6.IsWhole) (arg7 : Memref sig .tc .vmem S24x64 .f32) (harg7 : arg7.IsWhole) (arg8 : Memref sig .tc .vmem S24x4096 .i8) (harg8 : arg8.IsWhole) (arg9 : Memref sig .tc .vmem S24x1 .f32) (harg9 : arg9.IsWhole) (arg10 : Memref sig .tc .vmem S24x32x128 .f32) (harg10 : arg10.IsWhole) (arg11 : Memref sig .tc .vmem S3x24x512 .f32) (harg11 : arg11.IsWhole) (arg12 : Memref sig .tc .vmem S12x8x24x128 .f32) (harg12 : arg12.IsWhole) (arg13 : Memref sig .tc .vmem S24x32 .f32) (harg13 : arg13.IsWhole) (arg14 : Memref sig .tc .vmem S24x8x128 .i32) (harg14 : arg14.IsWhole) (arg15 : Memref sig .tc .vmem S24x8x128 .f32) (harg15 : arg15.IsWhole) (arg16 : Memref sig .tc .vmem S24x8 .f32) (harg16 : arg16.IsWhole) (arg17 : Memref sig .tc .vmem S24x8 .f32) (harg17 : arg17.IsWhole) (arg18 : Memref sig .tc .vmem S24x8x128 .i32) (harg18 : arg18.IsWhole) (arg19 : Memref sig .tc .vmem S24x8x128 .f32) (harg19 : arg19.IsWhole) (arg20 : Memref sig .tc .vmem S24x8 .f32) (harg20 : arg20.IsWhole) (arg21 : Memref sig .tc .vmem S24x8 .f32) (harg21 : arg21.IsWhole) (arg22 : Memref sig .tc .vmem S24x4096 .bf16) (harg22 : arg22.IsWhole) (arg23 : Memref sig .tc .vmem S24x128 .f32) (harg23 : arg23.IsWhole) (hc0 : ¬cond0_0 i) (hc1 : ¬cond0_1 i) (hc2 : ¬cond0_2 i) (hc3 : cond0_3 i) (hc4 : ¬cond0_4 i) (hc5 : ¬cond0_5 i) (hc6 : ¬cond0_6 i)
    (x0 : Vec F S24x4096 .bf16) (x1 : Vec F S1x4096 .f32) (x2 : Vec F S2048x1024 .i8) (x3 : Vec F S1x1024 .f32) (x4 : Vec F S1x1024 .f32) (x5 : Vec F S24x64 .f32) (x6 : Vec F S24x64 .f32) (y8 : Vec F S24x4096 .i8) (y9 : Vec F S24x1 .f32) (y10 : Vec F S24x32x128 .f32) (y22 : Vec F S24x4096 .bf16) (y23 : Vec F S24x128 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y8 ∗ owns (c : Thread nD τ) arg9 fullShare y9 ∗ owns (c : Thread nD τ) arg10 fullShare y10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare y22 ∗ owns (c : Thread nD τ) arg23 fullShare y23
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y8 ∗ owns (c : Thread nD τ) arg9 fullShare y9 ∗ (∃ X, ⌜RowsAt 2 (by decide) (yTile y22 y23 y9 x2 x3 x4) (k0_pay359 x5 x5) (k0_pay360 x6 x6) X ∧ SameBelow 2 y10 X⌝ ∗ owns (c : Thread nD τ) arg10 fullShare X) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare y22 ∗ owns (c : Thread nD τ) arg23 fullShare y23) -∗ K ⟨⟩))
        ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  intro E K
  simp only [cc0_qkv_eq_skeleton]; unfold cc0_qkv_skel
  simp only [k0_part42_eq_skeleton, k0_part43_eq_skeleton, k0_part44_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2 | sl_exact hc3 | sl_exact hc4 | sl_exact hc5 | sl_exact hc6)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; assumption
  isplitl [H9]
  · iexists _; isplitr; swap; · iexact H9
    ipureintro; assumption
  isplitl [H10]
  · iexists _; isplitr; swap
    · iexists _; isplitr; swap; · iexact H10
      ipureintro; rfl
    ipureintro; refine ⟨?_, ?_⟩
    · intro i r l; sl_unfold_words; simp only [Common.read_writes_full2, Common.readAt_full2, Common.readCov_full2, Common.readCov_window2, Common.readAt_window, Common.window_full2, Memref.IsWhole.read_unread, Common.read_row3, *]; fin_cases i <;> rfl
    · intro h hh r l; sl_unfold_words
      rw [Common.read_row3, if_neg (by omega), Common.read_row3, if_neg (by omega), Common.read_row3, if_neg (by omega), Common.read_row3, if_neg (by omega), Common.read_row3, if_neg (by omega), Common.read_row3, if_neg (by omega), Common.read_row3, if_neg (by omega), Common.read_row3, if_neg (by omega)]
      exact congrFun hf10 _
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _; isplitr; swap; · iexact H22
    ipureintro; assumption
  · iexists _; isplitr; swap; · iexact H23
    ipureintro; assumption

end Cert.QkvIdeal.Hand
end
-- ==== Proof.QkvRunD.lean ====
/-
  Hand-written, untrusted. One run of the QKV projection's body with the contents of the buffers it fills named.
-/
module

public import proofs.«01_k».proof.Proof.QkvRunC
public import proofs.«01_k».proof.Proof.Gen.QkvIdeal.Frame
public import proofs.«01_k».proof.Proof.Gen.QkvIdeal.Launch
public import proofs.«01_k».proof.Proof.Gen.QkvIdeal.Skeleton
public import proofs.«01_k».proof.Proof.Gen.QkvIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.QkvIdeal.Hand

open Idealize.ShloMosaic Idealize.ShloMosaic.TcCoe Idealize.ShloMosaic.Tactic Cert.QkvIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the fourth grid point: the last eight query heads are written. -/
theorem run_D (c : Dev nD) (i : grid0.Coords) (arg1 : Memref sig .tc .vmem S24x4096 .bf16) (harg1 : arg1.IsWhole) (arg2 : Memref sig .tc .vmem S1x4096 .f32) (harg2 : arg2.IsWhole) (arg3 : Memref sig .tc .vmem S2048x1024 .i8) (harg3 : arg3.IsWhole) (arg4 : Memref sig .tc .vmem S1x1024 .f32) (harg4 : arg4.IsWhole) (arg5 : Memref sig .tc .vmem S1x1024 .f32) (harg5 : arg5.IsWhole) (arg6 : Memref sig .tc .vmem S24x64 .f32) (harg6 : arg6.IsWhole) (arg7 : Memref sig .tc .vmem S24x64 .f32) (harg7 : arg7.IsWhole) (arg8 : Memref sig .tc .vmem S24x4096 .i8) (harg8 : arg8.IsWhole) (arg9 : Memref sig .tc .vmem S24x1 .f32) (harg9 : arg9.IsWhole) (arg10 : Memref sig .tc .vmem S24x32x128 .f32) (harg10 : arg10.IsWhole) (arg11 : Memref sig .tc .vmem S3x24x512 .f32) (harg11 : arg11.IsWhole) (arg12 : Memref sig .tc .vmem S12x8x24x128 .f32) (harg12 : arg12.IsWhole) (arg13 : Memref sig .tc .vmem S24x32 .f32) (harg13 : arg13.IsWhole) (arg14 : Memref sig .tc .vmem S24x8x128 .i32) (harg14 : arg14.IsWhole) (arg15 : Memref sig .tc .vmem S24x8x128 .f32) (harg15 : arg15.IsWhole) (arg16 : Memref sig .tc .vmem S24x8 .f32) (harg16 : arg16.IsWhole) (arg17 : Memref sig .tc .vmem S24x8 .f32) (harg17 : arg17.IsWhole) (arg18 : Memref sig .tc .vmem S24x8x128 .i32) (harg18 : arg18.IsWhole) (arg19 : Memref sig .tc .vmem S24x8x128 .f32) (harg19 : arg19.IsWhole) (arg20 : Memref sig .tc .vmem S24x8 .f32) (harg20 : arg20.IsWhole) (arg21 : Memref sig .tc .vmem S24x8 .f32) (harg21 : arg21.IsWhole) (arg22 : Memref sig .tc .vmem S24x4096 .bf16) (harg22 : arg22.IsWhole) (arg23 : Memref sig .tc .vmem S24x128 .f32) (harg23 : arg23.IsWhole) (hc0 : ¬cond0_0 i) (hc1 : ¬cond0_1 i) (hc2 : ¬cond0_2 i) (hc3 : ¬cond0_3 i) (hc4 : cond0_4 i) (hc5 : ¬cond0_5 i) (hc6 : ¬cond0_6 i)
    (x0 : Vec F S24x4096 .bf16) (x1 : Vec F S1x4096 .f32) (x2 : Vec F S2048x1024 .i8) (x3 : Vec F S1x1024 .f32) (x4 : Vec F S1x1024 .f32) (x5 : Vec F S24x64 .f32) (x6 : Vec F S24x64 .f32) (y8 : Vec F S24x4096 .i8) (y9 : Vec F S24x1 .f32) (y10 : Vec F S24x32x128 .f32) (y22 : Vec F S24x4096 .bf16) (y23 : Vec F S24x128 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y8 ∗ owns (c : Thread nD τ) arg9 fullShare y9 ∗ owns (c : Thread nD τ) arg10 fullShare y10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare y22 ∗ owns (c : Thread nD τ) arg23 fullShare y23
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y8 ∗ owns (c : Thread nD τ) arg9 fullShare y9 ∗ (∃ X, ⌜RowsAt 3 (by decide) (yTile y22 y23 y9 x2 x3 x4) (k0_pay359 x5 x5) (k0_pay360 x6 x6) X ∧ SameBelow 3 y10 X⌝ ∗ owns (c : Thread nD τ) arg10 fullShare X) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare y22 ∗ owns (c : Thread nD τ) arg23 fullShare y23) -∗ K ⟨⟩))
        ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  intro E K
  simp only [cc0_qkv_eq_skeleton]; unfold cc0_qkv_skel
  simp only [k0_part42_eq_skeleton, k0_part43_eq_skeleton, k0_part44_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2 | sl_exact hc3 | sl_exact hc4 | sl_exact hc5 | sl_exact hc6)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; assumption
  isplitl [H9]
  · iexists _; isplitr; swap; · iexact H9
    ipureintro; assumption
  isplitl [H10]
  · iexists _; isplitr; swap
    · iexists _; isplitr; swap; · iexact H10
      ipureintro; rfl
    ipureintro; refine ⟨?_, ?_⟩
    · intro i r l; sl_unfold_words; simp only [Common.read_writes_full2, Common.readAt_full2, Common.readCov_full2, Common.readCov_window2, Common.readAt_window, Common.window_full2, Memref.IsWhole.read_unread, Common.read_row3, *]; fin_cases i <;> rfl
    · intro h hh r l; sl_unfold_words
      rw [Common.read_row3, if_neg (by omega), Common.read_row3, if_neg (by omega), Common.read_row3, if_neg (by omega), Common.read_row3, if_neg (by omega), Common.read_row3, if_neg (by omega), Common.read_row3, if_neg (by omega), Common.read_row3, if_neg (by omega), Common.read_row3, if_neg (by omega)]
      exact congrFun hf10 _
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _; isplitr; swap; · iexact H22
    ipureintro; assumption
  · iexists _; isplitr; swap; · iexact H23
    ipureintro; assumption

end Cert.QkvIdeal.Hand
end
-- ==== Proof.QkvRunE.lean ====
/-
  Hand-written, untrusted. One run of the QKV projection's body with the contents of the buffers it fills named.
-/
module

public import proofs.«01_k».proof.Proof.QkvRunD
public import proofs.«01_k».proof.Proof.Gen.QkvIdeal.Frame
public import proofs.«01_k».proof.Proof.Gen.QkvIdeal.Launch
public import proofs.«01_k».proof.Proof.Gen.QkvIdeal.Skeleton
public import proofs.«01_k».proof.Proof.Gen.QkvIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.QkvIdeal.Hand

open Idealize.ShloMosaic Idealize.ShloMosaic.TcCoe Idealize.ShloMosaic.Tactic Cert.QkvIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the fifth grid point: the keys' codes, scales and minima are written. -/
theorem run_E (c : Dev nD) (i : grid0.Coords) (arg1 : Memref sig .tc .vmem S24x4096 .bf16) (harg1 : arg1.IsWhole) (arg2 : Memref sig .tc .vmem S1x4096 .f32) (harg2 : arg2.IsWhole) (arg3 : Memref sig .tc .vmem S2048x1024 .i8) (harg3 : arg3.IsWhole) (arg4 : Memref sig .tc .vmem S1x1024 .f32) (harg4 : arg4.IsWhole) (arg5 : Memref sig .tc .vmem S1x1024 .f32) (harg5 : arg5.IsWhole) (arg6 : Memref sig .tc .vmem S24x64 .f32) (harg6 : arg6.IsWhole) (arg7 : Memref sig .tc .vmem S24x64 .f32) (harg7 : arg7.IsWhole) (arg8 : Memref sig .tc .vmem S24x4096 .i8) (harg8 : arg8.IsWhole) (arg9 : Memref sig .tc .vmem S24x1 .f32) (harg9 : arg9.IsWhole) (arg10 : Memref sig .tc .vmem S24x32x128 .f32) (harg10 : arg10.IsWhole) (arg11 : Memref sig .tc .vmem S3x24x512 .f32) (harg11 : arg11.IsWhole) (arg12 : Memref sig .tc .vmem S12x8x24x128 .f32) (harg12 : arg12.IsWhole) (arg13 : Memref sig .tc .vmem S24x32 .f32) (harg13 : arg13.IsWhole) (arg14 : Memref sig .tc .vmem S24x8x128 .i32) (harg14 : arg14.IsWhole) (arg15 : Memref sig .tc .vmem S24x8x128 .f32) (harg15 : arg15.IsWhole) (arg16 : Memref sig .tc .vmem S24x8 .f32) (harg16 : arg16.IsWhole) (arg17 : Memref sig .tc .vmem S24x8 .f32) (harg17 : arg17.IsWhole) (arg18 : Memref sig .tc .vmem S24x8x128 .i32) (harg18 : arg18.IsWhole) (arg19 : Memref sig .tc .vmem S24x8x128 .f32) (harg19 : arg19.IsWhole) (arg20 : Memref sig .tc .vmem S24x8 .f32) (harg20 : arg20.IsWhole) (arg21 : Memref sig .tc .vmem S24x8 .f32) (harg21 : arg21.IsWhole) (arg22 : Memref sig .tc .vmem S24x4096 .bf16) (harg22 : arg22.IsWhole) (arg23 : Memref sig .tc .vmem S24x128 .f32) (harg23 : arg23.IsWhole) (hc0 : ¬cond0_0 i) (hc1 : ¬cond0_1 i) (hc2 : ¬cond0_2 i) (hc3 : ¬cond0_3 i) (hc4 : ¬cond0_4 i) (hc5 : cond0_5 i) (hc6 : ¬cond0_6 i)
    (x0 : Vec F S24x4096 .bf16) (x1 : Vec F S1x4096 .f32) (x2 : Vec F S2048x1024 .i8) (x3 : Vec F S1x1024 .f32) (x4 : Vec F S1x1024 .f32) (x5 : Vec F S24x64 .f32) (x6 : Vec F S24x64 .f32) (y8 : Vec F S24x4096 .i8) (y9 : Vec F S24x1 .f32) (y10 : Vec F S24x32x128 .f32) (y22 : Vec F S24x4096 .bf16) (y23 : Vec F S24x128 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y8 ∗ owns (c : Thread nD τ) arg9 fullShare y9 ∗ owns (c : Thread nD τ) arg10 fullShare y10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare y22 ∗ owns (c : Thread nD τ) arg23 fullShare y23
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y8 ∗ owns (c : Thread nD τ) arg9 fullShare y9 ∗ owns (c : Thread nD τ) arg10 fullShare y10 ∗ (∃ d, owns (c : Thread nD τ) arg11 fullShare d) ∗ (∃ d, owns (c : Thread nD τ) arg12 fullShare d) ∗ (∃ d, owns (c : Thread nD τ) arg13 fullShare d) ∗ (∃ X, ⌜CodesAt (fun i => rope (k0_pay359 x5 x5) (k0_pay360 x6 x6) (head (yTile y22 y23 y9 x2 x3 x4) i)) X⌝ ∗ owns (c : Thread nD τ) arg14 fullShare X) ∗ (∃ d, owns (c : Thread nD τ) arg15 fullShare d) ∗ (∃ X, ⌜ColsAt (fun i => step (rope (k0_pay359 x5 x5) (k0_pay360 x6 x6) (head (yTile y22 y23 y9 x2 x3 x4) i))) X⌝ ∗ owns (c : Thread nD τ) arg16 fullShare X) ∗ (∃ X, ⌜ColsAt (fun i => low (rope (k0_pay359 x5 x5) (k0_pay360 x6 x6) (head (yTile y22 y23 y9 x2 x3 x4) i))) X⌝ ∗ owns (c : Thread nD τ) arg17 fullShare X) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare y22 ∗ owns (c : Thread nD τ) arg23 fullShare y23) -∗ K ⟨⟩))
        ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  intro E K
  simp only [cc0_qkv_eq_skeleton]; unfold cc0_qkv_skel
  simp only [k0_part42_eq_skeleton, k0_part43_eq_skeleton, k0_part44_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2 | sl_exact hc3 | sl_exact hc4 | sl_exact hc5 | sl_exact hc6)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; assumption
  isplitl [H9]
  · iexists _; isplitr; swap; · iexact H9
    ipureintro; assumption
  isplitl [H10]
  · iexists _; isplitr; swap; · iexact H10
    ipureintro; assumption
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _; isplitr; swap
    · iexists _; isplitr; swap; · iexact H14
      ipureintro; rfl
    ipureintro; intro i r l; sl_unfold_words; simp only [Common.read_writes_full2, Common.readAt_full2, Common.readCov_full2, Common.readCov_window2, Common.readAt_window, Common.window_full2, Memref.IsWhole.read_unread, Common.read_row3, *]; fin_cases i <;> rfl
  isplitl [H15]
  · iexists _, _; isplitr; swap; · iexact H15
    ipureintro; rfl
  isplitl [H16]
  · iexists _; isplitr; swap
    · iexists _; isplitr; swap; · iexact H16
      ipureintro; rfl
    ipureintro; intro i r; sl_unfold_words; simp only [Common.read_writes_full2, Common.readAt_full2, Common.readCov_full2, Common.readCov_window2, Common.readAt_window, Common.window_full2, Memref.IsWhole.read_unread, Common.read_col2, *]; fin_cases i <;> rfl
  isplitl [H17]
  · iexists _; isplitr; swap
    · iexists _; isplitr; swap; · iexact H17
      ipureintro; rfl
    ipureintro; intro i r; sl_unfold_words; simp only [Common.read_writes_full2, Common.readAt_full2, Common.readCov_full2, Common.readCov_window2, Common.readAt_window, Common.window_full2, Memref.IsWhole.read_unread, Common.read_col2, *]; fin_cases i <;> rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _; isplitr; swap; · iexact H22
    ipureintro; assumption
  · iexists _; isplitr; swap; · iexact H23
    ipureintro; assumption

end Cert.QkvIdeal.Hand
end
-- ==== Proof.QkvRunF.lean ====
/-
  Hand-written, untrusted. One run of the QKV projection's body with the contents of the buffers it fills named.
-/
module

public import proofs.«01_k».proof.Proof.QkvRunE
public import proofs.«01_k».proof.Proof.Gen.QkvIdeal.Frame
public import proofs.«01_k».proof.Proof.Gen.QkvIdeal.Launch
public import proofs.«01_k».proof.Proof.Gen.QkvIdeal.Skeleton
public import proofs.«01_k».proof.Proof.Gen.QkvIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.QkvIdeal.Hand

open Idealize.ShloMosaic Idealize.ShloMosaic.TcCoe Idealize.ShloMosaic.Tactic Cert.QkvIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last grid point: the values' codes, scales and minima are written. -/
theorem run_F (c : Dev nD) (i : grid0.Coords) (arg1 : Memref sig .tc .vmem S24x4096 .bf16) (harg1 : arg1.IsWhole) (arg2 : Memref sig .tc .vmem S1x4096 .f32) (harg2 : arg2.IsWhole) (arg3 : Memref sig .tc .vmem S2048x1024 .i8) (harg3 : arg3.IsWhole) (arg4 : Memref sig .tc .vmem S1x1024 .f32) (harg4 : arg4.IsWhole) (arg5 : Memref sig .tc .vmem S1x1024 .f32) (harg5 : arg5.IsWhole) (arg6 : Memref sig .tc .vmem S24x64 .f32) (harg6 : arg6.IsWhole) (arg7 : Memref sig .tc .vmem S24x64 .f32) (harg7 : arg7.IsWhole) (arg8 : Memref sig .tc .vmem S24x4096 .i8) (harg8 : arg8.IsWhole) (arg9 : Memref sig .tc .vmem S24x1 .f32) (harg9 : arg9.IsWhole) (arg10 : Memref sig .tc .vmem S24x32x128 .f32) (harg10 : arg10.IsWhole) (arg11 : Memref sig .tc .vmem S3x24x512 .f32) (harg11 : arg11.IsWhole) (arg12 : Memref sig .tc .vmem S12x8x24x128 .f32) (harg12 : arg12.IsWhole) (arg13 : Memref sig .tc .vmem S24x32 .f32) (harg13 : arg13.IsWhole) (arg14 : Memref sig .tc .vmem S24x8x128 .i32) (harg14 : arg14.IsWhole) (arg15 : Memref sig .tc .vmem S24x8x128 .f32) (harg15 : arg15.IsWhole) (arg16 : Memref sig .tc .vmem S24x8 .f32) (harg16 : arg16.IsWhole) (arg17 : Memref sig .tc .vmem S24x8 .f32) (harg17 : arg17.IsWhole) (arg18 : Memref sig .tc .vmem S24x8x128 .i32) (harg18 : arg18.IsWhole) (arg19 : Memref sig .tc .vmem S24x8x128 .f32) (harg19 : arg19.IsWhole) (arg20 : Memref sig .tc .vmem S24x8 .f32) (harg20 : arg20.IsWhole) (arg21 : Memref sig .tc .vmem S24x8 .f32) (harg21 : arg21.IsWhole) (arg22 : Memref sig .tc .vmem S24x4096 .bf16) (harg22 : arg22.IsWhole) (arg23 : Memref sig .tc .vmem S24x128 .f32) (harg23 : arg23.IsWhole) (hc0 : ¬cond0_0 i) (hc1 : ¬cond0_1 i) (hc2 : ¬cond0_2 i) (hc3 : ¬cond0_3 i) (hc4 : ¬cond0_4 i) (hc5 : ¬cond0_5 i) (hc6 : cond0_6 i)
    (x0 : Vec F S24x4096 .bf16) (x1 : Vec F S1x4096 .f32) (x2 : Vec F S2048x1024 .i8) (x3 : Vec F S1x1024 .f32) (x4 : Vec F S1x1024 .f32) (x5 : Vec F S24x64 .f32) (x6 : Vec F S24x64 .f32) (y8 : Vec F S24x4096 .i8) (y9 : Vec F S24x1 .f32) (y10 : Vec F S24x32x128 .f32) (y14 : Vec F S24x8x128 .i32) (y16 : Vec F S24x8 .f32) (y17 : Vec F S24x8 .f32) (y22 : Vec F S24x4096 .bf16) (y23 : Vec F S24x128 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y8 ∗ owns (c : Thread nD τ) arg9 fullShare y9 ∗ owns (c : Thread nD τ) arg10 fullShare y10 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare y14 ∗ (∃ d, owns (c : Thread nD τ) arg15 fullShare d) ∗ owns (c : Thread nD τ) arg16 fullShare y16 ∗ owns (c : Thread nD τ) arg17 fullShare y17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare y22 ∗ owns (c : Thread nD τ) arg23 fullShare y23
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y8 ∗ owns (c : Thread nD τ) arg9 fullShare y9 ∗ owns (c : Thread nD τ) arg10 fullShare y10 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare y14 ∗ (∃ d, owns (c : Thread nD τ) arg15 fullShare d) ∗ owns (c : Thread nD τ) arg16 fullShare y16 ∗ owns (c : Thread nD τ) arg17 fullShare y17 ∗ (∃ X, ⌜CodesAt (head (yTile y22 y23 y9 x2 x3 x4)) X⌝ ∗ owns (c : Thread nD τ) arg18 fullShare X) ∗ (∃ d, owns (c : Thread nD τ) arg19 fullShare d) ∗ (∃ X, ⌜ColsAt (fun i => step (head (yTile y22 y23 y9 x2 x3 x4) i)) X⌝ ∗ owns (c : Thread nD τ) arg20 fullShare X) ∗ (∃ X, ⌜ColsAt (fun i => low (head (yTile y22 y23 y9 x2 x3 x4) i)) X⌝ ∗ owns (c : Thread nD τ) arg21 fullShare X) ∗ owns (c : Thread nD τ) arg22 fullShare y22 ∗ owns (c : Thread nD τ) arg23 fullShare y23) -∗ K ⟨⟩))
        ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  intro E K
  simp only [cc0_qkv_eq_skeleton]; unfold cc0_qkv_skel
  simp only [k0_part42_eq_skeleton, k0_part43_eq_skeleton, k0_part44_eq_skeleton, k0_part35_eq_skeleton, k0_part36_eq_skeleton, k0_part37_eq_skeleton, k0_part38_eq_skeleton, k0_part39_eq_skeleton, k0_part40_eq_skeleton, k0_part41_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%d15, %f15, -, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2 | sl_exact hc3 | sl_exact hc4 | sl_exact hc5 | sl_exact hc6)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; assumption
  isplitl [H9]
  · iexists _; isplitr; swap; · iexact H9
    ipureintro; assumption
  isplitl [H10]
  · iexists _; isplitr; swap; · iexact H10
    ipureintro; assumption
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro; assumption
  isplitl [H15]
  · iexists _, _; isplitr; swap; · iexact H15
    ipureintro; rfl
  isplitl [H16]
  · iexists _; isplitr; swap; · iexact H16
    ipureintro; assumption
  isplitl [H17]
  · iexists _; isplitr; swap; · iexact H17
    ipureintro; assumption
  isplitl [H18]
  · iexists _; isplitr; swap
    · iexists _; isplitr; swap; · iexact H18
      ipureintro; rfl
    ipureintro; intro i r l; sl_unfold_words; simp only [Common.read_writes_full2, Common.readAt_full2, Common.readCov_full2, Common.readCov_window2, Common.readAt_window, Common.window_full2, Memref.IsWhole.read_unread, Common.read_row3, *]; fin_cases i <;> rfl
  isplitl [H19]
  · iexists _, _; isplitr; swap; · iexact H19
    ipureintro; rfl
  isplitl [H20]
  · iexists _; isplitr; swap
    · iexists _; isplitr; swap; · iexact H20
      ipureintro; rfl
    ipureintro; intro i r; sl_unfold_words; simp only [Common.read_writes_full2, Common.readAt_full2, Common.readCov_full2, Common.readCov_window2, Common.readAt_window, Common.window_full2, Memref.IsWhole.read_unread, Common.read_col2, *]; fin_cases i <;> rfl
  isplitl [H21]
  · iexists _; isplitr; swap
    · iexists _; isplitr; swap; · iexact H21
      ipureintro; rfl
    ipureintro; intro i r; sl_unfold_words; simp only [Common.read_writes_full2, Common.readAt_full2, Common.readCov_full2, Common.readCov_window2, Common.readAt_window, Common.window_full2, Memref.IsWhole.read_unread, Common.read_col2, *]; fin_cases i <;> rfl
  isplitl [H22]
  · iexists _; isplitr; swap; · iexact H22
    ipureintro; assumption
  · iexists _; isplitr; swap; · iexact H23
    ipureintro; assumption

end Cert.QkvIdeal.Hand
end
-- ==== Proof.QkvFrame.lean ====
/-
  Hand-written, untrusted. The QKV projection's pipeline with its contents named: the proof data, the body obligation, the run and the
  frame. The row codes and their scales (windows 7, 8) are stored at the first point and kept; the query heads (window 9) are stored
  eight at each of the first four points; the packed codes, scales and minima of the keys (windows 13, 15, 16) at the fifth and of the
  values (windows 17, 19, 20) at the last.
-/
module

public import proofs.«01_k».proof.Proof.QkvRunF
public import proofs.«01_k».proof.Proof.CommonPipe
public import Idealize.ShloMosaic.Lib.Pipeline.DatRel
public import Idealize.ShloMosaic.Lib.Pipeline.ArrRel
public import Idealize.ShloMosaic.Lib.Claim

@[expose] public section

-- membership in a rectangle of production extents (`View.cover_of_tiled`): the elaborator's structural look
-- recurses once per coordinate of the long axes
set_option maxRecDepth 16384

noncomputable section

namespace Cert.QkvIdeal.Hand

open Idealize.ShloMosaic Idealize.ShloMosaic.TcCoe Idealize.ShloMosaic.Tactic Cert.QkvIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes, from the blocks of the arrays -/

/-- The activation rows, and the norm's gains, as the first point finds them. -/
abbrev rows (c : Dev nD) : Vec F S24x4096 .bf16 := iblk m c 0 t0_0
abbrev gains (c : Dev nD) : Vec F S1x4096 .f32 := iblk m c 1 t0_0
/-- The scratch after the first point: the row codes, and their sums. -/
abbrev sCodes (c : Dev nD) : Vec F S24x4096 .bf16 := k0_pay33 (rows m c) (gains m c)
abbrev sSums (c : Dev nD) : Vec F S24x128 .f32 := k0_pay356 (k0_pay34 (rows m c) (gains m c))
/-- The row codes and the scales as the body stores them. -/
abbrev oCodes (c : Dev nD) : Vec F S24x4096 .i8 := k0_pay357 (k0_pay32 (rows m c) (gains m c))
abbrev oScale (c : Dev nD) : Vec F S24x1 .f32 := k0_pay31 (rows m c) (gains m c)
/-- Point `t`'s tile of the product. -/
abbrev yT (c : Dev nD) (t : Fin cfg0.N) : FVec F S24x1024 .f32 :=
  yTile (sCodes m c) (sSums m c) (oScale m c) (iblk m c 2 t) (iblk m c 3 t) (iblk m c 4 t)
/-- The doubled cosines, and the doubled sines with the first half negated, at point `t`. -/
abbrev cosT (c : Dev nD) (t : Fin cfg0.N) : FVec F S24x128 .f32 := k0_pay359 (iblk m c 5 t) (iblk m c 5 t)
abbrev sinT (c : Dev nD) (t : Fin cfg0.N) : FVec F S24x128 .f32 := k0_pay360 (iblk m c 6 t) (iblk m c 6 t)
/-- The key heads, and the value heads. -/
abbrev keyHead (c : Dev nD) (i : Fin 8) : FVec F S24x128 .f32 := rope (cosT m c t0_4) (sinT m c t0_4) (head (yT m c t0_4) i)
abbrev valHead (c : Dev nD) (i : Fin 8) : FVec F S24x128 .f32 := head (yT m c t0_5) i

/-- A buffer of query heads holds those of the tiles up to point `n`. -/
def QHeads (c : Dev nD) (n : ℕ) (X : Vec F S24x32x128 .f32) : Prop :=
  ∀ (u : Fin cfg0.N) (h4 : u.val < 4), u.val ≤ n → RowsAt u.val h4 (yT m c u) (cosT m c u) (sinT m c u) X

theorem rowsAt_same {n k : ℕ} {hk : k < 4} {y : FVec F S24x1024 .f32} {cs sn : FVec F S24x128 .f32} {Y X : Vec F S24x32x128 .f32} (h : k < n)
    (hS : SameBelow n Y X) (hY : RowsAt k hk y cs sn Y) : RowsAt k hk y cs sn X := fun i r l =>
  (hS _ (by show 8 * k + i.val < 8 * n; omega) r l).trans (hY i r l)

/-- One more tile stored over the ones before. -/
theorem qHeads_step (c : Dev nD) (t : Fin cfg0.N) (h4 : t.val < 4) {Y X : Vec F S24x32x128 .f32} (hX : RowsAt t.val h4 (yT m c t) (cosT m c t) (sinT m c t) X)
    (hS : t.val ≠ 0 → SameBelow t.val Y X) (hY : t.val ≠ 0 → QHeads m c (t.val - 1) Y) : QHeads m c t.val X := fun u hu hle => by
  rcases Nat.lt_or_ge u.val t.val with h | h
  · exact rowsAt_same h (hS (by omega)) (hY (by omega) u hu (by omega))
  · obtain rfl : u = t := Fin.ext (by omega)
    exact hX

/-- Past the fourth point nothing more is asked of the query heads. -/
theorem qHeads_keep (c : Dev nD) {n k : ℕ} (h : 3 ≤ n) {X : Vec F S24x32x128 .f32} (hX : QHeads m c n X) : QHeads m c k X :=
  fun u hu _ => hX u hu (by omega)

/-! ## The proof data -/

/-- What the invariant says of the scratch: anything before the first point, the codes and their sums afterwards. -/
def Phi (c : Dev nD) (n : ℕ) : sProp 𝕄 :=
  if n = 0 then Pipeline.ΦA spec0 c
  else iprop(iprop(owns (c : Thread nD τ) scM0_0 fullShare (sCodes m c) ∗ owns (c : Thread nD τ) scM0_1 fullShare (sSums m c)) ∗ (∃ r, prngReg c r))

/-- The windows held to a predicate: the outputs. -/
def marked : Fin 21 → Bool := fun w => decide (7 ≤ w.val)

/-- What the marked windows hold after every point; of those that are not claimed nothing is said. -/
def Rl (c : Dev nD) : (w : Fin cfg0.W) → (t : Fin cfg0.N) → ((cfg0.win w).block.Idx → Elt F (cfg0.win w).elt) → Prop
  | ⟨7, _⟩ => fun _ X => X = oCodes m c
  | ⟨8, _⟩ => fun _ X => X = oScale m c
  | ⟨9, _⟩ => fun t X => QHeads m c t.val X
  | ⟨13, _⟩ => fun t X => 4 ≤ t.val → CodesAt (keyHead m c) X
  | ⟨15, _⟩ => fun t X => 4 ≤ t.val → ColsAt (fun i => step (keyHead m c i)) X
  | ⟨16, _⟩ => fun t X => 4 ≤ t.val → ColsAt (fun i => low (keyHead m c i)) X
  | ⟨17, _⟩ => fun t X => 5 ≤ t.val → CodesAt (valHead m c) X
  | ⟨19, _⟩ => fun t X => 5 ≤ t.val → ColsAt (fun i => step (valHead m c i)) X
  | ⟨20, _⟩ => fun t X => 5 ≤ t.val → ColsAt (fun i => low (valHead m c i)) X
  | _ => fun _ _ => True

/-- The pipeline's proof data on core `c`; the inputs' blocks are what the arrays hold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨n + 21, h⟩ => absurd h (by show ¬ n + 21 < 21; omega)
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

/-- The relational reading of the proof data. -/
abbrev rdats (c : Dev nD) : Pipeline.RDat τ (Elt F) Unit ℕ (UR sig nD τ) ℕ cfg0 c := (dats m 0 c).toRRel marked (Rl m c)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdats m c).Finds 7 t Y⌝ ∗ owns (c : Thread nD τ) (ms0_7 t) fullShare Y)
    ∗ (∃ Y, ⌜(rdats m c).Finds 8 t Y⌝ ∗ owns (c : Thread nD τ) (ms0_8 t) fullShare Y)
    ∗ (∃ Y, ⌜(rdats m c).Finds 9 t Y⌝ ∗ owns (c : Thread nD τ) (ms0_9 t) fullShare Y)
    ∗ (∃ Y, ⌜(rdats m c).Finds 10 t Y⌝ ∗ owns (c : Thread nD τ) (ms0_10 t) fullShare Y)
    ∗ (∃ Y, ⌜(rdats m c).Finds 11 t Y⌝ ∗ owns (c : Thread nD τ) (ms0_11 t) fullShare Y)
    ∗ (∃ Y, ⌜(rdats m c).Finds 12 t Y⌝ ∗ owns (c : Thread nD τ) (ms0_12 t) fullShare Y)
    ∗ (∃ Y, ⌜(rdats m c).Finds 13 t Y⌝ ∗ owns (c : Thread nD τ) (ms0_13 t) fullShare Y)
    ∗ (∃ Y, ⌜(rdats m c).Finds 14 t Y⌝ ∗ owns (c : Thread nD τ) (ms0_14 t) fullShare Y)
    ∗ (∃ Y, ⌜(rdats m c).Finds 15 t Y⌝ ∗ owns (c : Thread nD τ) (ms0_15 t) fullShare Y)
    ∗ (∃ Y, ⌜(rdats m c).Finds 16 t Y⌝ ∗ owns (c : Thread nD τ) (ms0_16 t) fullShare Y)
    ∗ (∃ Y, ⌜(rdats m c).Finds 17 t Y⌝ ∗ owns (c : Thread nD τ) (ms0_17 t) fullShare Y)
    ∗ (∃ Y, ⌜(rdats m c).Finds 18 t Y⌝ ∗ owns (c : Thread nD τ) (ms0_18 t) fullShare Y)
    ∗ (∃ Y, ⌜(rdats m c).Finds 19 t Y⌝ ∗ owns (c : Thread nD τ) (ms0_19 t) fullShare Y)
    ∗ (∃ Y, ⌜(rdats m c).Finds 20 t Y⌝ ∗ owns (c : Thread nD τ) (ms0_20 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜Rl m c 7 t X⌝ ∗ owns (c : Thread nD τ) (ms0_7 t) fullShare X)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X)
    ∗ (∃ X, ⌜Rl m c 12 t X⌝ ∗ owns (c : Thread nD τ) (ms0_12 t) fullShare X)
    ∗ (∃ X, ⌜Rl m c 13 t X⌝ ∗ owns (c : Thread nD τ) (ms0_13 t) fullShare X)
    ∗ (∃ X, ⌜Rl m c 14 t X⌝ ∗ owns (c : Thread nD τ) (ms0_14 t) fullShare X)
    ∗ (∃ X, ⌜Rl m c 15 t X⌝ ∗ owns (c : Thread nD τ) (ms0_15 t) fullShare X)
    ∗ (∃ X, ⌜Rl m c 16 t X⌝ ∗ owns (c : Thread nD τ) (ms0_16 t) fullShare X)
    ∗ (∃ X, ⌜Rl m c 17 t X⌝ ∗ owns (c : Thread nD τ) (ms0_17 t) fullShare X)
    ∗ (∃ X, ⌜Rl m c 18 t X⌝ ∗ owns (c : Thread nD τ) (ms0_18 t) fullShare X)
    ∗ (∃ X, ⌜Rl m c 19 t X⌝ ∗ owns (c : Thread nD τ) (ms0_19 t) fullShare X)
    ∗ (∃ X, ⌜Rl m c 20 t X⌝ ∗ owns (c : Thread nD τ) (ms0_20 t) fullShare X))

/-- After the first point a marked window is found meeting what the predicate says of the point before. -/
theorem rel_before (c : Dev nD) {w : Fin cfg0.W} (hm : marked w = true) (hout : (cfg0.win w).isOut = true)
    (hfl : ∀ t : Fin cfg0.N, (cfg0.win w).flush t = true ↔ t.val % 6 = 5) (t : Fin cfg0.N) (h : t.val ≠ 0) {Y} (hY : (rdats m c).Finds w t Y) :
    Rl m c w ⟨t.val - 1, Nat.lt_of_le_of_lt (Nat.sub_le _ _) t.isLt⟩ Y :=
  Common.rel_of_finds (dats m 0 c) hm hout t h (by
    have hN : t.val < 6 := lt_of_lt_of_eq t.isLt (show cfg0.N = 6 from N_0)
    rw [Bool.eq_false_iff]; intro hf; have := (hfl _).mp hf; dsimp only at this; omega) hY

set_option maxHeartbeats 1600000 in
/-- The body at point 0. -/
theorem sound_A (c : Dev nD) : bodyPre m c t0_0 ⊢ wp frame (wpE (defs₀ (F := F)) Variants.none c none) Set.univ (bodyAt0 t0_0) (fun _ => bodyPost m c t0_0) := by
  unfold bodyPre bodyPost bodyAt0
  simp only [before0_0, before0_1, before0_2, before0_3, before0_4, before0_5, before0_6, after0_0, after0_1, after0_2, after0_3, after0_4, after0_5, after0_6]
  rw [show (dats m 0 c).owesAt () (t0_0).succ = (dats m 0 c).owesAt () (t0_0).castSucc from rfl]
  rw [show (dats m 0 c).Φ (t0_0).castSucc = Phi m c 0 from rfl, show (dats m 0 c).Φ (t0_0).succ = Phi m c 1 from rfl]
  rw [show Phi m c 1 = _ from if_neg (by decide), show Phi m c 0 = _ from if_pos rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, -, H7⟩, ⟨%d8, -, H8⟩, ⟨%d9, -, H9⟩, ⟨%d10, -, H10⟩, ⟨%d11, -, H11⟩, ⟨%d12, -, H12⟩, ⟨%d13, -, H13⟩, ⟨%d14, -, H14⟩, ⟨%d15, -, H15⟩, ⟨%d16, -, H16⟩, ⟨%d17, -, H17⟩, ⟨%d18, -, H18⟩, ⟨%d19, -, H19⟩, ⟨%d20, -, H20⟩⟩
  iapply ((run_A c (grid0.coords t0_0) _ _ _ _ _ _ _ _ _ _ _ _ _ _ _ _ _ _ _ _ _ _ _ _ _ _ _ _ _ _ _ _ _ _ _ _ _ _ _ _ _ _ _ _ _ _ ((hcond0_0 t0_0).mpr (by decide)) ((hcond0_1 t0_0).mpr (by decide)) (fun h => absurd ((hcond0_2 t0_0).mp h) (by decide)) (fun h => absurd ((hcond0_3 t0_0).mp h) (by decide)) (fun h => absurd ((hcond0_4 t0_0).mp h) (by decide)) (fun h => absurd ((hcond0_5 t0_0).mp h) (by decide)) (fun h => absurd ((hcond0_6 t0_0).mp h) (by decide))
      (iblk m c 0 t0_0) (iblk m c 1 t0_0) (iblk m c 2 t0_0) (iblk m c 3 t0_0) (iblk m c 4 t0_0) (iblk m c 5 t0_0) (iblk m c 6 t0_0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  iintro ⟨H0, H1, H2, H3, H4, H5, H6, H7, H8, ⟨%X9, %p9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; exact qHeads_step m c t0_0 (by decide) p9 (fun h => absurd rfl h) (Y := X9) (fun h => absurd rfl h)
  isplitl [H10]
  · iexists _; isplitr; swap; · iexact H10
    ipureintro; exact trivial
  isplitl [H11]
  · iexists _; isplitr; swap; · iexact H11
    ipureintro; exact trivial
  isplitl [H12]
  · iexists _; isplitr; swap; · iexact H12
    ipureintro; exact trivial
  isplitl [H13]
  · iexists _; isplitr; swap; · iexact H13
    ipureintro; exact fun h => absurd h (by decide)
  isplitl [H14]
  · iexists _; isplitr; swap; · iexact H14
    ipureintro; exact trivial
  isplitl [H15]
  · iexists _; isplitr; swap; · iexact H15
    ipureintro; exact fun h => absurd h (by decide)
  isplitl [H16]
  · iexists _; isplitr; swap; · iexact H16
    ipureintro; exact fun h => absurd h (by decide)
  isplitl [H17]
  · iexists _; isplitr; swap; · iexact H17
    ipureintro; exact fun h => absurd h (by decide)
  isplitl [H18]
  · iexists _; isplitr; swap; · iexact H18
    ipureintro; exact trivial
  isplitl [H19]
  · iexists _; isplitr; swap; · iexact H19
    ipureintro; exact fun h => absurd h (by decide)
  · iexists _; isplitr; swap; · iexact H20
    ipureintro; exact fun h => absurd h (by decide)

set_option maxHeartbeats 1600000 in
/-- The body at point 1. -/
theorem sound_B (c : Dev nD) : bodyPre m c t0_1 ⊢ wp frame (wpE (defs₀ (F := F)) Variants.none c none) Set.univ (bodyAt0 t0_1) (fun _ => bodyPost m c t0_1) := by
  unfold bodyPre bodyPost bodyAt0
  simp only [before0_0, before0_1, before0_2, before0_3, before0_4, before0_5, before0_6, after0_0, after0_1, after0_2, after0_3, after0_4, after0_5, after0_6]
  rw [show (dats m 0 c).owesAt () (t0_1).succ = (dats m 0 c).owesAt () (t0_1).castSucc from rfl]
  rw [show (dats m 0 c).Φ (t0_1).castSucc = Phi m c 1 from rfl, show (dats m 0 c).Φ (t0_1).succ = Phi m c 2 from rfl]
  rw [show Phi m c 2 = _ from if_neg (by decide), show Phi m c 1 = _ from if_neg (by decide)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, %h7, H7⟩, ⟨%d8, %h8, H8⟩, ⟨%d9, %h9, H9⟩, ⟨%d10, -, H10⟩, ⟨%d11, -, H11⟩, ⟨%d12, -, H12⟩, ⟨%d13, -, H13⟩, ⟨%d14, -, H14⟩, ⟨%d15, -, H15⟩, ⟨%d16, -, H16⟩, ⟨%d17, -, H17⟩, ⟨%d18, -, H18⟩, ⟨%d19, -, H19⟩, ⟨%d20, -, H20⟩⟩
  obtain rfl : d7 = _ := rel_before m c (w := 7) rfl rfl flush0_7 t0_1 (by decide) h7
  obtain rfl : d8 = _ := rel_before m c (w := 8) rfl rfl flush0_8 t0_1 (by decide) h8
  replace h9 : QHeads m c 0 d9 := rel_before m c (w := 9) rfl rfl flush0_9 t0_1 (by decide) h9
  iapply ((run_B c (grid0.coords t0_1) _ _ _ _ _ _ _ _ _ _ _ _ _ _ _ _ _ _ _ _ _ _ _ _ _ _ _ _ _ _ _ _ _ _ _ _ _ _ _ _ _ _ _ _ _ _ (fun h => absurd ((hcond0_0 t0_1).mp h) (by decide)) (fun h => absurd ((hcond0_1 t0_1).mp h) (by decide)) ((hcond0_2 t0_1).mpr (by decide)) (fun h => absurd ((hcond0_3 t0_1).mp h) (by decide)) (fun h => absurd ((hcond0_4 t0_1).mp h) (by decide)) (fun h => absurd ((hcond0_5 t0_1).mp h) (by decide)) (fun h => absurd ((hcond0_6 t0_1).mp h) (by decide))
      (iblk m c 0 t0_1) (iblk m c 1 t0_1) (iblk m c 2 t0_1) (iblk m c 3 t0_1) (iblk m c 4 t0_1) (iblk m c 5 t0_1) (iblk m c 6 t0_1) (oCodes m c) (oScale m c) d9 (sCodes m c) (sSums m c)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  iintro ⟨H0, H1, H2, H3, H4, H5, H6, H7, H8, ⟨%X9, %p9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; exact qHeads_step m c t0_1 (by decide) p9.1 (fun _ => p9.2) (fun _ => h9)
  isplitl [H10]
  · iexists _; isplitr; swap; · iexact H10
    ipureintro; exact trivial
  isplitl [H11]
  · iexists _; isplitr; swap; · iexact H11
    ipureintro; exact trivial
  isplitl [H12]
  · iexists _; isplitr; swap; · iexact H12
    ipureintro; exact trivial
  isplitl [H13]
  · iexists _; isplitr; swap; · iexact H13
    ipureintro; exact fun h => absurd h (by decide)
  isplitl [H14]
  · iexists _; isplitr; swap; · iexact H14
    ipureintro; exact trivial
  isplitl [H15]
  · iexists _; isplitr; swap; · iexact H15
    ipureintro; exact fun h => absurd h (by decide)
  isplitl [H16]
  · iexists _; isplitr; swap; · iexact H16
    ipureintro; exact fun h => absurd h (by decide)
  isplitl [H17]
  · iexists _; isplitr; swap; · iexact H17
    ipureintro; exact fun h => absurd h (by decide)
  isplitl [H18]
  · iexists _; isplitr; swap; · iexact H18
    ipureintro; exact trivial
  isplitl [H19]
  · iexists _; isplitr; swap; · iexact H19
    ipureintro; exact fun h => absurd h (by decide)
  · iexists _; isplitr; swap; · iexact H20
    ipureintro; exact fun h => absurd h (by decide)

set_option maxHeartbeats 1600000 in
/-- The body at point 2. -/
theorem sound_C (c : Dev nD) : bodyPre m c t0_2 ⊢ wp frame (wpE (defs₀ (F := F)) Variants.none c none) Set.univ (bodyAt0 t0_2) (fun _ => bodyPost m c t0_2) := by
  unfold bodyPre bodyPost bodyAt0
  simp only [before0_0, before0_1, before0_2, before0_3, before0_4, before0_5, before0_6, after0_0, after0_1, after0_2, after0_3, after0_4, after0_5, after0_6]
  rw [show (dats m 0 c).owesAt () (t0_2).succ = (dats m 0 c).owesAt () (t0_2).castSucc from rfl]
  rw [show (dats m 0 c).Φ (t0_2).castSucc = Phi m c 2 from rfl, show (dats m 0 c).Φ (t0_2).succ = Phi m c 3 from rfl]
  rw [show Phi m c 3 = _ from if_neg (by decide), show Phi m c 2 = _ from if_neg (by decide)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, %h7, H7⟩, ⟨%d8, %h8, H8⟩, ⟨%d9, %h9, H9⟩, ⟨%d10, -, H10⟩, ⟨%d11, -, H11⟩, ⟨%d12, -, H12⟩, ⟨%d13, -, H13⟩, ⟨%d14, -, H14⟩, ⟨%d15, -, H15⟩, ⟨%d16, -, H16⟩, ⟨%d17, -, H17⟩, ⟨%d18, -, H18⟩, ⟨%d19, -, H19⟩, ⟨%d20, -, H20⟩⟩
  obtain rfl : d7 = _ := rel_before m c (w := 7) rfl rfl flush0_7 t0_2 (by decide) h7
  obtain rfl : d8 = _ := rel_before m c (w := 8) rfl rfl flush0_8 t0_2 (by decide) h8
  replace h9 : QHeads m c 1 d9 := rel_before m c (w := 9) rfl rfl flush0_9 t0_2 (by decide) h9
  iapply ((run_C c (grid0.coords t0_2) _ _ _ _ _ _ _ _ _ _ _ _ _ _ _ _ _ _ _ _ _ _ _ _ _ _ _ _ _ _ _ _ _ _ _ _ _ _ _ _ _ _ _ _ _ _ (fun h => absurd ((hcond0_0 t0_2).mp h) (by decide)) (fun h => absurd ((hcond0_1 t0_2).mp h) (by decide)) (fun h => absurd ((hcond0_2 t0_2).mp h) (by decide)) ((hcond0_3 t0_2).mpr (by decide)) (fun h => absurd ((hcond0_4 t0_2).mp h) (by decide)) (fun h => absurd ((hcond0_5 t0_2).mp h) (by decide)) (fun h => absurd ((hcond0_6 t0_2).mp h) (by decide))
      (iblk m c 0 t0_2) (iblk m c 1 t0_2) (iblk m c 2 t0_2) (iblk m c 3 t0_2) (iblk m c 4 t0_2) (iblk m c 5 t0_2) (iblk m c 6 t0_2) (oCodes m c) (oScale m c) d9 (sCodes m c) (sSums m c)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  iintro ⟨H0, H1, H2, H3, H4, H5, H6, H7, H8, ⟨%X9, %p9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; exact qHeads_step m c t0_2 (by decide) p9.1 (fun _ => p9.2) (fun _ => h9)
  isplitl [H10]
  · iexists _; isplitr; swap; · iexact H10
    ipureintro; exact trivial
  isplitl [H11]
  · iexists _; isplitr; swap; · iexact H11
    ipureintro; exact trivial
  isplitl [H12]
  · iexists _; isplitr; swap; · iexact H12
    ipureintro; exact trivial
  isplitl [H13]
  · iexists _; isplitr; swap; · iexact H13
    ipureintro; exact fun h => absurd h (by decide)
  isplitl [H14]
  · iexists _; isplitr; swap; · iexact H14
    ipureintro; exact trivial
  isplitl [H15]
  · iexists _; isplitr; swap; · iexact H15
    ipureintro; exact fun h => absurd h (by decide)
  isplitl [H16]
  · iexists _; isplitr; swap; · iexact H16
    ipureintro; exact fun h => absurd h (by decide)
  isplitl [H17]
  · iexists _; isplitr; swap; · iexact H17
    ipureintro; exact fun h => absurd h (by decide)
  isplitl [H18]
  · iexists _; isplitr; swap; · iexact H18
    ipureintro; exact trivial
  isplitl [H19]
  · iexists _; isplitr; swap; · iexact H19
    ipureintro; exact fun h => absurd h (by decide)
  · iexists _; isplitr; swap; · iexact H20
    ipureintro; exact fun h => absurd h (by decide)

set_option maxHeartbeats 1600000 in
/-- The body at point 3. -/
theorem sound_D (c : Dev nD) : bodyPre m c t0_3 ⊢ wp frame (wpE (defs₀ (F := F)) Variants.none c none) Set.univ (bodyAt0 t0_3) (fun _ => bodyPost m c t0_3) := by
  unfold bodyPre bodyPost bodyAt0
  simp only [before0_0, before0_1, before0_2, before0_3, before0_4, before0_5, before0_6, after0_0, after0_1, after0_2, after0_3, after0_4, after0_5, after0_6]
  rw [show (dats m 0 c).owesAt () (t0_3).succ = (dats m 0 c).owesAt () (t0_3).castSucc from rfl]
  rw [show (dats m 0 c).Φ (t0_3).castSucc = Phi m c 3 from rfl, show (dats m 0 c).Φ (t0_3).succ = Phi m c 4 from rfl]
  rw [show Phi m c 4 = _ from if_neg (by decide), show Phi m c 3 = _ from if_neg (by decide)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, %h7, H7⟩, ⟨%d8, %h8, H8⟩, ⟨%d9, %h9, H9⟩, ⟨%d10, -, H10⟩, ⟨%d11, -, H11⟩, ⟨%d12, -, H12⟩, ⟨%d13, -, H13⟩, ⟨%d14, -, H14⟩, ⟨%d15, -, H15⟩, ⟨%d16, -, H16⟩, ⟨%d17, -, H17⟩, ⟨%d18, -, H18⟩, ⟨%d19, -, H19⟩, ⟨%d20, -, H20⟩⟩
  obtain rfl : d7 = _ := rel_before m c (w := 7) rfl rfl flush0_7 t0_3 (by decide) h7
  obtain rfl : d8 = _ := rel_before m c (w := 8) rfl rfl flush0_8 t0_3 (by decide) h8
  replace h9 : QHeads m c 2 d9 := rel_before m c (w := 9) rfl rfl flush0_9 t0_3 (by decide) h9
  iapply ((run_D c (grid0.coords t0_3) _ _ _ _ _ _ _ _ _ _ _ _ _ _ _ _ _ _ _ _ _ _ _ _ _ _ _ _ _ _ _ _ _ _ _ _ _ _ _ _ _ _ _ _ _ _ (fun h => absurd ((hcond0_0 t0_3).mp h) (by decide)) (fun h => absurd ((hcond0_1 t0_3).mp h) (by decide)) (fun h => absurd ((hcond0_2 t0_3).mp h) (by decide)) (fun h => absurd ((hcond0_3 t0_3).mp h) (by decide)) ((hcond0_4 t0_3).mpr (by decide)) (fun h => absurd ((hcond0_5 t0_3).mp h) (by decide)) (fun h => absurd ((hcond0_6 t0_3).mp h) (by decide))
      (iblk m c 0 t0_3) (iblk m c 1 t0_3) (iblk m c 2 t0_3) (iblk m c 3 t0_3) (iblk m c 4 t0_3) (iblk m c 5 t0_3) (iblk m c 6 t0_3) (oCodes m c) (oScale m c) d9 (sCodes m c) (sSums m c)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  iintro ⟨H0, H1, H2, H3, H4, H5, H6, H7, H8, ⟨%X9, %p9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, ⟨%X20, H20⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; exact qHeads_step m c t0_3 (by decide) p9.1 (fun _ => p9.2) (fun _ => h9)
  isplitl [H10]
  · iexists _; isplitr; swap; · iexact H10
    ipureintro; exact trivial
  isplitl [H11]
  · iexists _; isplitr; swap; · iexact H11
    ipureintro; exact trivial
  isplitl [H12]
  · iexists _; isplitr; swap; · iexact H12
    ipureintro; exact trivial
  isplitl [H13]
  · iexists _; isplitr; swap; · iexact H13
    ipureintro; exact fun h => absurd h (by decide)
  isplitl [H14]
  · iexists _; isplitr; swap; · iexact H14
    ipureintro; exact trivial
  isplitl [H15]
  · iexists _; isplitr; swap; · iexact H15
    ipureintro; exact fun h => absurd h (by decide)
  isplitl [H16]
  · iexists _; isplitr; swap; · iexact H16
    ipureintro; exact fun h => absurd h (by decide)
  isplitl [H17]
  · iexists _; isplitr; swap; · iexact H17
    ipureintro; exact fun h => absurd h (by decide)
  isplitl [H18]
  · iexists _; isplitr; swap; · iexact H18
    ipureintro; exact trivial
  isplitl [H19]
  · iexists _; isplitr; swap; · iexact H19
    ipureintro; exact fun h => absurd h (by decide)
  · iexists _; isplitr; swap; · iexact H20
    ipureintro; exact fun h => absurd h (by decide)

set_option maxHeartbeats 1600000 in
/-- The body at point 4. -/
theorem sound_E (c : Dev nD) : bodyPre m c t0_4 ⊢ wp frame (wpE (defs₀ (F := F)) Variants.none c none) Set.univ (bodyAt0 t0_4) (fun _ => bodyPost m c t0_4) := by
  unfold bodyPre bodyPost bodyAt0
  simp only [before0_0, before0_1, before0_2, before0_3, before0_4, before0_5, before0_6, after0_0, after0_1, after0_2, after0_3, after0_4, after0_5, after0_6]
  rw [show (dats m 0 c).owesAt () (t0_4).succ = (dats m 0 c).owesAt () (t0_4).castSucc from rfl]
  rw [show (dats m 0 c).Φ (t0_4).castSucc = Phi m c 4 from rfl, show (dats m 0 c).Φ (t0_4).succ = Phi m c 5 from rfl]
  rw [show Phi m c 5 = _ from if_neg (by decide), show Phi m c 4 = _ from if_neg (by decide)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, %h7, H7⟩, ⟨%d8, %h8, H8⟩, ⟨%d9, %h9, H9⟩, ⟨%d10, -, H10⟩, ⟨%d11, -, H11⟩, ⟨%d12, -, H12⟩, ⟨%d13, -, H13⟩, ⟨%d14, -, H14⟩, ⟨%d15, -, H15⟩, ⟨%d16, -, H16⟩, ⟨%d17, -, H17⟩, ⟨%d18, -, H18⟩, ⟨%d19, -, H19⟩, ⟨%d20, -, H20⟩⟩
  obtain rfl : d7 = _ := rel_before m c (w := 7) rfl rfl flush0_7 t0_4 (by decide) h7
  obtain rfl : d8 = _ := rel_before m c (w := 8) rfl rfl flush0_8 t0_4 (by decide) h8
  replace h9 : QHeads m c 3 d9 := rel_before m c (w := 9) rfl rfl flush0_9 t0_4 (by decide) h9
  iapply ((run_E c (grid0.coords t0_4) _ _ _ _ _ _ _ _ _ _ _ _ _ _ _ _ _ _ _ _ _ _ _ _ _ _ _ _ _ _ _ _ _ _ _ _ _ _ _ _ _ _ _ _ _ _ (fun h => absurd ((hcond0_0 t0_4).mp h) (by decide)) (fun h => absurd ((hcond0_1 t0_4).mp h) (by decide)) (fun h => absurd ((hcond0_2 t0_4).mp h) (by decide)) (fun h => absurd ((hcond0_3 t0_4).mp h) (by decide)) (fun h => absurd ((hcond0_4 t0_4).mp h) (by decide)) ((hcond0_5 t0_4).mpr (by decide)) (fun h => absurd ((hcond0_6 t0_4).mp h) (by decide))
      (iblk m c 0 t0_4) (iblk m c 1 t0_4) (iblk m c 2 t0_4) (iblk m c 3 t0_4) (iblk m c 4 t0_4) (iblk m c 5 t0_4) (iblk m c 6 t0_4) (oCodes m c) (oScale m c) d9 (sCodes m c) (sSums m c)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  iintro ⟨H0, H1, H2, H3, H4, H5, H6, H7, H8, H9, ⟨%X10, H10⟩, ⟨%X11, H11⟩, ⟨%X12, H12⟩, ⟨%X13, %p13, H13⟩, ⟨%X14, H14⟩, ⟨%X15, %p15, H15⟩, ⟨%X16, %p16, H16⟩, ⟨%X17, H17⟩, ⟨%X18, H18⟩, ⟨%X19, H19⟩, ⟨%X20, H20⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; exact qHeads_keep m c (by decide) h9
  isplitl [H10]
  · iexists _; isplitr; swap; · iexact H10
    ipureintro; exact trivial
  isplitl [H11]
  · iexists _; isplitr; swap; · iexact H11
    ipureintro; exact trivial
  isplitl [H12]
  · iexists _; isplitr; swap; · iexact H12
    ipureintro; exact trivial
  isplitl [H13]
  · iexists _; isplitr; swap; · iexact H13
    ipureintro; exact fun _ => p13
  isplitl [H14]
  · iexists _; isplitr; swap; · iexact H14
    ipureintro; exact trivial
  isplitl [H15]
  · iexists _; isplitr; swap; · iexact H15
    ipureintro; exact fun _ => p15
  isplitl [H16]
  · iexists _; isplitr; swap; · iexact H16
    ipureintro; exact fun _ => p16
  isplitl [H17]
  · iexists _; isplitr; swap; · iexact H17
    ipureintro; exact fun h => absurd h (by decide)
  isplitl [H18]
  · iexists _; isplitr; swap; · iexact H18
    ipureintro; exact trivial
  isplitl [H19]
  · iexists _; isplitr; swap; · iexact H19
    ipureintro; exact fun h => absurd h (by decide)
  · iexists _; isplitr; swap; · iexact H20
    ipureintro; exact fun h => absurd h (by decide)

set_option maxHeartbeats 1600000 in
/-- The body at point 5. -/
theorem sound_F (c : Dev nD) : bodyPre m c t0_5 ⊢ wp frame (wpE (defs₀ (F := F)) Variants.none c none) Set.univ (bodyAt0 t0_5) (fun _ => bodyPost m c t0_5) := by
  unfold bodyPre bodyPost bodyAt0
  simp only [before0_0, before0_1, before0_2, before0_3, before0_4, before0_5, before0_6, after0_0, after0_1, after0_2, after0_3, after0_4, after0_5, after0_6]
  rw [show (dats m 0 c).owesAt () (t0_5).succ = (dats m 0 c).owesAt () (t0_5).castSucc from rfl]
  rw [show (dats m 0 c).Φ (t0_5).castSucc = Phi m c 5 from rfl, show (dats m 0 c).Φ (t0_5).succ = Phi m c 6 from rfl]
  rw [show Phi m c 6 = _ from if_neg (by decide), show Phi m c 5 = _ from if_neg (by decide)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, %h7, H7⟩, ⟨%d8, %h8, H8⟩, ⟨%d9, %h9, H9⟩, ⟨%d10, -, H10⟩, ⟨%d11, -, H11⟩, ⟨%d12, -, H12⟩, ⟨%d13, %h13, H13⟩, ⟨%d14, -, H14⟩, ⟨%d15, %h15, H15⟩, ⟨%d16, %h16, H16⟩, ⟨%d17, -, H17⟩, ⟨%d18, -, H18⟩, ⟨%d19, -, H19⟩, ⟨%d20, -, H20⟩⟩
  obtain rfl : d7 = _ := rel_before m c (w := 7) rfl rfl flush0_7 t0_5 (by decide) h7
  obtain rfl : d8 = _ := rel_before m c (w := 8) rfl rfl flush0_8 t0_5 (by decide) h8
  replace h9 : QHeads m c 4 d9 := rel_before m c (w := 9) rfl rfl flush0_9 t0_5 (by decide) h9
  replace h13 := rel_before m c (w := 13) rfl rfl flush0_13 t0_5 (by decide) h13
  replace h15 := rel_before m c (w := 15) rfl rfl flush0_15 t0_5 (by decide) h15
  replace h16 := rel_before m c (w := 16) rfl rfl flush0_16 t0_5 (by decide) h16
  iapply ((run_F c (grid0.coords t0_5) _ _ _ _ _ _ _ _ _ _ _ _ _ _ _ _ _ _ _ _ _ _ _ _ _ _ _ _ _ _ _ _ _ _ _ _ _ _ _ _ _ _ _ _ _ _ (fun h => absurd ((hcond0_0 t0_5).mp h) (by decide)) (fun h => absurd ((hcond0_1 t0_5).mp h) (by decide)) (fun h => absurd ((hcond0_2 t0_5).mp h) (by decide)) (fun h => absurd ((hcond0_3 t0_5).mp h) (by decide)) (fun h => absurd ((hcond0_4 t0_5).mp h) (by decide)) (fun h => absurd ((hcond0_5 t0_5).mp h) (by decide)) ((hcond0_6 t0_5).mpr (by decide))
      (iblk m c 0 t0_5) (iblk m c 1 t0_5) (iblk m c 2 t0_5) (iblk m c 3 t0_5) (iblk m c 4 t0_5) (iblk m c 5 t0_5) (iblk m c 6 t0_5) (oCodes m c) (oScale m c) d9 d13 d15 d16 (sCodes m c) (sSums m c)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [H14]; · iexists _; iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  iintro ⟨H0, H1, H2, H3, H4, H5, H6, H7, H8, H9, ⟨%X10, H10⟩, ⟨%X11, H11⟩, ⟨%X12, H12⟩, H13, ⟨%X14, H14⟩, H15, H16, ⟨%X17, %p17, H17⟩, ⟨%X18, H18⟩, ⟨%X19, %p19, H19⟩, ⟨%X20, %p20, H20⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; exact qHeads_keep m c (by decide) h9
  isplitl [H10]
  · iexists _; isplitr; swap; · iexact H10
    ipureintro; exact trivial
  isplitl [H11]
  · iexists _; isplitr; swap; · iexact H11
    ipureintro; exact trivial
  isplitl [H12]
  · iexists _; isplitr; swap; · iexact H12
    ipureintro; exact trivial
  isplitl [H13]
  · iexists _; isplitr; swap; · iexact H13
    ipureintro; exact fun _ => h13 (by decide)
  isplitl [H14]
  · iexists _; isplitr; swap; · iexact H14
    ipureintro; exact trivial
  isplitl [H15]
  · iexists _; isplitr; swap; · iexact H15
    ipureintro; exact fun _ => h15 (by decide)
  isplitl [H16]
  · iexists _; isplitr; swap; · iexact H16
    ipureintro; exact fun _ => h16 (by decide)
  isplitl [H17]
  · iexists _; isplitr; swap; · iexact H17
    ipureintro; exact fun _ => p17
  isplitl [H18]
  · iexists _; isplitr; swap; · iexact H18
    ipureintro; exact trivial
  isplitl [H19]
  · iexists _; isplitr; swap; · iexact H19
    ipureintro; exact fun _ => p19
  · iexists _; isplitr; swap; · iexact H20
    ipureintro; exact fun _ => p20

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 6 := lt_of_lt_of_eq t.isLt (show cfg0.N = 6 from N_0)
  obtain h | h | h | h | h | h : t.val = 0 ∨ t.val = 1 ∨ t.val = 2 ∨ t.val = 3 ∨ t.val = 4 ∨ t.val = 5 := by omega
  · exact (show t = t0_0 from Fin.ext h) ▸ sound_A m c
  · exact (show t = t0_1 from Fin.ext h) ▸ sound_B m c
  · exact (show t = t0_2 from Fin.ext h) ▸ sound_C m c
  · exact (show t = t0_3 from Fin.ext h) ▸ sound_D m c
  · exact (show t = t0_4 from Fin.ext h) ▸ sound_E m c
  · exact (show t = t0_5 from Fin.ext h) ▸ sound_F m c

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : Pipeline.BodyObligationRel (dats (F := F) m 0 c) (defs₀ (F := F)) Variants.none () Set.univ marked (Rl m c) := fun t => by
  rw [bigSep_W0, bigSep_W0, defs₀_row]
  exact triple_restated (sound_body m c t) rfl .rfl fun _ => .rfl

/-- Before the first point the invariant is the scratch at anything. -/
theorem phi_in (c : Dev nD) : Pipeline.ΦA spec0 c ⊢ (dats m 0 c).Φ 0 := by
  rw [show (dats m 0 c).Φ 0 = Phi m c 0 from rfl, show Phi m c 0 = _ from if_pos rfl]

/-- After the last point the scratch is given back at what it holds. -/
theorem phi_out (c : Dev nD) : (dats m 0 c).Φ (Fin.last cfg0.N) ⊢ (Pipeline.ΦA spec0 c : sProp 𝕄) := by
  rw [show (dats m 0 c).Φ (Fin.last cfg0.N) = Phi m c cfg0.N from rfl, show Phi m c cfg0.N = _ from if_neg (by rw [show cfg0.N = 6 from N_0]; decide), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The run: every weakly fair execution ends with every array at contents the proof data name, and every semaphore counter at zero. -/
theorem run_main : θ_run defs (onTc (τ := τ) (main (F := F))) (s₀ m ρ) (fun r => (Pipeline.RDat.FramePost (cfgs 0) (fun c => rdats m c) (V m)) r ∧ r.2.sem = fun _ => 0) :=
  Pipeline.RDat.θ_run_frame_track (Q' := _) cfgs (0 : Fin 1) launch0 defs₀ Variants.none (fun c => rdats m c) m ρ main
    (fun c => (body_obligation m c).toRRel) (fun c => (dats m 0 c).share_full fun _ => rfl)
    (fun _ _ => rfl) (V m) (hmain m Variants.none) (A_eq m) (phi_in m) (phi_out m)

/-- What an input window stages, and every array no window stages, is as launched after the run. -/
theorem kept (r : PUnit × MemSt nD τ sig (Elt F)) (h : Pipeline.RDat.FramePost (cfgs 0) (fun c => rdats m c) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (h.arr_in c 2 rfl).trans ((A_eq m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩

/-- The frame: every weakly fair execution ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => kept m r h.1 c, h.2⟩) (run_main m ρ)

/-- The run with its claimed result arrays described. -/
theorem run_blocks : θ_run defs (onTc (τ := τ) (main (F := F))) ⟨m, fun _ => 0, ρ⟩ fun r => ∀ c : Dev nD,
      r.2.mem ((c : Thread nD τ).loc main_v6_0) = oCodes m c
      ∧ r.2.mem ((c : Thread nD τ).loc main_v6_1) = oScale m c
      ∧ QHeads m c 5 (r.2.mem ((c : Thread nD τ).loc main_v6_2))
      ∧ CodesAt (keyHead m c) (r.2.mem ((c : Thread nD τ).loc main_v6_6))
      ∧ ColsAt (fun i => step (keyHead m c i)) (r.2.mem ((c : Thread nD τ).loc main_v6_8))
      ∧ ColsAt (fun i => low (keyHead m c i)) (r.2.mem ((c : Thread nD τ).loc main_v6_9))
      ∧ CodesAt (valHead m c) (r.2.mem ((c : Thread nD τ).loc main_v6_10))
      ∧ ColsAt (fun i => step (valHead m c i)) (r.2.mem ((c : Thread nD τ).loc main_v6_12))
      ∧ ColsAt (fun i => low (valHead m c i)) (r.2.mem ((c : Thread nD τ).loc main_v6_13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨?_, ?_, ?_, ?_, ?_, ?_, ?_, ?_, ?_, kept m r h.1 c⟩) (run_main m ρ)
  · obtain ⟨X, hX, hj⟩ := Common.arr_of_rel (dats m 0 c) (w := 7) rfl ((h.1 c).1 7) t0_5 (by decide +kernel)
    have e : r.2.mem ((c : Thread nD τ).loc main_v6_0) = X := funext fun j => hj j
    rw [e]
    exact hX
  · obtain ⟨X, hX, hj⟩ := Common.arr_of_rel (dats m 0 c) (w := 8) rfl ((h.1 c).1 8) t0_5 (by decide +kernel)
    have e : r.2.mem ((c : Thread nD τ).loc main_v6_1) = X := funext fun j => hj j
    rw [e]
    exact hX
  · obtain ⟨X, hX, hj⟩ := Common.arr_of_rel (dats m 0 c) (w := 9) rfl ((h.1 c).1 9) t0_5 (by decide +kernel)
    have e : r.2.mem ((c : Thread nD τ).loc main_v6_2) = X := funext fun j => hj j
    rw [e]
    exact hX
  · obtain ⟨X, hX, hj⟩ := Common.arr_of_rel (dats m 0 c) (w := 13) rfl ((h.1 c).1 13) t0_5 (by decide +kernel)
    have e : r.2.mem ((c : Thread nD τ).loc main_v6_6) = X := funext fun j => hj j
    rw [e]
    exact hX (by decide)
  · obtain ⟨X, hX, hj⟩ := Common.arr_of_rel (dats m 0 c) (w := 15) rfl ((h.1 c).1 15) t0_5 (by decide +kernel)
    have e : r.2.mem ((c : Thread nD τ).loc main_v6_8) = X := funext fun j => hj j
    rw [e]
    exact hX (by decide)
  · obtain ⟨X, hX, hj⟩ := Common.arr_of_rel (dats m 0 c) (w := 16) rfl ((h.1 c).1 16) t0_5 (by decide +kernel)
    have e : r.2.mem ((c : Thread nD τ).loc main_v6_9) = X := funext fun j => hj j
    rw [e]
    exact hX (by decide)
  · obtain ⟨X, hX, hj⟩ := Common.arr_of_rel (dats m 0 c) (w := 17) rfl ((h.1 c).1 17) t0_5 (by decide +kernel)
    have e : r.2.mem ((c : Thread nD τ).loc main_v6_10) = X := funext fun j => hj j
    rw [e]
    exact hX (by decide)
  · obtain ⟨X, hX, hj⟩ := Common.arr_of_rel (dats m 0 c) (w := 19) rfl ((h.1 c).1 19) t0_5 (by decide +kernel)
    have e : r.2.mem ((c : Thread nD τ).loc main_v6_12) = X := funext fun j => hj j
    rw [e]
    exact hX (by decide)
  · obtain ⟨X, hX, hj⟩ := Common.arr_of_rel (dats m 0 c) (w := 20) rfl ((h.1 c).1 20) t0_5 (by decide +kernel)
    have e : r.2.mem ((c : Thread nD τ).loc main_v6_13) = X := funext fun j => hj j
    rw [e]
    exact hX (by decide)

end Cert.QkvIdeal.Hand

end
-- ==== Proof.QkvArrays.lean ====
/-
  Hand-written, untrusted. The arrays the QKV projection works on as functions of its arguments, and its windows' blocks as parts of them.
-/
module

public import proofs.«01_k».proof.Proof.QkvSpec
public import proofs.«01_k».proof.Proof.Gen.QkvIdeal.Launch
public import Idealize.ShloMosaic.Lib.Pipeline.Value
public import Idealize.ShloMosaic.Lib.Pipeline.ValueKit

@[expose] public section

set_option maxRecDepth 16384

noncomputable section

namespace Cert.QkvIdeal.Hand

open Cert.QkvIdeal Cert.QkvIdeal.Gen
open Idealize.ShloMosaic hiding ix1 ix2 eq_ix2
open Idealize.ShloMosaic.ValueIdx (ix1 ix2 eq_ix2)
open Idealize.ShloMosaic.TcCoe Idealize.SL.Sem Idealize.ShloMosaic.Tactic

variable {F : FTy → Type} [FloatOps F]
variable (m : (ℓ : Loc nD τ sig) → Buf (Elt F) ℓ)

/-- The activation rows without their unit axis. -/
theorem V_main_v0 (c : Dev nD) : V m c main_v0 = shapeCast S24x4096 (m ((c : Thread nD τ).loc main_arg0)) shapeCasts_S24x1x4096_S24x4096 := by
  unfold_abbrev_sides; after_results; rfl
/-- The norm's gains as a row. -/
theorem V_main_v1 (c : Dev nD) : V m c main_v1 = broadcastInDim S1x4096 ![1] bcast_S4096_S1x4096_1 (m ((c : Thread nD τ).loc main_arg1)) := by
  unfold_abbrev_sides; after_results
/-- The weight scales as a row. -/
theorem V_main_v2 (c : Dev nD) : V m c main_v2 = broadcastInDim S1x6144 ![1] bcast_S6144_S1x6144_1 (m ((c : Thread nD τ).loc main_arg3)) := by
  unfold_abbrev_sides; after_results
/-- The weight zeros as a row. -/
theorem V_main_v3 (c : Dev nD) : V m c main_v3 = broadcastInDim S1x6144 ![1] bcast_S6144_S1x6144_1 (m ((c : Thread nD τ).loc main_arg4)) := by
  unfold_abbrev_sides; after_results
/-- The cosines without their unit axis. -/
theorem V_main_v4 (c : Dev nD) : V m c main_v4 = shapeCast S24x64 (m ((c : Thread nD τ).loc main_arg5)) shapeCasts_S24x1x64_S24x64 := by
  unfold_abbrev_sides; after_results; rfl
/-- The sines without their unit axis. -/
theorem V_main_v5 (c : Dev nD) : V m c main_v5 = shapeCast S24x64 (m ((c : Thread nD τ).loc main_arg6)) shapeCasts_S24x1x64_S24x64 := by
  unfold_abbrev_sides; after_results; rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)

/-- Every block of window 0 is the whole array. -/
theorem iblk0_eq (c : Dev nD) (t : Fin cfg0.N) : iblk m c 0 t = V m c main_v0 := by
  funext y
  have e := idx0 t
  blk_simp [iblk]
  refine congrArg (V m c main_v0) ?_
  blk_ext [e]
/-- Every block of window 1 is the whole array. -/
theorem iblk1_eq (c : Dev nD) (t : Fin cfg0.N) : iblk m c 1 t = V m c main_v1 := by
  funext y
  have e := idx1 t
  blk_simp [iblk]
  refine congrArg (V m c main_v1) ?_
  blk_ext [e]
/-- Every block of window 5 is the whole array. -/
theorem iblk5_eq (c : Dev nD) (t : Fin cfg0.N) : iblk m c 5 t = V m c main_v4 := by
  funext y
  have e := idx5 t
  blk_simp [iblk]
  refine congrArg (V m c main_v4) ?_
  blk_ext [e]
/-- Every block of window 6 is the whole array. -/
theorem iblk6_eq (c : Dev nD) (t : Fin cfg0.N) : iblk m c 6 t = V m c main_v5 := by
  funext y
  have e := idx6 t
  blk_simp [iblk]
  refine congrArg (V m c main_v5) ?_
  blk_ext [e]

/-- Column `j` of tile `t` as a column of the whole array. -/
def col (t : Fin cfg0.N) (j : Fin 1024) : Fin 6144 := ⟨1024 * t.val + j.val, by have h : t.val < 6 := t.isLt; omega⟩

/-- A block of window 2 is its tile's columns. -/
theorem iblk2_at (c : Dev nD) (t : Fin cfg0.N) (r : Fin 2048) (j : Fin 1024) : iblk m c 2 t (ix2 r j) = V m c main_arg2 (ix2 r (col t j)) := by
  have e := idx2 t
  blk_simp [iblk]
  refine congrArg (V m c main_arg2) ?_
  unfold col
  blk_ext [e]
  show t.val * 1024 + j.val = 1024 * t.val + j.val
  omega
/-- A block of window 3 is its tile's columns. -/
theorem iblk3_at (c : Dev nD) (t : Fin cfg0.N) (r : Fin 1) (j : Fin 1024) : iblk m c 3 t (ix2 r j) = V m c main_v2 (ix2 r (col t j)) := by
  have e := idx3 t
  blk_simp [iblk]
  refine congrArg (V m c main_v2) ?_
  unfold col
  blk_ext [e]
  show t.val * 1024 + j.val = 1024 * t.val + j.val
  omega
/-- A block of window 4 is its tile's columns. -/
theorem iblk4_at (c : Dev nD) (t : Fin cfg0.N) (r : Fin 1) (j : Fin 1024) : iblk m c 4 t (ix2 r j) = V m c main_v3 (ix2 r (col t j)) := by
  have e := idx4 t
  blk_simp [iblk]
  refine congrArg (V m c main_v3) ?_
  unfold col
  blk_ext [e]
  show t.val * 1024 + j.val = 1024 * t.val + j.val
  omega

end Cert.QkvIdeal.Hand

end
-- ==== Proof.QkvRefValue.lean ====
/-
  Hand-written, untrusted. The run of the QKV projection's reference with its nine results named as functions of the arguments.
-/
module

public import proofs.«01_k».proof.Proof.Gen.QkvRefIdeal.Frame
public import Idealize.ShloMosaic.Lib.Pipeline.Value
public import Idealize.ShloMosaic.Lib.Pipeline.ValueKit
public import Idealize.ShloMosaic.Lib.Claim

@[expose] public section

set_option maxRecDepth 16384

noncomputable section

namespace Cert.QkvRefIdeal.Hand

open Cert.QkvRefIdeal Cert.QkvRefIdeal.Gen Idealize.ShloMosaic Idealize.ShloMosaic.TcCoe Idealize.SL.Sem Idealize.ShloMosaic.Tactic
open Idealize.ShloMosaic.Pipeline (Dat)

variable {F : FTy → Type} [FloatOps F]

/-! ## The results as functions of the arrays the region works on -/

/-- The projected rows, all 6144 columns of them. -/
def proj (x0 : Vec F S24x4096 .bf16) (x1 : Vec F S1x4096 .f32) (x2 : Vec F S2048x6144 .i8) (x3 x4 : Vec F S1x6144 .f32) : FVec F S24x6144 .f32 := k0_pay7 (k0_pay3 x0 x1) (k0_pay4 x0 x1) x2 x3 x4
/-- The query heads after the rotary embedding. -/
def queries (x0 : Vec F S24x4096 .bf16) (x1 : Vec F S1x4096 .f32) (x2 : Vec F S2048x6144 .i8) (x3 x4 : Vec F S1x6144 .f32) (x5 x6 : Vec F S24x64 .f32) : FVec F S24x32x128 .f32 := k0_pay8 (k0_pay3 x0 x1) (k0_pay4 x0 x1) x2 x3 x4 x5 x6
/-- The key heads after the rotary embedding. -/
def keys (x0 : Vec F S24x4096 .bf16) (x1 : Vec F S1x4096 .f32) (x2 : Vec F S2048x6144 .i8) (x3 x4 : Vec F S1x6144 .f32) (x5 x6 : Vec F S24x64 .f32) : FVec F S24x8x128 .f32 := k0_pay11 (k0_pay9 (k0_pay3 x0 x1) (k0_pay4 x0 x1) x2 x3 x4) x5 x6
/-- The value heads. -/
def values (x0 : Vec F S24x4096 .bf16) (x1 : Vec F S1x4096 .f32) (x2 : Vec F S2048x6144 .i8) (x3 x4 : Vec F S1x6144 .f32) : FVec F S24x8x128 .f32 := k0_pay12 (proj x0 x1 x2 x3 x4)
/-- The packed four-bit codes of eight heads. -/
def packedR (v : FVec F S24x8x128 .f32) : IVec S24x8x128 32 := k0_pay1 (k0_pay20 v) k0_pay21

variable (m : (ℓ : Loc nD τ sig) → Buf (Elt F) ℓ) (ρ : Dev nD → PrngReg)

/-- The run with each output array named, the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 7 cfg0.N
      ∧ r.2.mem ((c : Thread nD τ).loc main_v6_1) = (dats m 0 c).arrAt 8 cfg0.N
      ∧ r.2.mem ((c : Thread nD τ).loc main_v6_2) = (dats m 0 c).arrAt 9 cfg0.N
      ∧ r.2.mem ((c : Thread nD τ).loc main_v6_3) = (dats m 0 c).arrAt 10 cfg0.N
      ∧ r.2.mem ((c : Thread nD τ).loc main_v6_4) = (dats m 0 c).arrAt 11 cfg0.N
      ∧ r.2.mem ((c : Thread nD τ).loc main_v6_5) = (dats m 0 c).arrAt 12 cfg0.N
      ∧ r.2.mem ((c : Thread nD τ).loc main_v6_6) = (dats m 0 c).arrAt 13 cfg0.N
      ∧ r.2.mem ((c : Thread nD τ).loc main_v6_7) = (dats m 0 c).arrAt 14 cfg0.N
      ∧ r.2.mem ((c : Thread nD τ).loc main_v6_8) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 7,
      (h c).1 8,
      (h c).1 9,
      (h c).1 10,
      (h c).1 11,
      (h c).1 12,
      (h c).1 13,
      (h c).1 14,
      (h c).1 15,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

/-- The one grid point. -/
def t₀ : Fin cfg0.N := ⟨0, by decide⟩

/-! ## The arrays the region works on, as functions of the arguments -/

/-- The activation rows without their unit axis. -/
theorem V_main_v0 (c : Dev nD) : V m c main_v0 = shapeCast S24x4096 (m ((c : Thread nD τ).loc main_arg0)) shapeCasts_S24x1x4096_S24x4096 := by
  unfold_abbrev_sides; after_results; rfl
/-- The norm's gains as a row. -/
theorem V_main_v1 (c : Dev nD) : V m c main_v1 = broadcastInDim S1x4096 ![1] bcast_S4096_S1x4096_1 (m ((c : Thread nD τ).loc main_arg1)) := by
  unfold_abbrev_sides; after_results
/-- The weight scales as a row. -/
theorem V_main_v2 (c : Dev nD) : V m c main_v2 = broadcastInDim S1x6144 ![1] bcast_S6144_S1x6144_1 (m ((c : Thread nD τ).loc main_arg3)) := by
  unfold_abbrev_sides; after_results
/-- The weight zeros as a row. -/
theorem V_main_v3 (c : Dev nD) : V m c main_v3 = broadcastInDim S1x6144 ![1] bcast_S6144_S1x6144_1 (m ((c : Thread nD τ).loc main_arg4)) := by
  unfold_abbrev_sides; after_results
/-- The cosines without their unit axis. -/
theorem V_main_v4 (c : Dev nD) : V m c main_v4 = shapeCast S24x64 (m ((c : Thread nD τ).loc main_arg5)) shapeCasts_S24x1x64_S24x64 := by
  unfold_abbrev_sides; after_results; rfl
/-- The sines without their unit axis. -/
theorem V_main_v5 (c : Dev nD) : V m c main_v5 = shapeCast S24x64 (m ((c : Thread nD τ).loc main_arg6)) shapeCasts_S24x1x64_S24x64 := by
  unfold_abbrev_sides; after_results; rfl

/-- Window 0's one block is its whole array. -/
theorem iblk_0 (c : Dev nD) : iblk m c 0 t₀ = V m c main_v0 := by
  funext y
  have e : win0_0.index t₀ = ![0, 0] := by decide +kernel
  blk_simp [iblk]
  refine congrArg (V m c main_v0) ?_
  blk_ext [e]
/-- Window 1's one block is its whole array. -/
theorem iblk_1 (c : Dev nD) : iblk m c 1 t₀ = V m c main_v1 := by
  funext y
  have e : win0_1.index t₀ = ![0, 0] := by decide +kernel
  blk_simp [iblk]
  refine congrArg (V m c main_v1) ?_
  blk_ext [e]
/-- Window 2's one block is its whole array. -/
theorem iblk_2 (c : Dev nD) : iblk m c 2 t₀ = V m c main_arg2 := by
  funext y
  have e : win0_2.index t₀ = ![0, 0] := by decide +kernel
  blk_simp [iblk]
  refine congrArg (V m c main_arg2) ?_
  blk_ext [e]
/-- Window 3's one block is its whole array. -/
theorem iblk_3 (c : Dev nD) : iblk m c 3 t₀ = V m c main_v2 := by
  funext y
  have e : win0_3.index t₀ = ![0, 0] := by decide +kernel
  blk_simp [iblk]
  refine congrArg (V m c main_v2) ?_
  blk_ext [e]
/-- Window 4's one block is its whole array. -/
theorem iblk_4 (c : Dev nD) : iblk m c 4 t₀ = V m c main_v3 := by
  funext y
  have e : win0_4.index t₀ = ![0, 0] := by decide +kernel
  blk_simp [iblk]
  refine congrArg (V m c main_v3) ?_
  blk_ext [e]
/-- Window 5's one block is its whole array. -/
theorem iblk_5 (c : Dev nD) : iblk m c 5 t₀ = V m c main_v4 := by
  funext y
  have e : win0_5.index t₀ = ![0, 0] := by decide +kernel
  blk_simp [iblk]
  refine congrArg (V m c main_v4) ?_
  blk_ext [e]
/-- Window 6's one block is its whole array. -/
theorem iblk_6 (c : Dev nD) : iblk m c 6 t₀ = V m c main_v5 := by
  funext y
  have e : win0_6.index t₀ = ![0, 0] := by decide +kernel
  blk_simp [iblk]
  refine congrArg (V m c main_v5) ?_
  blk_ext [e]

theorem hz2 (a b : ℕ) : (![0, 0] : Fin (⟨2, ![a, b]⟩ : Shape).rank → ℕ) = fun _ => 0 := funext fun k => by fin_cases k <;> rfl
theorem hz3 (a b d : ℕ) : (![0, 0, 0] : Fin (⟨3, ![a, b, d]⟩ : Shape).rank → ℕ) = fun _ => 0 := funext fun k => by fin_cases k <;> rfl

theorem ld0 (x : Vec F S24x4096 .bf16) : View.ld x r0_0 = x := View.ld_unit_zero (hz2 24 4096) _ _
theorem ld1 (x : Vec F S1x4096 .f32) : View.ld x r0_1 = x := View.ld_unit_zero (hz2 1 4096) _ _
theorem ld2 (x : Vec F S2048x6144 .i8) : View.ld x r0_2 = x := View.ld_unit_zero (hz2 2048 6144) _ _
theorem ld3 (x : Vec F S1x6144 .f32) : View.ld x r0_3 = x := View.ld_unit_zero (hz2 1 6144) _ _
theorem ld4 (x : Vec F S24x64 .f32) : View.ld x r0_4 = x := View.ld_unit_zero (hz2 24 64) _ _

/-- The codes of the normed rows. -/
theorem out7_eq (x0 : Vec F S24x4096 .bf16) (x1 : Vec F S1x4096 .f32) (x2 : Vec F S2048x6144 .i8) (x3 x4 : Vec F S1x6144 .f32) (x5 x6 : Vec F S24x64 .f32) : out0_7 x0 x1 x2 x3 x4 x5 x6 = k0_pay4 x0 x1 := by
  unfold out0_7 k0_pay23
  rw [View.canon_unit_zero (hz2 24 4096)]
  simp only [ld0, ld1, ld2, ld3, ld4, k0_pay5, k0_pay6, k0_pay10, shapeCast_self]
  try rfl
/-- Their scales. -/
theorem out8_eq (x0 : Vec F S24x4096 .bf16) (x1 : Vec F S1x4096 .f32) (x2 : Vec F S2048x6144 .i8) (x3 x4 : Vec F S1x6144 .f32) (x5 x6 : Vec F S24x64 .f32) : out0_8 x0 x1 x2 x3 x4 x5 x6 = k0_pay3 x0 x1 := by
  unfold out0_8 k0_pay22
  rw [View.canon_unit_zero (hz2 24 1)]
  simp only [ld0, ld1, ld2, ld3, ld4, k0_pay5, k0_pay6, k0_pay10, shapeCast_self]
  try rfl
/-- The query heads. -/
theorem out9_eq (x0 : Vec F S24x4096 .bf16) (x1 : Vec F S1x4096 .f32) (x2 : Vec F S2048x6144 .i8) (x3 x4 : Vec F S1x6144 .f32) (x5 x6 : Vec F S24x64 .f32) : out0_9 x0 x1 x2 x3 x4 x5 x6 = queries x0 x1 x2 x3 x4 x5 x6 := by
  unfold out0_9 k0_pay25 k0_pay24 k0_pay23 k0_pay22
  rw [View.canon_unit_zero (hz3 24 32 128)]
  simp only [ld0, ld1, ld2, ld3, ld4, k0_pay5, k0_pay6, k0_pay10, shapeCast_self]
  try rfl
/-- The packed codes of the keys. -/
theorem out10_eq (x0 : Vec F S24x4096 .bf16) (x1 : Vec F S1x4096 .f32) (x2 : Vec F S2048x6144 .i8) (x3 x4 : Vec F S1x6144 .f32) (x5 x6 : Vec F S24x64 .f32) : out0_10 x0 x1 x2 x3 x4 x5 x6 = packedR (keys x0 x1 x2 x3 x4 x5 x6) := by
  unfold out0_10 k0_pay27 k0_pay26 k0_pay25 k0_pay24 k0_pay23 k0_pay22
  rw [View.canon_unit_zero (hz3 24 8 128)]
  simp only [ld0, ld1, ld2, ld3, ld4, k0_pay5, k0_pay6, k0_pay10, shapeCast_self]
  try rfl
/-- The scales of the keys. -/
theorem out11_eq (x0 : Vec F S24x4096 .bf16) (x1 : Vec F S1x4096 .f32) (x2 : Vec F S2048x6144 .i8) (x3 x4 : Vec F S1x6144 .f32) (x5 x6 : Vec F S24x64 .f32) : out0_11 x0 x1 x2 x3 x4 x5 x6 = k0_pay19 (keys x0 x1 x2 x3 x4 x5 x6) := by
  unfold out0_11 k0_pay27 k0_pay26 k0_pay25 k0_pay24 k0_pay23 k0_pay22
  rw [View.canon_unit_zero (hz2 24 8)]
  simp only [ld0, ld1, ld2, ld3, ld4, k0_pay5, k0_pay6, k0_pay10, shapeCast_self]
  try rfl
/-- The minima of the keys. -/
theorem out12_eq (x0 : Vec F S24x4096 .bf16) (x1 : Vec F S1x4096 .f32) (x2 : Vec F S2048x6144 .i8) (x3 x4 : Vec F S1x6144 .f32) (x5 x6 : Vec F S24x64 .f32) : out0_12 x0 x1 x2 x3 x4 x5 x6 = k0_pay18 (keys x0 x1 x2 x3 x4 x5 x6) := by
  unfold out0_12 k0_pay27 k0_pay26 k0_pay25 k0_pay24 k0_pay23 k0_pay22
  rw [View.canon_unit_zero (hz2 24 8)]
  simp only [ld0, ld1, ld2, ld3, ld4, k0_pay5, k0_pay6, k0_pay10, shapeCast_self]
  try rfl
/-- The packed codes of the values. -/
theorem out13_eq (x0 : Vec F S24x4096 .bf16) (x1 : Vec F S1x4096 .f32) (x2 : Vec F S2048x6144 .i8) (x3 x4 : Vec F S1x6144 .f32) (x5 x6 : Vec F S24x64 .f32) : out0_13 x0 x1 x2 x3 x4 x5 x6 = packedR (values x0 x1 x2 x3 x4) := by
  unfold out0_13 k0_pay28 k0_pay25 k0_pay24 k0_pay23 k0_pay22
  rw [View.canon_unit_zero (hz3 24 8 128)]
  simp only [ld0, ld1, ld2, ld3, ld4, k0_pay5, k0_pay6, k0_pay10, shapeCast_self]
  try rfl
/-- The scales of the values. -/
theorem out14_eq (x0 : Vec F S24x4096 .bf16) (x1 : Vec F S1x4096 .f32) (x2 : Vec F S2048x6144 .i8) (x3 x4 : Vec F S1x6144 .f32) (x5 x6 : Vec F S24x64 .f32) : out0_14 x0 x1 x2 x3 x4 x5 x6 = k0_pay19 (values x0 x1 x2 x3 x4) := by
  unfold out0_14 k0_pay28 k0_pay25 k0_pay24 k0_pay23 k0_pay22
  rw [View.canon_unit_zero (hz2 24 8)]
  simp only [ld0, ld1, ld2, ld3, ld4, k0_pay5, k0_pay6, k0_pay10, shapeCast_self]
  try rfl
/-- The minima of the values. -/
theorem out15_eq (x0 : Vec F S24x4096 .bf16) (x1 : Vec F S1x4096 .f32) (x2 : Vec F S2048x6144 .i8) (x3 x4 : Vec F S1x6144 .f32) (x5 x6 : Vec F S24x64 .f32) : out0_15 x0 x1 x2 x3 x4 x5 x6 = k0_pay18 (values x0 x1 x2 x3 x4) := by
  unfold out0_15 k0_pay28 k0_pay25 k0_pay24 k0_pay23 k0_pay22
  rw [View.canon_unit_zero (hz2 24 8)]
  simp only [ld0, ld1, ld2, ld3, ld4, k0_pay5, k0_pay6, k0_pay10, shapeCast_self]
  try rfl

/-- Output window 7's array after the run. -/
theorem final7 (c : Dev nD) : (dats m 0 c).arrAt 7 cfg0.N = k0_pay4 (V m c main_v0) (V m c main_v1) := by
  refine (dats m 0 c).arrAt_eq_of_after_last 7 t₀ (by decide +kernel) _ fun j => ?_
  rw [after0_7, iblk_0, iblk_1, iblk_2, iblk_3, iblk_4, iblk_5, iblk_6, out7_eq]
  generalize k0_pay4 (V m c main_v0) (V m c main_v1) = X
  rfl

/-- Output window 8's array after the run. -/
theorem final8 (c : Dev nD) : (dats m 0 c).arrAt 8 cfg0.N = k0_pay3 (V m c main_v0) (V m c main_v1) := by
  refine (dats m 0 c).arrAt_eq_of_after_last 8 t₀ (by decide +kernel) _ fun j => ?_
  rw [after0_8, iblk_0, iblk_1, iblk_2, iblk_3, iblk_4, iblk_5, iblk_6, out8_eq]
  generalize k0_pay3 (V m c main_v0) (V m c main_v1) = X
  rfl

/-- Output window 9's array after the run. -/
theorem final9 (c : Dev nD) : (dats m 0 c).arrAt 9 cfg0.N = queries (V m c main_v0) (V m c main_v1) (V m c main_arg2) (V m c main_v2) (V m c main_v3) (V m c main_v4) (V m c main_v5) := by
  refine (dats m 0 c).arrAt_eq_of_after_last 9 t₀ (by decide +kernel) _ fun j => ?_
  rw [after0_9, iblk_0, iblk_1, iblk_2, iblk_3, iblk_4, iblk_5, iblk_6, out9_eq]
  generalize queries (V m c main_v0) (V m c main_v1) (V m c main_arg2) (V m c main_v2) (V m c main_v3) (V m c main_v4) (V m c main_v5) = X
  rfl

/-- Output window 10's array after the run. -/
theorem final10 (c : Dev nD) : (dats m 0 c).arrAt 10 cfg0.N = packedR (keys (V m c main_v0) (V m c main_v1) (V m c main_arg2) (V m c main_v2) (V m c main_v3) (V m c main_v4) (V m c main_v5)) := by
  refine (dats m 0 c).arrAt_eq_of_after_last 10 t₀ (by decide +kernel) _ fun j => ?_
  rw [after0_10, iblk_0, iblk_1, iblk_2, iblk_3, iblk_4, iblk_5, iblk_6, out10_eq]
  generalize packedR (keys (V m c main_v0) (V m c main_v1) (V m c main_arg2) (V m c main_v2) (V m c main_v3) (V m c main_v4) (V m c main_v5)) = X
  rfl

/-- Output window 11's array after the run. -/
theorem final11 (c : Dev nD) : (dats m 0 c).arrAt 11 cfg0.N = k0_pay19 (keys (V m c main_v0) (V m c main_v1) (V m c main_arg2) (V m c main_v2) (V m c main_v3) (V m c main_v4) (V m c main_v5)) := by
  refine (dats m 0 c).arrAt_eq_of_after_last 11 t₀ (by decide +kernel) _ fun j => ?_
  rw [after0_11, iblk_0, iblk_1, iblk_2, iblk_3, iblk_4, iblk_5, iblk_6, out11_eq]
  generalize k0_pay19 (keys (V m c main_v0) (V m c main_v1) (V m c main_arg2) (V m c main_v2) (V m c main_v3) (V m c main_v4) (V m c main_v5)) = X
  rfl

/-- Output window 12's array after the run. -/
theorem final12 (c : Dev nD) : (dats m 0 c).arrAt 12 cfg0.N = k0_pay18 (keys (V m c main_v0) (V m c main_v1) (V m c main_arg2) (V m c main_v2) (V m c main_v3) (V m c main_v4) (V m c main_v5)) := by
  refine (dats m 0 c).arrAt_eq_of_after_last 12 t₀ (by decide +kernel) _ fun j => ?_
  rw [after0_12, iblk_0, iblk_1, iblk_2, iblk_3, iblk_4, iblk_5, iblk_6, out12_eq]
  generalize k0_pay18 (keys (V m c main_v0) (V m c main_v1) (V m c main_arg2) (V m c main_v2) (V m c main_v3) (V m c main_v4) (V m c main_v5)) = X
  rfl

/-- Output window 13's array after the run. -/
theorem final13 (c : Dev nD) : (dats m 0 c).arrAt 13 cfg0.N = packedR (values (V m c main_v0) (V m c main_v1) (V m c main_arg2) (V m c main_v2) (V m c main_v3)) := by
  refine (dats m 0 c).arrAt_eq_of_after_last 13 t₀ (by decide +kernel) _ fun j => ?_
  rw [after0_13, iblk_0, iblk_1, iblk_2, iblk_3, iblk_4, iblk_5, iblk_6, out13_eq]
  generalize packedR (values (V m c main_v0) (V m c main_v1) (V m c main_arg2) (V m c main_v2) (V m c main_v3)) = X
  rfl

/-- Output window 14's array after the run. -/
theorem final14 (c : Dev nD) : (dats m 0 c).arrAt 14 cfg0.N = k0_pay19 (values (V m c main_v0) (V m c main_v1) (V m c main_arg2) (V m c main_v2) (V m c main_v3)) := by
  refine (dats m 0 c).arrAt_eq_of_after_last 14 t₀ (by decide +kernel) _ fun j => ?_
  rw [after0_14, iblk_0, iblk_1, iblk_2, iblk_3, iblk_4, iblk_5, iblk_6, out14_eq]
  generalize k0_pay19 (values (V m c main_v0) (V m c main_v1) (V m c main_arg2) (V m c main_v2) (V m c main_v3)) = X
  rfl

/-- Output window 15's array after the run. -/
theorem final15 (c : Dev nD) : (dats m 0 c).arrAt 15 cfg0.N = k0_pay18 (values (V m c main_v0) (V m c main_v1) (V m c main_arg2) (V m c main_v2) (V m c main_v3)) := by
  refine (dats m 0 c).arrAt_eq_of_after_last 15 t₀ (by decide +kernel) _ fun j => ?_
  rw [after0_15, iblk_0, iblk_1, iblk_2, iblk_3, iblk_4, iblk_5, iblk_6, out15_eq]
  generalize k0_pay18 (values (V m c main_v0) (V m c main_v1) (V m c main_arg2) (V m c main_v2) (V m c main_v3)) = X
  rfl

end Cert.QkvRefIdeal.Hand

end
-- ==== Proof.QkvHead.lean ====
/-
  Hand-written, untrusted. One head of 128 lanes at exact arithmetic: the rotary embedding by a half turn of the lanes and by two halves,
  and the four-bit quantiser with its packing, each written once over a row and found in both programs.
-/
module

public import proofs.«01_k».proof.Proof.QkvSpec
public import proofs.«01_k».proof.Proof.QkvRefValue
public import proofs.«01_k».proof.Proof.W4A8
public import Idealize.ShloMosaic.Lib.KernelVsHost

@[expose] public section

set_option maxRecDepth 16384

noncomputable section

namespace Cert.QkvHead

open Idealize.ShloMosaic hiding ix1 ix2 ix3 eq_ix2 eq_ix3
open Idealize.ShloMosaic.ValueIdx (ix1 ix2 ix3 eq_ix2 eq_ix3)
open Cert.Common

/-! ## Layout -/

section Layout

variable {α : Type}

/-- A head's rows as a slab, at an element. -/
theorem slab_at (v : QkvIdeal.S24x128.Idx → α) (r : Fin 24) (l : Fin 128) : QkvIdeal.Hand.slab v (ix3 r 0 l) = v (ix2 r l) := by
  refine shapeCast_apply _ _ _ _ ?_
  rw [Shape.rowMajor_val_three, Shape.rowMajor_val_two]
  show r.val * 128 + l.val = (r.val * 1 + 0) * 128 + l.val
  omega

/-- A run of columns cut into heads of 128, at an element. -/
theorem heads_at {M W n : ℕ} (hW : W = n * 128) (off : ℕ) (P : (⟨2, ![24, M]⟩ : Shape).Idx → α) (hs : (⟨2, ![24, M]⟩ : Shape).Slices ![0, off] ⟨2, ![24, W]⟩)
    (hc : (⟨2, ![24, W]⟩ : Shape).ShapeCasts ⟨3, ![24, n, 128]⟩) (r : Fin 24) (h : Fin n) (l : Fin 128) (J : Fin M) (hJ : J.val = off + 128 * h.val + l.val) :
    shapeCast ⟨3, ![24, n, 128]⟩ (extractStridedSlice ⟨2, ![24, W]⟩ ![0, off] P hs) hc (ix3 r h l) = P (ix2 r J) := by
  have hh := h.isLt
  have hl := l.isLt
  have hb : 128 * h.val + l.val < W := by omega
  rw [shapeCast_apply _ hc (ix3 r h l) (ix2 r (⟨128 * h.val + l.val, hb⟩ : Fin W))]
  · exact slice_at P ![0, off] hs r _ r J (Nat.zero_add _).symm (hJ.trans (Nat.add_assoc _ _ _))
  · rw [Shape.rowMajor_val_three, Shape.rowMajor_val_two]
    show r.val * W + (128 * h.val + l.val) = (r.val * n + h.val) * 128 + l.val
    rw [hW, Nat.add_mul, Nat.mul_assoc]; omega

/-- Head `i` of a tile, at an element. -/
theorem head_at (y : FVec Ideal QkvIdeal.S24x1024 .f32) (i : Fin 8) (r : Fin 24) (l : Fin 128) :
    QkvIdeal.Hand.head y i (ix2 r l) = y (ix2 r (⟨128 * i.val + l.val, by omega⟩ : Fin 1024)) :=
  slice_at y ![0, 128 * i.val] (QkvIdeal.Hand.slices_head i) r l r _ (Nat.zero_add _).symm rfl

/-- The opposite lane, 64 away. -/
def opp (l : Fin 128) : Fin 128 := ⟨(l.val + 64) % 128, Nat.mod_lt _ (by decide)⟩

/-- A half turn of the lanes, at an element. -/
theorem turn_at (v : QkvIdeal.S24x128.Idx → α) (h : QkvIdeal.S24x128.Rotates 1 none) (r : Fin 24) (l : Fin 128) :
    dynamicRotate 1 64#32 none v h (ix2 r l) = v (ix2 r (opp l)) :=
  dynamicRotate_apply _ _ _ _ _ _ fun b => match b with
    | ⟨0, _⟩ => rfl
    | ⟨1, _⟩ => by
      show (l.val + 64) % 128 = (l.val + 128 - 64 % 128) % 128
      omega

/-- Two halves of 64 lanes side by side, at an element. -/
theorem halves2_at (a b : (⟨2, ![24, 64]⟩ : Shape).Idx → α) (h : Shape.Concatenates [⟨2, ![24, 64]⟩, ⟨2, ![24, 64]⟩] ⟨2, ![24, 128]⟩ 1) (r : Fin 24) (l : Fin 128) :
    concatenate (⟨2, ![24, 128]⟩ : Shape) 1 [⟨⟨2, ![24, 64]⟩, a⟩, ⟨⟨2, ![24, 64]⟩, b⟩] h (ix2 r l)
      = if hl : l.val < 64 then a (ix2 r (⟨l.val, hl⟩ : Fin 64)) else b (ix2 r (⟨l.val - 64, by omega⟩ : Fin 64)) := by
  split
  · rename_i hl
    refine concatenate_pair_apply_left _ a b h _ rfl (ix2 r (⟨l.val, hl⟩ : Fin 64)) fun k => ?_
    match k with
    | ⟨0, _⟩ => rfl
    | ⟨1, _⟩ => rfl
  · rename_i hl
    refine concatenate_pair_apply_right _ a b h _ rfl rfl (ix2 r (⟨l.val - 64, by omega⟩ : Fin 64)) (fun k hk => ?_) ?_
    · match k with
      | ⟨0, _⟩ => rfl
      | ⟨1, _⟩ => exact absurd rfl hk
    · show l.val - 64 + 64 = l.val
      omega

/-- The same of a stack of heads. -/
theorem halves3_at {n : ℕ} (a b : (⟨3, ![24, n, 64]⟩ : Shape).Idx → α) (h : Shape.Concatenates [⟨3, ![24, n, 64]⟩, ⟨3, ![24, n, 64]⟩] ⟨3, ![24, n, 128]⟩ 2)
    (r : Fin 24) (k : Fin n) (l : Fin 128) :
    concatenate (⟨3, ![24, n, 128]⟩ : Shape) 2 [⟨⟨3, ![24, n, 64]⟩, a⟩, ⟨⟨3, ![24, n, 64]⟩, b⟩] h (ix3 r k l)
      = if hl : l.val < 64 then a (ix3 r k (⟨l.val, hl⟩ : Fin 64)) else b (ix3 r k (⟨l.val - 64, by omega⟩ : Fin 64)) := by
  split
  · rename_i hl
    refine concatenate_pair_apply_left _ a b h _ rfl (ix3 r k (⟨l.val, hl⟩ : Fin 64)) fun z => ?_
    match z with
    | ⟨0, _⟩ => rfl
    | ⟨1, _⟩ => rfl
    | ⟨2, _⟩ => rfl
  · rename_i hl
    refine concatenate_pair_apply_right _ a b h _ rfl rfl (ix3 r k (⟨l.val - 64, by omega⟩ : Fin 64)) (fun z hz => ?_) ?_
    · match z with
      | ⟨0, _⟩ => rfl
      | ⟨1, _⟩ => rfl
      | ⟨2, _⟩ => exact absurd rfl hz
    · show l.val - 64 + 64 = l.val
      omega

/-- A half of the lanes of a stack of heads, at an element. -/
theorem half_at {n : ℕ} (off : ℕ) (V : (⟨3, ![24, n, 128]⟩ : Shape).Idx → α) (hs : (⟨3, ![24, n, 128]⟩ : Shape).Slices ![0, 0, off] ⟨3, ![24, n, 64]⟩)
    (r : Fin 24) (k : Fin n) (l : Fin 64) (L : Fin 128) (hL : L.val = off + l.val) :
    extractStridedSlice ⟨3, ![24, n, 64]⟩ ![0, 0, off] V hs (ix3 r k l) = V (ix3 r k L) :=
  extractStridedSlice_apply _ _ _ _ _ fun z => match z with
    | ⟨0, _⟩ => (Nat.zero_add _).symm
    | ⟨1, _⟩ => (Nat.zero_add _).symm
    | ⟨2, _⟩ => hL

/-- Cosines or sines spread over the heads, at an element. -/
theorem angles_at {n : ℕ} (C : (⟨2, ![24, 64]⟩ : Shape).Idx → α) (hc : (⟨2, ![24, 64]⟩ : Shape).ShapeCasts ⟨3, ![24, 1, 64]⟩)
    (hb : (⟨3, ![24, 1, 64]⟩ : Shape).Broadcasts ⟨3, ![24, n, 64]⟩) (r : Fin 24) (k : Fin n) (l : Fin 64) :
    broadcastTo ⟨3, ![24, n, 64]⟩ (shapeCast ⟨3, ![24, 1, 64]⟩ C hc) hb (ix3 r k l) = C (ix2 r l) := by
  refine (broadcastTo_apply _ hb _ (ix3 r (0 : Fin 1) l) fun z => ?_).trans (shapeCast_apply _ _ _ _ ?_)
  · match z with
    | ⟨0, _⟩ => rfl
    | ⟨1, _⟩ => rfl
    | ⟨2, _⟩ => rfl
  · rw [Shape.rowMajor_val_three, Shape.rowMajor_val_two]
    show r.val * 64 + l.val = (r.val * 1 + 0) * 64 + l.val
    omega

/-- One number a row and head spread over the lanes, at an element. -/
theorem spread_lanes {n : ℕ} (C : (⟨2, ![24, n]⟩ : Shape).Idx → α) (hc : (⟨2, ![24, n]⟩ : Shape).ShapeCasts ⟨3, ![24, n, 1]⟩)
    (hb : (⟨3, ![24, n, 1]⟩ : Shape).Broadcasts ⟨3, ![24, n, 128]⟩) (r : Fin 24) (k : Fin n) (l : Fin 128) :
    broadcastTo ⟨3, ![24, n, 128]⟩ (shapeCast ⟨3, ![24, n, 1]⟩ C hc) hb (ix3 r k l) = C (ix2 r k) := by
  refine (broadcastTo_apply _ hb _ (ix3 r k (0 : Fin 1)) fun z => ?_).trans (shapeCast_apply _ _ _ _ ?_)
  · match z with
    | ⟨0, _⟩ => rfl
    | ⟨1, _⟩ =>
      show k.val = if n = 1 then 0 else k.val
      split
      · have := k.isLt; omega
      · rfl
    | ⟨2, _⟩ => rfl
  · rw [Shape.rowMajor_val_three, Shape.rowMajor_val_two]
    show r.val * n + k.val = (r.val * n + k.val) * 1 + 0
    omega

end Layout

/-! ## The rotary embedding -/

/-- Lane `l` of a row `f` turned by the angles whose cosines and sines are `c` and `s`. -/
def ropeAt (f : Fin 128 → EReal) (c s : Fin 64 → EReal) (l : Fin 128) : EReal :=
  if h : l.val < 64 then f l * c ⟨l.val, h⟩ - f (opp l) * s ⟨l.val, h⟩
  else f l * c ⟨l.val - 64, by omega⟩ + f (opp l) * s ⟨l.val - 64, by omega⟩

/-- The kernel's form: the row times doubled cosines plus the half-turned row times doubled sines, the first half of them negated. -/
theorem rope_kernel (C S : Vec Ideal QkvIdeal.S24x64 .f32) (v : FVec Ideal QkvIdeal.S24x128 .f32) (r : Fin 24) (l : Fin 128) :
    QkvIdeal.Hand.rope (QkvIdeal.Gen.k0_pay359 C C) (QkvIdeal.Gen.k0_pay360 S S) v (ix2 r l)
      = ropeAt (fun l => v (ix2 r l)) (fun l => C (ix2 r l)) (fun l => S (ix2 r l)) l := by
  unfold QkvIdeal.Hand.rope QkvIdeal.Gen.k0_pay359 QkvIdeal.Gen.k0_pay360
  dsimp only
  rw [addf_apply, mulf_apply, mulf_apply, turn_at, halves2_at, halves2_at]
  simp only [shapeCast_self]
  unfold ropeAt
  split
  · rename_i h
    rw [subf_apply]
    have hz : (broadcast QkvIdeal.S24x64 (Scalar.ofBits (F := Ideal) .f32 0x00000000#32)) (ix2 r (⟨l.val, h⟩ : Fin 64)) = (0 : EReal) := Ideal.ofBits_zero_f32
    rw [hz]
    show v (ix2 r l) * C _ + v (ix2 r (opp l)) * ((0 : EReal) - S _) = v (ix2 r l) * C _ - v (ix2 r (opp l)) * S _
    rw [zero_sub, mul_neg, sub_eq_add_neg]
  · rfl

/-- The reference's form: the two halves of the lanes apart. -/
theorem rope_reference {n : ℕ} (C S : FVec Ideal ⟨2, ![24, 64]⟩ .f32) (V : FVec Ideal ⟨3, ![24, n, 128]⟩ .f32)
    (hc : (⟨2, ![24, 64]⟩ : Shape).ShapeCasts ⟨3, ![24, 1, 64]⟩) (hb : (⟨3, ![24, 1, 64]⟩ : Shape).Broadcasts ⟨3, ![24, n, 64]⟩)
    (s0 : (⟨3, ![24, n, 128]⟩ : Shape).Slices ![0, 0, 0] ⟨3, ![24, n, 64]⟩) (s1 : (⟨3, ![24, n, 128]⟩ : Shape).Slices ![0, 0, 64] ⟨3, ![24, n, 64]⟩)
    (h : Shape.Concatenates [⟨3, ![24, n, 64]⟩, ⟨3, ![24, n, 64]⟩] ⟨3, ![24, n, 128]⟩ 2) (r : Fin 24) (k : Fin n) (l : Fin 128) :
    concatenate (⟨3, ![24, n, 128]⟩ : Shape) 2
      [⟨⟨3, ![24, n, 64]⟩, subf (mulf (extractStridedSlice ⟨3, ![24, n, 64]⟩ ![0, 0, 0] V s0) (broadcastTo ⟨3, ![24, n, 64]⟩ (shapeCast ⟨3, ![24, 1, 64]⟩ C hc) hb))
          (mulf (extractStridedSlice ⟨3, ![24, n, 64]⟩ ![0, 0, 64] V s1) (broadcastTo ⟨3, ![24, n, 64]⟩ (shapeCast ⟨3, ![24, 1, 64]⟩ S hc) hb))⟩,
        ⟨⟨3, ![24, n, 64]⟩, addf (mulf (extractStridedSlice ⟨3, ![24, n, 64]⟩ ![0, 0, 64] V s1) (broadcastTo ⟨3, ![24, n, 64]⟩ (shapeCast ⟨3, ![24, 1, 64]⟩ C hc) hb))
          (mulf (extractStridedSlice ⟨3, ![24, n, 64]⟩ ![0, 0, 0] V s0) (broadcastTo ⟨3, ![24, n, 64]⟩ (shapeCast ⟨3, ![24, 1, 64]⟩ S hc) hb))⟩] h (ix3 r k l)
      = ropeAt (fun l => V (ix3 r k l)) (fun l => C (ix2 r l)) (fun l => S (ix2 r l)) l := by
  rw [halves3_at]
  unfold ropeAt
  split
  · rename_i hl
    rw [subf_apply, mulf_apply, mulf_apply, angles_at, angles_at, half_at 0 V s0 r k _ l (Nat.zero_add _).symm,
      half_at 64 V s1 r k _ (opp l) (by show (l.val + 64) % 128 = 64 + l.val; omega)]
    rfl
  · rename_i hl
    have := l.isLt
    rw [addf_apply, mulf_apply, mulf_apply, angles_at, angles_at, half_at 64 V s1 r k _ l (by show l.val = 64 + (l.val - 64); omega),
      half_at 0 V s0 r k _ (opp l) (by show (l.val + 64) % 128 = 0 + (l.val - 64); omega)]
    rfl

/-! ## The four-bit quantiser -/

/-- The least and the greatest of a row. -/
def minR (f : Fin 128 → EReal) : EReal := (Finset.univ : Finset (Fin 128)).fold min (FloatOps.ofBits (F := Ideal) .f32 0x7F800000#32) f
def maxR (f : Fin 128 → EReal) : EReal := (Finset.univ : Finset (Fin 128)).fold max (FloatOps.ofBits (F := Ideal) .f32 0xFF800000#32) f

/-- The scale of a row with these extremes, the code of an element, and two codes in one word. -/
def stepOf (hi lo : EReal) : EReal :=
  select (s := ⟨0, ![]⟩) (cmpf (F := Ideal) (φ := .f32) .ogt (fun _ => hi) (fun _ => lo))
    (divf (F := Ideal) (φ := .f32) (subf (F := Ideal) (φ := .f32) (fun _ => hi) (fun _ => lo)) (broadcast ⟨0, ![]⟩ (Scalar.ofBits (F := Ideal) .f32 0x41700000#32)))
    (broadcast ⟨0, ![]⟩ (Scalar.ofBits (F := Ideal) .f32 0x3F800000#32)) (fun a => a.elim0)
def codeOf (x lo st : EReal) : BitVec 32 :=
  fptosi (s := ⟨0, ![]⟩) 32 (minimumf (F := Ideal) (φ := .f32) (broadcast ⟨0, ![]⟩ (Scalar.sitofp (F := Ideal) .f32 15#32)) (maximumf (broadcast ⟨0, ![]⟩ (Scalar.sitofp (F := Ideal) .f32 0#32))
    (roundeven (divf (subf (fun _ => x) (fun _ => lo)) (fun _ => st))))) (fun a => a.elim0)
def pair (a b : BitVec 32) : BitVec 32 := ori (s := ⟨0, ![]⟩) (fun _ => a) (shli (fun _ => b) (broadcast ⟨0, ![]⟩ 4#32)) (fun a => a.elim0)
/-- The word of lane `l` of a row. -/
def word (f : Fin 128 → EReal) (l : Fin 128) : BitVec 32 :=
  pair (codeOf (f l) (minR f) (stepOf (maxR f) (minR f))) (codeOf (f (opp l)) (minR f) (stepOf (maxR f) (minR f)))

theorem min_row {n : ℕ} (v : FVec Ideal ⟨2, ![n, 128]⟩ .f32) (h : (⟨2, ![n, 128]⟩ : Shape).Reduces [1] ⟨1, ![n]⟩) (hφ : FKind.Formats .f32)
    (hacc : 0x7F800000#32 = FKind.minimumf.neutral .f32 hφ) (r : Fin n) :
    multiReduction .minimumf [1] ⟨1, ![n]⟩ v 0x7F800000#32 h hφ hacc (ix1 r) = minR fun l => v (ix2 r l) := by
  rw [multiReduction_minimumf_eq_fold]
  refine (h.fold_filter_drop_single _ _ v (ix1 r)).trans (congrArg (Finset.fold min _ · _) (funext fun l => congrArg v ?_))
  exact eq_ix2 _
theorem max_row {n : ℕ} (v : FVec Ideal ⟨2, ![n, 128]⟩ .f32) (h : (⟨2, ![n, 128]⟩ : Shape).Reduces [1] ⟨1, ![n]⟩) (hφ : FKind.Formats .f32)
    (hacc : 0xFF800000#32 = FKind.maximumf.neutral .f32 hφ) (r : Fin n) :
    multiReduction .maximumf [1] ⟨1, ![n]⟩ v 0xFF800000#32 h hφ hacc (ix1 r) = maxR fun l => v (ix2 r l) := by
  rw [multiReduction_maximumf_eq_fold]
  refine (h.fold_filter_drop_single _ _ v (ix1 r)).trans (congrArg (Finset.fold max _ · _) (funext fun l => congrArg v ?_))
  exact eq_ix2 _
theorem min_heads {n k : ℕ} (v : FVec Ideal ⟨3, ![n, k, 128]⟩ .f32) (h : (⟨3, ![n, k, 128]⟩ : Shape).Reduces [2] ⟨2, ![n, k]⟩) (hφ : FKind.Formats .f32)
    (hacc : 0x7F800000#32 = FKind.minimumf.neutral .f32 hφ) (r : Fin n) (i : Fin k) :
    multiReduction .minimumf [2] ⟨2, ![n, k]⟩ v 0x7F800000#32 h hφ hacc (ix2 r i) = minR fun l => v (ix3 r i l) := by
  rw [multiReduction_minimumf_eq_fold]
  refine (h.fold_filter_drop_single _ _ v (ix2 r i)).trans (congrArg (Finset.fold min _ · _) (funext fun l => congrArg v ?_))
  exact eq_ix3 _
theorem max_heads {n k : ℕ} (v : FVec Ideal ⟨3, ![n, k, 128]⟩ .f32) (h : (⟨3, ![n, k, 128]⟩ : Shape).Reduces [2] ⟨2, ![n, k]⟩) (hφ : FKind.Formats .f32)
    (hacc : 0xFF800000#32 = FKind.maximumf.neutral .f32 hφ) (r : Fin n) (i : Fin k) :
    multiReduction .maximumf [2] ⟨2, ![n, k]⟩ v 0xFF800000#32 h hφ hacc (ix2 r i) = maxR fun l => v (ix3 r i l) := by
  rw [multiReduction_maximumf_eq_fold]
  refine (h.fold_filter_drop_single _ _ v (ix2 r i)).trans (congrArg (Finset.fold max _ · _) (funext fun l => congrArg v ?_))
  exact eq_ix3 _

/-! The kernel's head. -/

theorem low_at (v : FVec Ideal QkvIdeal.S24x128 .f32) (r : Fin 24) : QkvIdeal.Hand.low v (ix2 r 0) = minR fun l => v (ix2 r l) := by
  unfold QkvIdeal.Hand.low
  rw [column]; exact min_row v _ _ _ r
theorem high_at (v : FVec Ideal QkvIdeal.S24x128 .f32) (r : Fin 24) : QkvIdeal.Hand.high v (ix2 r 0) = maxR fun l => v (ix2 r l) := by
  unfold QkvIdeal.Hand.high
  rw [column]; exact max_row v _ _ _ r
theorem step_at (v : FVec Ideal QkvIdeal.S24x128 .f32) (r : Fin 24) :
    QkvIdeal.Hand.step v (ix2 r 0) = stepOf (maxR fun l => v (ix2 r l)) (minR fun l => v (ix2 r l)) := by
  rw [← low_at, ← high_at]; rfl
theorem code_at (v : FVec Ideal QkvIdeal.S24x128 .f32) (r : Fin 24) (l : Fin 128) :
    fptosi 32 (QkvIdeal.Hand.code v) (ix2 r l) = codeOf (v (ix2 r l)) (minR fun l => v (ix2 r l)) (stepOf (maxR fun l => v (ix2 r l)) (minR fun l => v (ix2 r l))) := by
  rw [← step_at, ← low_at, ← spread_col (QkvIdeal.Hand.low v) QkvIdeal.Gen.broadcasts_S24x1_S24x128 r l, ← spread_col (QkvIdeal.Hand.step v) QkvIdeal.Gen.broadcasts_S24x1_S24x128 r l]
  rfl
theorem packed_at (v : FVec Ideal QkvIdeal.S24x128 .f32) (r : Fin 24) (l : Fin 128) : QkvIdeal.Hand.packed v (ix2 r l) = word (fun l => v (ix2 r l)) l := by
  unfold word
  rw [← code_at, ← code_at, ← turn_at (fptosi 32 (QkvIdeal.Hand.code v)) QkvIdeal.Gen.rotates_S24x128_d1]
  rfl

/-! The reference's heads. -/

theorem min_at (V : FVec Ideal QkvRefIdeal.S24x8x128 .f32) (r : Fin 24) (i : Fin 8) : QkvRefIdeal.Gen.k0_pay18 V (ix2 r i) = minR fun l => V (ix3 r i l) :=
  min_heads V QkvRefIdeal.Gen.reduces_S24x8x128_S24x8 (.inl rfl) rfl r i
theorem scale_at (V : FVec Ideal QkvRefIdeal.S24x8x128 .f32) (r : Fin 24) (i : Fin 8) :
    QkvRefIdeal.Gen.k0_pay19 V (ix2 r i) = stepOf (maxR fun l => V (ix3 r i l)) (minR fun l => V (ix3 r i l)) := by
  rw [← min_at, ← max_heads V QkvRefIdeal.Gen.reduces_S24x8x128_S24x8 (.inl rfl) rfl]; rfl

/-- The codes of eight heads, before two are put in a word. -/
def codesR (V : FVec Ideal QkvRefIdeal.S24x8x128 .f32) : IVec QkvRefIdeal.S24x8x128 32 :=
  fptosi 32 (minimumf (broadcast QkvRefIdeal.S24x8x128 (Scalar.sitofp .f32 15#32)) (maximumf (broadcast QkvRefIdeal.S24x8x128 (Scalar.sitofp .f32 0#32))
    (roundeven (divf (subf V (broadcastTo QkvRefIdeal.S24x8x128 (shapeCast QkvRefIdeal.S24x8x1 (QkvRefIdeal.Gen.k0_pay18 V) QkvRefIdeal.Gen.shapeCasts_S24x8_S24x8x1) QkvRefIdeal.Gen.broadcasts_S24x8x1_S24x8x128))
      (broadcastTo QkvRefIdeal.S24x8x128 (shapeCast QkvRefIdeal.S24x8x1 (QkvRefIdeal.Gen.k0_pay19 V) QkvRefIdeal.Gen.shapeCasts_S24x8_S24x8x1) QkvRefIdeal.Gen.broadcasts_S24x8x1_S24x8x128)))))
theorem codesR_at (V : FVec Ideal QkvRefIdeal.S24x8x128 .f32) (r : Fin 24) (i : Fin 8) (l : Fin 128) :
    codesR V (ix3 r i l) = codeOf (V (ix3 r i l)) (minR fun l => V (ix3 r i l)) (stepOf (maxR fun l => V (ix3 r i l)) (minR fun l => V (ix3 r i l))) := by
  rw [← scale_at, ← min_at, ← spread_lanes (QkvRefIdeal.Gen.k0_pay18 V) QkvRefIdeal.Gen.shapeCasts_S24x8_S24x8x1 QkvRefIdeal.Gen.broadcasts_S24x8x1_S24x8x128 r i l,
    ← spread_lanes (QkvRefIdeal.Gen.k0_pay19 V) QkvRefIdeal.Gen.shapeCasts_S24x8_S24x8x1 QkvRefIdeal.Gen.broadcasts_S24x8x1_S24x8x128 r i l]
  rfl
/-- Below lane 64 the reference's packed codes are the words of the rows. -/
theorem packedR_at (V : FVec Ideal QkvRefIdeal.S24x8x128 .f32) (r : Fin 24) (i : Fin 8) (l : Fin 128) (hl : l.val < 64) :
    QkvRefIdeal.Hand.packedR V (ix3 r i l) = word (fun l => V (ix3 r i l)) l := by
  unfold QkvRefIdeal.Hand.packedR QkvRefIdeal.Gen.k0_pay1
  rw [halves3_at, dif_pos hl]
  unfold word
  rw [← codesR_at, ← codesR_at, ← half_at 0 (codesR V) QkvRefIdeal.Gen.slices_S24x8x128_o0_0_0_S24x8x64 r i ⟨l.val, hl⟩ l (Nat.zero_add _).symm,
    ← half_at 64 (codesR V) QkvRefIdeal.Gen.slices_S24x8x128_o0_0_64_S24x8x64 r i ⟨l.val, hl⟩ (opp l) (by show (l.val + 64) % 128 = 64 + l.val; omega)]
  rfl

end Cert.QkvHead

end
-- ==== Proof.QkvValue.lean ====
/-
  Hand-written, untrusted. The QKV projection's tile at exact arithmetic, element by element what the reference computes in the tile's
  columns, and the heads cut from it.
-/
module

public import proofs.«01_k».proof.Proof.QkvHead

@[expose] public section

set_option maxRecDepth 16384

noncomputable section

namespace Cert.QkvValue

open Idealize.ShloMosaic hiding ix1 ix2 ix3 eq_ix2 eq_ix3
open Idealize.ShloMosaic.ValueIdx (ix1 ix2 ix3 eq_ix2 eq_ix3)
open Cert.Common Cert.QkvHead
open Cert.QkvIdeal.Hand (yTile rope head low step packed slab)
open Cert.QkvRefIdeal.Hand (proj queries keys values packedR)

variable (x : Vec Ideal QkvIdeal.S24x4096 .bf16) (g : Vec Ideal QkvIdeal.S1x4096 .f32)

/-! ## The codes of the normed rows -/

/-- The scales: the two programs compute them the same way. -/
theorem scale_eq : QkvIdeal.Gen.k0_pay31 x g = QkvRefIdeal.Gen.k0_pay3 x g := rfl

/-- The codes the two programs store are the same. -/
theorem codes_eq : QkvIdeal.Gen.k0_pay357 (QkvIdeal.Gen.k0_pay32 x g) = QkvRefIdeal.Gen.k0_pay4 x g := rfl

/-- The clipped quotient the kernel keeps, at an element. -/
theorem quotient_at (r : Fin 24) (k : Fin 4096) :
    QkvIdeal.Gen.k0_pay32 x g (ix2 r k)
      = clip127 (divf (QkvIdeal.Gen.k0_pay30 x g) (broadcastTo QkvIdeal.S24x4096 (QkvIdeal.Gen.k0_pay31 x g) QkvIdeal.Gen.broadcasts_S24x1_S24x4096) (ix2 r k)) :=
  clip_at _ _

/-- The code of the reference is the clipped quotient converted, at an element. -/
theorem code_at (r : Fin 24) (k : Fin 4096) : QkvRefIdeal.Gen.k0_pay4 x g (ix2 r k) = Ideal.fptosi 8 (QkvIdeal.Gen.k0_pay32 x g (ix2 r k)) := rfl

/-- A code of the reference read back is the clipped quotient the kernel keeps. -/
theorem code_value (r : Fin 24) (k : Fin 4096) :
    (((QkvRefIdeal.Gen.k0_pay4 x g (ix2 r k)).toInt : ℝ) : EReal) = QkvIdeal.Gen.k0_pay32 x g (ix2 r k) := by
  rw [code_at, quotient_at, code_back]

/-- The codes of the reference read back, as a vector. -/
theorem codes_value (φ : FTy) :
    (sitofp φ (QkvRefIdeal.Gen.k0_pay4 x g) : FVec Ideal QkvIdeal.S24x4096 φ) = (QkvIdeal.Gen.k0_pay32 x g : QkvIdeal.S24x4096.Idx → EReal) := by
  funext i
  obtain ⟨r, k, rfl⟩ : ∃ (r : Fin 24) (k : Fin 4096), i = ix2 r k := ⟨i 0, i 1, eq_ix2 i⟩
  exact code_value x g r k

/-- The row sums of the codes. -/
def sums : FVec Ideal QkvRefIdeal.S24 .f32 :=
  multiReduction .add [1] QkvRefIdeal.S24 (sitofp .f32 (QkvRefIdeal.Gen.k0_pay4 x g)) 0x00000000#32 QkvRefIdeal.Gen.reduces_S24x4096_S24 (.inl rfl) rfl

/-- The row sums which the kernel keeps spread over 128 lanes are the reference's. -/
theorem sum_at (r : Fin 24) (l : Fin 128) : QkvIdeal.Gen.k0_pay356 (QkvIdeal.Gen.k0_pay34 x g) (ix2 r l) = sums x g (ix1 r) := by
  unfold QkvIdeal.Gen.k0_pay356 QkvIdeal.Gen.k0_pay34 sums
  rw [codes_value]
  dsimp only
  rw [shapeCast_self, shapeCast_self, spread_col, column]

/-! ## A tile -/

/-- An element of the kernel's tile is the reference's element of the same row and of the tile's column. -/
theorem tile_eq (x2 : Vec Ideal QkvIdeal.S2048x1024 .i8) (x3 x4 : Vec Ideal QkvIdeal.S1x1024 .f32) (w : Vec Ideal QkvRefIdeal.S2048x6144 .i8)
    (ws wz : Vec Ideal QkvRefIdeal.S1x6144 .f32) (r : Fin 24) (j : Fin 1024) (J : Fin 6144) (h2 : ∀ k : Fin 2048, x2 (ix2 k j) = w (ix2 k J))
    (h3 : x3 (ix2 0 j) = ws (ix2 0 J)) (h4 : x4 (ix2 0 j) = wz (ix2 0 J)) :
    yTile (QkvIdeal.Gen.k0_pay33 x g) (QkvIdeal.Gen.k0_pay356 (QkvIdeal.Gen.k0_pay34 x g)) (QkvIdeal.Gen.k0_pay31 x g) x2 x3 x4 (ix2 r j)
      = proj x g w ws wz (ix2 r J) := by
  unfold yTile QkvIdeal.Gen.k0_pay358 proj QkvRefIdeal.Gen.k0_pay7
  dsimp only
  simp only [shapeCast_self]
  have e1 := kernel_halves (B := 24) (n := 1024) (QkvIdeal.Gen.k0_pay33 x g) x2 QkvIdeal.Gen.bitcasts_S2048x1024_w8_S512x1024_w32
    QkvIdeal.Gen.bitcasts_S512x1024_w32_S2048x1024_w8 (by decide) (by decide) r j
  have e2 := reference_halves (B := 24) (n := 6144) (sitofp .bf16 (QkvRefIdeal.Gen.k0_pay4 x g)) w QkvRefIdeal.Gen.natLt_8_32
    QkvRefIdeal.Gen.slices_S24x4096_o0_0_S24x2048 QkvRefIdeal.Gen.slices_S24x4096_o0_2048_S24x2048 r J
  have e5 : QkvIdeal.Gen.k0_pay33 x g = (QkvIdeal.Gen.k0_pay32 x g : QkvIdeal.S24x4096.Idx → EReal) := by
    unfold QkvIdeal.Gen.k0_pay33
    dsimp only
    rw [shapeCast_self]; rfl
  have e6 : (fun k : Fin 4096 => (sitofp .bf16 (QkvRefIdeal.Gen.k0_pay4 x g) : FVec Ideal QkvIdeal.S24x4096 .bf16) (ix2 r k)) = fun k => QkvIdeal.Gen.k0_pay33 x g (ix2 r k) := by
    rw [codes_value, e5]
  have e7 := e2.trans ((congrArg (fun q => halves q fun k => w (ix2 k J)) e6).trans ((congrArg (halves _) (funext fun k => (h2 k).symm)).trans e1.symm))
  refine (rescale_at _ _ _ _ _ _ _ _ _ _ _).trans ((congrArg₂ (fun a b : EReal => a * b) (congrArg₂ (fun a b : EReal => a * b)
    (congrArg₂ (fun a b : EReal => a - b) e7.symm ?_) rfl) h3).trans (rescale_at _ _ _ _ _ _ _ _ _ _ _).symm)
  rw [window_at _ _ _ r 0 r 0 (by simp) (by simp), sum_at, column, h4]
  rfl

/-! ## The heads -/

variable (w : Vec Ideal QkvRefIdeal.S2048x6144 .i8) (ws wz : Vec Ideal QkvRefIdeal.S1x6144 .f32) (C S : Vec Ideal QkvRefIdeal.S24x64 .f32)

/-- A tile is the reference's columns from `1024 n` on. -/
def TileAt (n : ℕ) (hn : n < 6) (y : FVec Ideal QkvIdeal.S24x1024 .f32) : Prop :=
  ∀ (r : Fin 24) (j : Fin 1024), y (ix2 r j) = proj x g w ws wz (ix2 r (⟨1024 * n + j.val, by omega⟩ : Fin 6144))

variable {x g w ws wz} {y : FVec Ideal QkvIdeal.S24x1024 .f32}

/-- The query heads of tile `n`. -/
theorem query_eq {n : ℕ} (hn : n < 4) (hy : TileAt x g w ws wz n (by omega) y) (i : Fin 8) (r : Fin 24) (l : Fin 128) :
    rope (QkvIdeal.Gen.k0_pay359 C C) (QkvIdeal.Gen.k0_pay360 S S) (head y i) (ix2 r l)
      = queries x g w ws wz C S (ix3 r (⟨8 * n + i.val, by omega⟩ : Fin 32) l) := by
  rw [rope_kernel]
  unfold queries QkvRefIdeal.Gen.k0_pay8
  simp only [shapeCast_self]
  refine Eq.trans ?_ (rope_reference (n := 32) C S _ _ _ _ _ _ r _ l).symm
  refine congrArg (fun f => ropeAt f _ _ l) (funext fun l => ?_)
  rw [head_at, hy, heads_at (n := 32) rfl 0 _ _ _ r _ l (⟨1024 * n + (128 * i.val + l.val), by omega⟩ : Fin 6144) (by show 1024 * n + (128 * i.val + l.val) = 0 + 128 * (8 * n + i.val) + l.val; omega)]
  rfl

/-- The key heads. -/
theorem key_eq (hy : TileAt x g w ws wz 4 (by omega) y) (i : Fin 8) (r : Fin 24) (l : Fin 128) :
    rope (QkvIdeal.Gen.k0_pay359 C C) (QkvIdeal.Gen.k0_pay360 S S) (head y i) (ix2 r l) = keys x g w ws wz C S (ix3 r i l) := by
  rw [rope_kernel]
  unfold keys QkvRefIdeal.Gen.k0_pay11 QkvRefIdeal.Gen.k0_pay9
  dsimp only
  simp only [shapeCast_self]
  refine Eq.trans ?_ (rope_reference (n := 8) C S _ _ _ _ _ _ r i l).symm
  refine congrArg (fun f => ropeAt f _ _ l) (funext fun l => ?_)
  rw [head_at, hy, heads_at (n := 8) rfl 4096 _ _ _ r i l (⟨1024 * 4 + (128 * i.val + l.val), by omega⟩ : Fin 6144) (by show 1024 * 4 + (128 * i.val + l.val) = 4096 + 128 * i.val + l.val; omega)]
  rfl

/-- The value heads. -/
theorem value_eq (hy : TileAt x g w ws wz 5 (by omega) y) (i : Fin 8) (r : Fin 24) (l : Fin 128) :
    head y i (ix2 r l) = values x g w ws wz (ix3 r i l) := by
  unfold values QkvRefIdeal.Gen.k0_pay12
  rw [head_at, hy, heads_at (n := 8) rfl 5120 _ _ _ r i l (⟨1024 * 5 + (128 * i.val + l.val), by omega⟩ : Fin 6144) (by show 1024 * 5 + (128 * i.val + l.val) = 5120 + 128 * i.val + l.val; omega)]

/-- Heads equal to a stack of heads have its packed codes below lane 64, its scales and its minima. -/
theorem packed_eq {v : Fin 8 → FVec Ideal QkvIdeal.S24x128 .f32} {V : FVec Ideal QkvRefIdeal.S24x8x128 .f32}
    (h : ∀ (i : Fin 8) (r : Fin 24) (l : Fin 128), v i (ix2 r l) = V (ix3 r i l)) (i : Fin 8) (r : Fin 24) (l : Fin 128) (hl : l.val < 64) :
    slab (packed (v i)) (ix3 r 0 l) = packedR V (ix3 r i l) := by
  rw [slab_at, packed_at, packedR_at V r i l hl, funext (h i r)]
theorem step_eq {v : Fin 8 → FVec Ideal QkvIdeal.S24x128 .f32} {V : FVec Ideal QkvRefIdeal.S24x8x128 .f32}
    (h : ∀ (i : Fin 8) (r : Fin 24) (l : Fin 128), v i (ix2 r l) = V (ix3 r i l)) (i : Fin 8) (r : Fin 24) :
    step (v i) (ix2 r 0) = QkvRefIdeal.Gen.k0_pay19 V (ix2 r i) := by
  rw [step_at, scale_at, funext (h i r)]
theorem low_eq {v : Fin 8 → FVec Ideal QkvIdeal.S24x128 .f32} {V : FVec Ideal QkvRefIdeal.S24x8x128 .f32}
    (h : ∀ (i : Fin 8) (r : Fin 24) (l : Fin 128), v i (ix2 r l) = V (ix3 r i l)) (i : Fin 8) (r : Fin 24) :
    low (v i) (ix2 r 0) = QkvRefIdeal.Gen.k0_pay18 V (ix2 r i) := by
  rw [low_at, min_at, funext (h i r)]

end Cert.QkvValue

end
-- ==== Proof.QkvBits.lean ====
/-
  Hand-written, untrusted. The QKV projection at bit patterns: it is printed with the text of its idealization, so the frame proved for
  any instance of the floats is its frame too.
-/
module

public import proofs.«01_k».proof.Proof.QkvFrame
public import proofs.«01_k».proof.Proof.Gen.Qkv

@[expose] public section

set_option maxRecDepth 16384
noncomputable section

namespace Cert.QkvSame
open Idealize.ShloMosaic Idealize.ShloMosaic.TcCoe Idealize.SL.Sem
variable {F : FTy → Type} [FloatOps F]

set_option maxHeartbeats 0 in
/-- The two texts of the kernel's body are one. -/
theorem body_eq : @Qkv.cc0_qkv F _ _ = @QkvIdeal.cc0_qkv F _ _ := by
  delta Qkv.cc0_qkv QkvIdeal.cc0_qkv
  rfl

set_option maxHeartbeats 0 in
/-- So are the tables of bodies. -/
theorem defs₀_eq : (Qkv.defs₀ (F := F)) = (QkvIdeal.defs₀ (F := F)) := by
  unfold Qkv.defs₀ QkvIdeal.defs₀
  refine congrArg Defs.onTc ?_
  funext ℓ a
  match ℓ, a with
  | 0, (t, s) => rw [body_eq]; rfl
  | ⟨_ + 1, h⟩, _ => exact absurd h (Nat.not_lt.2 (Nat.le_add_left _ _))

set_option maxHeartbeats 4000000 in
/-- So are the tables with the pipelines' own bodies. -/
theorem defs_eq : (Qkv.defs (F := F)) = (QkvIdeal.defs (F := F)) := by
  unfold Qkv.defs QkvIdeal.defs
  rw [defs₀_eq]
  rfl

/-- So are the two mains. -/
theorem main_eq : (Qkv.main (F := F)) = (QkvIdeal.main (F := F)) := rfl

variable (m : (ℓ : Loc Qkv.nD Qkv.τ Qkv.sig) → Buf (Elt F) ℓ) (ρ : Dev Qkv.nD → PrngReg)

open Qkv in
/-- The frame: every weakly fair execution ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_eq]
  exact QkvIdeal.Hand.frame (F := F) m ρ

end Cert.QkvSame
end
-- ==== Proof.QkvFinal.lean ====
/-
  Hand-written, untrusted. The QKV projection and its reference run to equal results from equal arguments: the row codes, their scales
  and the query heads everywhere, and of the keys and values the scales and minima everywhere and the packed codes in lanes 0 to 63.
-/
module

public import proofs.«01_k».proof.Proof.QkvFrame
public import proofs.«01_k».proof.Proof.QkvArrays
public import proofs.«01_k».proof.Proof.QkvValue
public import proofs.«01_k».proof.Proof.QkvBits
public import proofs.«01_k».proof.Proof.Gen.On_code_lanes
public import proofs.«01_k».proof.Defs

@[expose] public section

set_option maxRecDepth 16384

noncomputable section

namespace Cert.QkvIdeal.Hand

open Cert.QkvIdeal Cert.QkvIdeal.Gen
open Idealize.ShloMosaic hiding ix1 ix2 ix3 eq_ix2 eq_ix3
open Idealize.ShloMosaic.ValueIdx (ix1 ix2 ix3 eq_ix2 eq_ix3)
open Idealize.ShloMosaic.TcCoe Idealize.SL.Sem
open Cert.QkvRefIdeal.Hand (queries keys values packedR)

variable (m : (ℓ : Loc nD τ sig) → Buf (Elt Ideal) ℓ) (c : Dev nD)

/-- The rows and the gains the first point finds are the whole arrays. -/
theorem rows_eq : rows m c = V m c main_v0 := iblk0_eq m c t0_0
theorem gains_eq : gains m c = V m c main_v1 := iblk1_eq m c t0_0

/-- Point `t`'s tile is the reference's columns from `1024 t` on. -/
theorem tile (t : Fin cfg0.N) (h6 : t.val < 6) :
    QkvValue.TileAt (V m c main_v0) (V m c main_v1) (V m c main_arg2) (V m c main_v2) (V m c main_v3) t.val h6 (yT m c t) := by
  intro r j
  show yTile (k0_pay33 (rows m c) (gains m c)) (k0_pay356 (k0_pay34 (rows m c) (gains m c))) (k0_pay31 (rows m c) (gains m c)) _ _ _ (ix2 r j) = _
  rw [rows_eq, gains_eq]
  exact QkvValue.tile_eq _ _ _ _ _ _ _ _ r j (col t j) (fun k => iblk2_at m c t k j) (iblk3_at m c t 0 j) (iblk4_at m c t 0 j)

/-- The reference's query heads, key heads and value heads, of the arrays the kernel works on. -/
abbrev refQ : FVec Ideal QkvRefIdeal.S24x32x128 .f32 :=
  queries (V m c main_v0) (V m c main_v1) (V m c main_arg2) (V m c main_v2) (V m c main_v3) (V m c main_v4) (V m c main_v5)
abbrev refK : FVec Ideal QkvRefIdeal.S24x8x128 .f32 :=
  keys (V m c main_v0) (V m c main_v1) (V m c main_arg2) (V m c main_v2) (V m c main_v3) (V m c main_v4) (V m c main_v5)
abbrev refV : FVec Ideal QkvRefIdeal.S24x8x128 .f32 :=
  values (V m c main_v0) (V m c main_v1) (V m c main_arg2) (V m c main_v2) (V m c main_v3)

/-- The key heads are the reference's. -/
theorem keyHead_eq (i : Fin 8) (r : Fin 24) (l : Fin 128) : keyHead m c i (ix2 r l) = refK m c (ix3 r i l) := by
  show rope (k0_pay359 (iblk m c 5 t0_4) (iblk m c 5 t0_4)) (k0_pay360 (iblk m c 6 t0_4) (iblk m c 6 t0_4)) _ _ = _
  rw [iblk5_eq, iblk6_eq]
  exact QkvValue.key_eq _ _ (tile m c t0_4 (by decide)) i r l

/-- The value heads are the reference's. -/
theorem valHead_eq (i : Fin 8) (r : Fin 24) (l : Fin 128) : valHead m c i (ix2 r l) = refV m c (ix3 r i l) :=
  QkvValue.value_eq (tile m c t0_5 (by decide)) i r l

/-- A buffer that holds every tile's query heads is the reference's. -/
theorem queries_eq {X : Vec Ideal S24x32x128 .f32} (hX : QHeads m c 5 X) : X = refQ m c := by
  funext z
  obtain ⟨r, h, l, rfl⟩ : ∃ (r : Fin 24) (h : Fin 32) (l : Fin 128), z = ix3 r h l := ⟨z 0, z 1, z 2, eq_ix3 z⟩
  have hh := h.isLt
  have hN : cfg0.N = 6 := N_0
  let t : Fin cfg0.N := ⟨h.val / 8, by omega⟩
  have h4 : t.val < 4 := by show h.val / 8 < 4; omega
  let i : Fin 8 := ⟨h.val % 8, Nat.mod_lt _ (by decide)⟩
  have e : h = (⟨8 * t.val + i.val, by show 8 * (h.val / 8) + h.val % 8 < 32; omega⟩ : Fin 32) :=
    Fin.ext (by show h.val = 8 * (h.val / 8) + h.val % 8; omega)
  have hq := QkvValue.query_eq (V m c main_v4) (V m c main_v5) h4 (tile m c t (by omega)) i r l
  rw [e]
  refine (hX t h4 (by omega) i r l).trans (Eq.trans ?_ hq)
  rw [QkvHead.slab_at]
  show rope (k0_pay359 (iblk m c 5 t) (iblk m c 5 t)) (k0_pay360 (iblk m c 6 t) (iblk m c 6 t)) _ _ = _
  rw [iblk5_eq, iblk6_eq]

/-- A buffer that holds the packed codes of heads equal to a stack of heads is the reference's below lane 64. -/
theorem codes_eq {v : Fin 8 → FVec Ideal S24x128 .f32} {W : FVec Ideal QkvRefIdeal.S24x8x128 .f32} {X : Vec Ideal S24x8x128 .i32} (hX : CodesAt v X)
    (h : ∀ (i : Fin 8) (r : Fin 24) (l : Fin 128), v i (ix2 r l) = W (ix3 r i l)) (z : S24x8x128.Idx) (hz : (z 2).val < 64) : X z = packedR W z := by
  obtain ⟨r, i, l, rfl⟩ : ∃ (r : Fin 24) (i : Fin 8) (l : Fin 128), z = ix3 r i l := ⟨z 0, z 1, z 2, eq_ix3 z⟩
  exact (hX i r l).trans (QkvValue.packed_eq h i r l hz)

/-- So are the scales, -/
theorem steps_eq {v : Fin 8 → FVec Ideal S24x128 .f32} {W : FVec Ideal QkvRefIdeal.S24x8x128 .f32} {X : Vec Ideal S24x8 .f32} (hX : ColsAt (fun i => step (v i)) X)
    (h : ∀ (i : Fin 8) (r : Fin 24) (l : Fin 128), v i (ix2 r l) = W (ix3 r i l)) : X = QkvRefIdeal.Gen.k0_pay19 W := by
  funext z
  obtain ⟨r, i, rfl⟩ : ∃ (r : Fin 24) (i : Fin 8), z = ix2 r i := ⟨z 0, z 1, eq_ix2 z⟩
  exact (hX i r).trans (QkvValue.step_eq h i r)

/-- and the minima, everywhere. -/
theorem lows_eq {v : Fin 8 → FVec Ideal S24x128 .f32} {W : FVec Ideal QkvRefIdeal.S24x8x128 .f32} {X : Vec Ideal S24x8 .f32} (hX : ColsAt (fun i => low (v i)) X)
    (h : ∀ (i : Fin 8) (r : Fin 24) (l : Fin 128), v i (ix2 r l) = W (ix3 r i l)) : X = QkvRefIdeal.Gen.k0_pay18 W := by
  funext z
  obtain ⟨r, i, rfl⟩ : ∃ (r : Fin 24) (i : Fin 8), z = ix2 r i := ⟨z 0, z 1, eq_ix2 z⟩
  exact (hX i r).trans (QkvValue.low_eq h i r)

end Cert.QkvIdeal.Hand

namespace Cert.QkvFinal

open Idealize.ShloMosaic Idealize.ShloMosaic.TcCoe Idealize.SL.Sem Idealize.ShloMosaic.Tactic

/-- The frame of the kernel at bit patterns. -/
theorem quiescent_qkv : Cert.quiescent_Qkv (hQkv := Cert.Qkv.Gen.facts) := fun m g _ => Cert.QkvSame.frame m g

/-- The frame of the kernel at exact arithmetic. -/
theorem quiescent_qkvIdeal : Cert.quiescent_QkvIdeal (hQkvIdeal := Cert.QkvIdeal.Gen.facts) := fun m g _ => Cert.QkvIdeal.Hand.frame m g

/-- The frame of the reference. -/
theorem quiescent_qkvRef : Cert.quiescent_QkvRefIdeal (hQkvRefIdeal := Cert.QkvRefIdeal.Gen.facts) := fun m g _ => Cert.QkvRefIdeal.Gen.frame m g

/-- A lane the claim's mask marks is below 64. -/
theorem lane_lt : ∀ l : Fin 128, Scalar.cmpi .slt (BitVec.ofNat 32 l.val) 64#32 = 1#1 → l.val < 64 := by decide +kernel

/-- The kernel and its reference end with equal results wherever `code_lanes` claims them. -/
theorem algebraic : Cert.algebraic_QkvIdeal_QkvRefIdeal_on_code_lanes (hQkvIdeal := Cert.QkvIdeal.Gen.facts)
    (hQkvRefIdeal := Cert.QkvRefIdeal.Gen.facts) (hOn_code_lanes := Cert.On_code_lanes.Gen.facts) := by
  intro m g m' g' _ hagree
  have e0 : ∀ c, QkvRefIdeal.Gen.V m' c QkvRefIdeal.main_v0 = QkvIdeal.Gen.V m c QkvIdeal.main_v0 := fun c => by
    rw [QkvRefIdeal.Hand.V_main_v0, QkvIdeal.Hand.V_main_v0, (hagree c).1]
  have e1 : ∀ c, QkvRefIdeal.Gen.V m' c QkvRefIdeal.main_v1 = QkvIdeal.Gen.V m c QkvIdeal.main_v1 := fun c => by
    rw [QkvRefIdeal.Hand.V_main_v1, QkvIdeal.Hand.V_main_v1, (hagree c).2.1]
  have e2 : ∀ c, QkvRefIdeal.Gen.V m' c QkvRefIdeal.main_arg2 = QkvIdeal.Gen.V m c QkvIdeal.main_arg2 := fun c => by
    rw [QkvRefIdeal.Gen.V_main_arg2, QkvIdeal.Gen.V_main_arg2, (hagree c).2.2.1]
  have e3 : ∀ c, QkvRefIdeal.Gen.V m' c QkvRefIdeal.main_v2 = QkvIdeal.Gen.V m c QkvIdeal.main_v2 := fun c => by
    rw [QkvRefIdeal.Hand.V_main_v2, QkvIdeal.Hand.V_main_v2, (hagree c).2.2.2.1]
  have e4 : ∀ c, QkvRefIdeal.Gen.V m' c QkvRefIdeal.main_v3 = QkvIdeal.Gen.V m c QkvIdeal.main_v3 := fun c => by
    rw [QkvRefIdeal.Hand.V_main_v3, QkvIdeal.Hand.V_main_v3, (hagree c).2.2.2.2.1]
  have e5 : ∀ c, QkvRefIdeal.Gen.V m' c QkvRefIdeal.main_v4 = QkvIdeal.Gen.V m c QkvIdeal.main_v4 := fun c => by
    rw [QkvRefIdeal.Hand.V_main_v4, QkvIdeal.Hand.V_main_v4, (hagree c).2.2.2.2.2.1]
  have e6 : ∀ c, QkvRefIdeal.Gen.V m' c QkvRefIdeal.main_v5 = QkvIdeal.Gen.V m c QkvIdeal.main_v5 := fun c => by
    rw [QkvRefIdeal.Hand.V_main_v5, QkvIdeal.Hand.V_main_v5, (hagree c).2.2.2.2.2.2]
  refine ⟨fun c => QkvRefIdeal.Gen.k0_pay4 (QkvIdeal.Gen.V m c QkvIdeal.main_v0) (QkvIdeal.Gen.V m c QkvIdeal.main_v1),
    fun c => QkvRefIdeal.Gen.k0_pay3 (QkvIdeal.Gen.V m c QkvIdeal.main_v0) (QkvIdeal.Gen.V m c QkvIdeal.main_v1),
    fun c => QkvIdeal.Hand.refQ m c,
    fun c => QkvRefIdeal.Hand.packedR (QkvIdeal.Hand.refK m c), fun c => QkvRefIdeal.Gen.k0_pay19 (QkvIdeal.Hand.refK m c), fun c => QkvRefIdeal.Gen.k0_pay18 (QkvIdeal.Hand.refK m c),
    fun c => QkvRefIdeal.Hand.packedR (QkvIdeal.Hand.refV m c), fun c => QkvRefIdeal.Gen.k0_pay19 (QkvIdeal.Hand.refV m c), fun c => QkvRefIdeal.Gen.k0_pay18 (QkvIdeal.Hand.refV m c),
    ?_, ?_⟩
  · refine (θ_run QkvIdeal.defs _ _).mono (fun r h c => ?_) (QkvIdeal.Hand.run_blocks m g)
    obtain ⟨h7, h8, h9, h13, h15, h16, h17, h19, h20, hk⟩ := h c
    refine ⟨fun i _ => congrFun (h7.trans ?_) i, fun i _ => congrFun (h8.trans ?_) i, fun i _ => congrFun (QkvIdeal.Hand.queries_eq m c h9) i,
      fun i hi => QkvIdeal.Hand.codes_eq h13 (QkvIdeal.Hand.keyHead_eq m c) i (lane_lt _ hi),
      fun i _ => congrFun (QkvIdeal.Hand.steps_eq h15 (QkvIdeal.Hand.keyHead_eq m c)) i, fun i _ => congrFun (QkvIdeal.Hand.lows_eq h16 (QkvIdeal.Hand.keyHead_eq m c)) i,
      fun i hi => QkvIdeal.Hand.codes_eq h17 (QkvIdeal.Hand.valHead_eq m c) i (lane_lt _ hi),
      fun i _ => congrFun (QkvIdeal.Hand.steps_eq h19 (QkvIdeal.Hand.valHead_eq m c)) i, fun i _ => congrFun (QkvIdeal.Hand.lows_eq h20 (QkvIdeal.Hand.valHead_eq m c)) i, hk⟩
    · show QkvIdeal.Gen.k0_pay357 (QkvIdeal.Gen.k0_pay32 (QkvIdeal.Hand.rows m c) (QkvIdeal.Hand.gains m c)) = _
      rw [QkvIdeal.Hand.rows_eq, QkvIdeal.Hand.gains_eq]
      exact QkvValue.codes_eq _ _
    · show QkvIdeal.Gen.k0_pay31 (QkvIdeal.Hand.rows m c) (QkvIdeal.Hand.gains m c) = _
      rw [QkvIdeal.Hand.rows_eq, QkvIdeal.Hand.gains_eq]
      exact QkvValue.scale_eq _ _
  · refine (θ_run QkvRefIdeal.defs _ _).mono (fun r h c => ?_) (QkvRefIdeal.Hand.run_blocks m' g')
    obtain ⟨h7, h8, h9, h10, h11, h12, h13, h14, h15, hk⟩ := h c
    rw [QkvRefIdeal.Hand.final7, e0, e1] at h7
    rw [QkvRefIdeal.Hand.final8, e0, e1] at h8
    rw [QkvRefIdeal.Hand.final9, e0, e1, e2, e3, e4, e5, e6] at h9
    rw [QkvRefIdeal.Hand.final10, e0, e1, e2, e3, e4, e5, e6] at h10
    rw [QkvRefIdeal.Hand.final11, e0, e1, e2, e3, e4, e5, e6] at h11
    rw [QkvRefIdeal.Hand.final12, e0, e1, e2, e3, e4, e5, e6] at h12
    rw [QkvRefIdeal.Hand.final13, e0, e1, e2, e3, e4] at h13
    rw [QkvRefIdeal.Hand.final14, e0, e1, e2, e3, e4] at h14
    rw [QkvRefIdeal.Hand.final15, e0, e1, e2, e3, e4] at h15
    exact ⟨fun i _ => congrFun h7 i, fun i _ => congrFun h8 i, fun i _ => congrFun h9 i, fun i _ => congrFun h10 i, fun i _ => congrFun h11 i,
      fun i _ => congrFun h12 i, fun i _ => congrFun h13 i, fun i _ => congrFun h14 i, fun i _ => congrFun h15 i, hk⟩

end Cert.QkvFinal

end
-- ==== Proof.StreamSpec.lean ====
/-
  Hand-written, untrusted. What one query head of the streaming attention is worth at one position, as a function of the data of its
  key head; the kernel and the reference are both shown to compute this.
-/
module

public import Idealize.ShloMosaic.Lib.Pointwise

@[expose] public section

noncomputable section

namespace Cert.Stream

open Idealize.ShloMosaic

/-- The data one query head at one position works on: the length, the query, and the key and value codes with their scales and minima,
    for the cached tokens and for the new one. -/
structure Row where
  /-- The number of cached tokens that count. -/
  len : BitVec 32
  /-- The query. -/
  q : Fin 128 → EReal
  /-- The cached keys' packed codes. -/
  kc : Fin 320 → Fin 64 → BitVec 8
  /-- The cached keys' scales. -/
  ks : Fin 320 → EReal
  /-- The cached keys' minima. -/
  kz : Fin 320 → EReal
  /-- The cached values' packed codes. -/
  vc : Fin 320 → Fin 64 → BitVec 8
  /-- The cached values' scales. -/
  vs : Fin 320 → EReal
  /-- The cached values' minima. -/
  vz : Fin 320 → EReal
  /-- The new key's codes. -/
  kn : Fin 128 → EReal
  /-- The new key's scale. -/
  kns : EReal
  /-- The new key's minimum. -/
  knz : EReal
  /-- The new value's codes. -/
  vn : Fin 128 → EReal
  /-- The new value's scale. -/
  vns : EReal
  /-- The new value's minimum. -/
  vnz : EReal

/-- The code at one of 128 places of 64 packed bytes: low halves first, then high halves. -/
def nib (w : Fin 64 → BitVec 8) (l : Fin 128) : EReal :=
  if h : l.val < 64 then (((w ⟨l.val, h⟩ &&& 15#8).toNat : ℝ) : EReal) else (((w ⟨l.val - 64, by omega⟩ >>> 4).toNat : ℝ) : EReal)

namespace Row

variable (x : Row)

/-- The query's sum. -/
def qs : EReal := ∑ d, x.q d

/-- The product of the query with a cached token's codes, low halves and high halves apart. -/
def raw (t : Fin 320) : EReal :=
  (∑ e : Fin 64, x.q ⟨e.val, by omega⟩ * (((x.kc t e &&& 15#8).toNat : ℝ) : EReal))
    + ∑ e : Fin 64, x.q ⟨64 + e.val, by omega⟩ * (((x.kc t e >>> 4).toNat : ℝ) : EReal)

/-- A cached token's score, in base 2; the tokens past the length score minus infinity. -/
def s (t : Fin 320) : EReal :=
  Scalar.select (Scalar.cmpi .slt (BitVec.ofNat 32 t.val) x.len)
    ((x.ks t * x.raw t + x.kz t * x.qs) * Ideal.ofBits .f32 0x3DB504F3#32 * Ideal.ofBits .f32 0x3FB8AA3B#32)
    (Ideal.ofBits .f32 0xFF800000#32)

/-- The new token's score, in base 2. -/
def sn : EReal :=
  (x.kns * (∑ d, x.q d * x.kn d) + x.knz * x.qs) * Ideal.ofBits .f32 0x3DB504F3#32 * Ideal.ofBits .f32 0x3FB8AA3B#32

/-- The largest score, rounded up to a whole number. -/
def mx : EReal := Ideal.liftRound Int.ceil (max (Finset.fold max (Ideal.ofBits .f32 0xFF800000#32) x.s Finset.univ) x.sn)

/-- A cached token's weight. -/
def p (t : Fin 320) : EReal := Ideal.exp2 (x.s t - x.mx)

/-- The new token's weight. -/
def pn : EReal := Ideal.exp2 (x.sn - x.mx)

/-- The sum of the weights. -/
def den : EReal := (∑ t, x.p t) + x.pn

/-- The attention at one lane. -/
def out (l : Fin 128) : EReal :=
  Ideal.div (((∑ t, x.p t * x.vs t * nib (x.vc t) l) + x.pn * x.vns * x.vn l) + ((∑ t, x.p t * x.vz t) + x.pn * x.vnz)) x.den

end Row

/-- One query head's data in the arguments: position `b`, key head `c`, query head `m` of the key head's four. -/
def argRow (a0 : IVec ⟨1, ![24]⟩ 32) (a1 : FVec Ideal ⟨3, ![24, 32, 128]⟩ .f32) (a3 : IVec ⟨4, ![24, 5, 320, 64]⟩ 8) (a4 a5 : FVec Ideal ⟨3, ![24, 5, 320]⟩ .f32)
    (a6 : IVec ⟨4, ![24, 5, 320, 64]⟩ 8) (a7 a8 : FVec Ideal ⟨3, ![24, 5, 320]⟩ .f32) (a9 : FVec Ideal ⟨3, ![24, 8, 128]⟩ .f32) (a10 a11 : FVec Ideal ⟨2, ![24, 8]⟩ .f32)
    (a12 : FVec Ideal ⟨3, ![24, 8, 128]⟩ .f32) (a13 a14 : FVec Ideal ⟨2, ![24, 8]⟩ .f32) (b : Fin 24) (c : Fin 5) (m : Fin 4) : Row where
  len := a0 (ix1 b)
  q d := a1 (ix3 b ⟨4 * c.val + m.val, by omega⟩ d)
  kc t e := a3 (ix4 b c t e)
  ks t := a4 (ix3 b c t)
  kz t := a5 (ix3 b c t)
  vc t e := a6 (ix4 b c t e)
  vs t := a7 (ix3 b c t)
  vz t := a8 (ix3 b c t)
  kn d := a9 (ix3 b ⟨c.val, by omega⟩ d)
  kns := a10 (ix2 b ⟨c.val, by omega⟩)
  knz := a11 (ix2 b ⟨c.val, by omega⟩)
  vn d := a12 (ix3 b ⟨c.val, by omega⟩ d)
  vns := a13 (ix2 b ⟨c.val, by omega⟩)
  vnz := a14 (ix2 b ⟨c.val, by omega⟩)

end Cert.Stream
end
-- ==== Proof.StreamHead.lean ====
/-
  Hand-written, untrusted. One key head of the streaming attention kernel: its four query heads as a function of what the body loads for
  it, and the value of that function at an element.
-/
module

public import proofs.«01_k».proof.Proof.StreamSpec
public import proofs.«01_k».proof.Proof.W4A8
public import proofs.«01_k».proof.Proof.Gen.StreamIdeal.Value

@[expose] public section

set_option maxRecDepth 16384

noncomputable section

namespace Cert.StreamIdeal.Hand

open Cert.StreamIdeal Cert.StreamIdeal.Gen Cert.Stream Cert.Common Idealize.ShloMosaic Idealize.ShloMosaic.TcCoe

section Head

variable {F : FTy → Type} [FloatOps F]
variable (mine : IVec S8x1 1) (len : Elt F .i32) (q : Vec F S1x4x128 .f32) (kc : Vec F S1x1x64x320 .i8) (ks kz : Vec F S1x8x320 .f32)
  (vc : Vec F S1x1x64x320 .i8) (vs vz : Vec F S1x8x320 .f32) (kn : Vec F S1x1x128 .f32) (kns knz : Vec F S1x1 .f32)
  (vn : Vec F S1x1x128 .f32) (vns vnz : Vec F S1x1 .f32)

/-- The masked scores of the cached tokens. -/
def scores : FVec F S4x320 .f32 := k0_pay8 (k0_pay2 len) mine (k0_pay4 q) (k0_pay5 q) (k0_pay6 (F := F) kc) (k0_pay7 kc) 4#32 ks kz

/-- The four query heads of one key head, from what the body loads for it. -/
def head : FVec F S4x128 .f32 :=
  k0_pay17 mine (k0_pay12 (k0_pay5 q) (scores mine len q kc ks kz) (k0_pay9 (k0_pay4 q) kn) kns knz)
    (k0_pay13 (k0_pay5 q) (scores mine len q kc ks kz) (k0_pay9 (k0_pay4 q) kn) kns knz)
    (k0_pay14 (k0_pay5 q) (scores mine len q kc ks kz) (k0_pay9 (k0_pay4 q) kn) kns knz)
    (k0_pay15 vc) (k0_pay16 vs) (Scalar.ofBits .f32 0x00000000#32) vns vn vz vnz

end Head

variable (mine : IVec S8x1 1) (len : BitVec 32) (q : FVec Ideal S1x4x128 .f32) (kc : IVec S1x1x64x320 8) (ks kz : FVec Ideal S1x8x320 .f32)
  (vc : IVec S1x1x64x320 8) (vs vz : FVec Ideal S1x8x320 .f32) (kn : FVec Ideal S1x1x128 .f32) (kns knz : FVec Ideal S1x1 .f32)
  (vn : FVec Ideal S1x1x128 .f32) (vns vnz : FVec Ideal S1x1 .f32)

/-- What the body loads for a key head, as one query head's data: the scales and minima are taken at the position's row of the eight. -/
def rowOf (r0 : Fin 8) (m : Fin 4) : Row where
  len := len
  q d := q (ix3 0 m d)
  kc t e := kc (ix4 0 0 e t)
  ks t := ks (ix3 0 r0 t)
  kz t := kz (ix3 0 r0 t)
  vc t e := vc (ix4 0 0 e t)
  vs t := vs (ix3 0 r0 t)
  vz t := vz (ix3 0 r0 t)
  kn d := kn (ix3 0 0 d)
  kns := kns (ix2 0 0)
  knz := knz (ix2 0 0)
  vn d := vn (ix3 0 0 d)
  vns := vns (ix2 0 0)
  vnz := vnz (ix2 0 0)

/-- Of the eight rows, all but the position's own are set to zero before the sum. -/
theorem pick {mine : IVec S8x1 1} {r0 : Fin 8} (hm : ∀ r : Fin 8, mine (ix2 r 0) = if r = r0 then 1#1 else 0#1) (f : Fin 8 → EReal) :
    ∑ r, Scalar.select (mine (ix2 r 0)) (f r) 0 = f r0 := by
  rw [Finset.sum_eq_single r0]
  · rw [hm, if_pos rfl]; rfl
  · intro r _ hr; rw [hm, if_neg hr]; rfl
  · intro h; exact absurd (Finset.mem_univ _) h

/-- The query at bf16 is the query: no rounding at exact arithmetic. -/
theorem pay4_at (m : Fin 4) (d : Fin 128) : k0_pay4 (F := Ideal) q (ix2 m d) = q (ix3 0 m d) := by
  pointwise [k0_pay4]

/-- The query's sum. -/
theorem pay5_at (m : Fin 4) : k0_pay5 (F := Ideal) q (ix2 m 0) = ∑ d, q (ix3 0 m d) := by
  pointwise [k0_pay5, k0_pay4]

/-- The low halves of the keys' codes. -/
theorem pay7_at (e : Fin 64) (t : Fin 320) : k0_pay7 (F := Ideal) kc (ix2 e t) = (((kc (ix4 0 0 e t) &&& 15#8).toNat : ℝ) : EReal) := by
  pointwise [k0_pay7, k0_pay6, low_nibbles]
  rfl

/-- The values' codes, unpacked. -/
theorem pay15_at (d : Fin 128) (t : Fin 320) : k0_pay15 (F := Ideal) vc (ix2 d t) = nib (fun e => vc (ix4 0 0 e t)) d := by
  pointwise [k0_pay15, low_nibbles, high_nibbles]
  rfl

section Values

variable (r0 : Fin 8) (hm : ∀ r : Fin 8, mine (ix2 r 0) = if r = r0 then 1#1 else 0#1) (m : Fin 4)

include hm in
/-- The masked scores at an element. -/
theorem scores_at (t : Fin 320) : scores (F := Ideal) mine len q kc ks kz (ix2 m t) = (rowOf len q kc ks kz vc vs vz kn kns knz vn vns vnz r0 m).s t := by
  pointwise [scores, k0_pay8, k0_pay2, k0_pay6, pay4_at, pay5_at, pay7_at, high_nibbles, pick hm, dot_S4x128_S128x320_S4x320_1_0_0_1_n_n]
  rfl

/-- The new token's score at an element. -/
theorem new_at : k0_pay10 (F := Ideal) (k0_pay5 q) (k0_pay9 (k0_pay4 q) kn) kns knz (ix2 m 0) = (rowOf len q kc ks kz vc vs vz kn kns knz vn vns vnz r0 m).sn := by
  pointwise [k0_pay10, k0_pay9, pay4_at, pay5_at]
  rfl

include hm in
/-- The largest score at an element. -/
theorem max_at : k0_pay11 (F := Ideal) (k0_pay5 q) (scores mine len q kc ks kz) (k0_pay9 (k0_pay4 q) kn) kns knz (ix2 m 0) = (rowOf len q kc ks kz vc vs vz kn kns knz vn vns vnz r0 m).mx := by
  pointwise [k0_pay11, scores_at mine len q kc ks kz vc vs vz kn kns knz vn vns vnz r0 hm, new_at len q kc ks kz vc vs vz kn kns knz vn vns vnz r0]
  rfl

include hm in
/-- The weights at an element. -/
theorem weight_at (t : Fin 320) :
    k0_pay12 (F := Ideal) (k0_pay5 q) (scores mine len q kc ks kz) (k0_pay9 (k0_pay4 q) kn) kns knz (ix2 m t) = (rowOf len q kc ks kz vc vs vz kn kns knz vn vns vnz r0 m).p t := by
  pointwise [k0_pay12, scores_at mine len q kc ks kz vc vs vz kn kns knz vn vns vnz r0 hm, max_at mine len q kc ks kz vc vs vz kn kns knz vn vns vnz r0 hm]
  rfl

include hm in
/-- The new token's weight at an element. -/
theorem newWeight_at : k0_pay13 (F := Ideal) (k0_pay5 q) (scores mine len q kc ks kz) (k0_pay9 (k0_pay4 q) kn) kns knz (ix2 m 0) = (rowOf len q kc ks kz vc vs vz kn kns knz vn vns vnz r0 m).pn := by
  pointwise [k0_pay13, new_at len q kc ks kz vc vs vz kn kns knz vn vns vnz r0, max_at mine len q kc ks kz vc vs vz kn kns knz vn vns vnz r0 hm]
  rfl

include hm in
/-- The sum of the weights at an element. -/
theorem den_at : k0_pay14 (F := Ideal) (k0_pay5 q) (scores mine len q kc ks kz) (k0_pay9 (k0_pay4 q) kn) kns knz (ix2 m 0) = (rowOf len q kc ks kz vc vs vz kn kns knz vn vns vnz r0 m).den := by
  pointwise [k0_pay14, weight_at mine len q kc ks kz vc vs vz kn kns knz vn vns vnz r0 hm, newWeight_at mine len q kc ks kz vc vs vz kn kns knz vn vns vnz r0 hm]
  rfl

include hm in
/-- The attention of one query head at a lane. -/
theorem head_at (l : Fin 128) : head (F := Ideal) mine len q kc ks kz vc vs vz kn kns knz vn vns vnz (ix2 m l) = (rowOf len q kc ks kz vc vs vz kn kns knz vn vns vnz r0 m).out l := by
  pointwise [head, k0_pay17, k0_pay16, pay15_at, pick hm, weight_at mine len q kc ks kz vc vs vz kn kns knz vn vns vnz r0 hm,
    newWeight_at mine len q kc ks kz vc vs vz kn kns knz vn vns vnz r0 hm, den_at mine len q kc ks kz vc vs vz kn kns knz vn vns vnz r0 hm,
    dot_S4x320_S128x320_S4x128_1_1_0_0_n_n]
  rfl

end Values

end Cert.StreamIdeal.Hand
end
-- ==== Proof.StreamBlock.lean ====
/-
  Hand-written, untrusted. What the streaming attention kernel's body leaves in its output block at one grid point: the attention of each of
  the twenty query heads, as a function of the blocks it is given.
-/
module

public import proofs.«01_k».proof.Proof.StreamHead
public import proofs.«01_k».proof.Proof.Common

@[expose] public section

set_option maxRecDepth 16384

noncomputable section

namespace Cert.StreamIdeal.Hand

open Cert.StreamIdeal Cert.StreamIdeal.Gen Cert.Stream Cert.Common Idealize.ShloMosaic Idealize.ShloMosaic.TcCoe

/-- After a store of four rows of the middle axis of a block of twenty, those rows read the payload. -/
theorem read_rows_mem {Val : EltTy → Type} {sg : RefSig} {κ : Kind} {sp : Space} {e : EltTy} (v : View sg κ sp S1x20x128 e) (f : v.ty.Contents Val) (k : ℕ)
    (inb : ∀ a, (![0, k, 0] : Fin 3 → ℕ) a + S1x4x128.size a ≤ S1x20x128.size a)
    (w : (Rect.unit (s := S1x20x128) ![0, k, 0] S1x4x128.size inb).shape.Idx → Val e) (L : List (View.Piece Val S1x20x128 e))
    (h : Fin 20) (l : Fin 128) (m : Fin 4) (hk : h.val = k + m.val) :
    v.read Val (v.writes Val f (⟨Rect.unit ![0, k, 0] S1x4x128.size inb, w⟩ :: L)) (ix3 (0 : Fin 1) h l) = w (ix3 (0 : Fin 1) m l) := by
  refine View.read_writes_cons_unit_of_mem v f inb w L _ (ix3 (0 : Fin 1) m l) rfl fun a => ?_
  fin_cases a
  · exact (Nat.zero_add _).symm
  · exact hk
  · exact (Nat.zero_add _).symm

/-- The other rows read what they read before. -/
theorem read_rows_not {Val : EltTy → Type} {sg : RefSig} {κ : Kind} {sp : Space} {e : EltTy} (v : View sg κ sp S1x20x128 e) (f : v.ty.Contents Val) (k : ℕ)
    (inb : ∀ a, (![0, k, 0] : Fin 3 → ℕ) a + S1x4x128.size a ≤ S1x20x128.size a)
    (w : (Rect.unit (s := S1x20x128) ![0, k, 0] S1x4x128.size inb).shape.Idx → Val e) (L : List (View.Piece Val S1x20x128 e))
    (h : Fin 20) (l : Fin 128) (hk : h.val < k ∨ k + 4 ≤ h.val) :
    v.read Val (v.writes Val f (⟨Rect.unit ![0, k, 0] S1x4x128.size inb, w⟩ :: L)) (ix3 (0 : Fin 1) h l)
      = v.read Val (v.writes Val f L) (ix3 (0 : Fin 1) h l) :=
  View.read_writes_cons_unit_of_not_mem v f inb w L _ rfl (1 : Fin 3) hk

/-- A stored payload at an element: the four rows under a unit axis. -/
theorem pay18_at (v : FVec Ideal S4x128 .f32) (m : Fin 4) (l : Fin 128) : k0_pay18 (F := Ideal) v (ix3 (0 : Fin 1) m l) = v (ix2 m l) := by
  pointwise [k0_pay18]

/-- A load of a window of a buffer that holds `x` reads `x` at the window's place. -/
theorem load_at {Val : EltTy → Type} {sg : RefSig} {κ : Kind} {sp : Space} {s : Shape} {e : EltTy} {a : Memref sg κ sp s e} (h : a.IsWhole)
    (x : s.Idx → Val e) (off size : Fin s.rank → ℕ) (inb : ∀ k, off k + size k ≤ s.size k) (y : (Rect.unit off size inb).shape.Idx) (j : s.Idx)
    (hj : ∀ k, (j k).val = off k + (y k).val) : a.view.readAt Val (Rect.unit off size inb).toLoadRect (h.unread x) y = x j := by
  rw [readAt_window, h.read_unread]
  refine congrArg x (funext fun k => Fin.ext ?_)
  show off k + 1 * (y k).val = (j k).val
  rw [hj k, Nat.one_mul]

/-- One query head's data in the blocks of a grid point. -/
def blockRow (x0 : IVec S24 32) (x1 : FVec Ideal S1x32x128 .f32) (x3 : IVec S1x5x64x320 8) (x4 x5 : FVec Ideal S5x24x320 .f32)
    (x6 : IVec S1x5x64x320 8) (x7 x8 : FVec Ideal S5x24x320 .f32) (x9 : FVec Ideal S1x8x128 .f32) (x10 x11 : FVec Ideal S24x8 .f32)
    (x12 : FVec Ideal S1x8x128 .f32) (x13 x14 : FVec Ideal S24x8 .f32) (b : Fin 24) (c : Fin 5) (m : Fin 4) : Row where
  len := x0 (ix1 b)
  q d := x1 (ix3 0 ⟨4 * c.val + m.val, by omega⟩ d)
  kc t e := x3 (ix4 0 c e t)
  ks t := x4 (ix3 c b t)
  kz t := x5 (ix3 c b t)
  vc t e := x6 (ix4 0 c e t)
  vs t := x7 (ix3 c b t)
  vz t := x8 (ix3 c b t)
  kn d := x9 (ix3 0 ⟨c.val, by omega⟩ d)
  kns := x10 (ix2 b ⟨c.val, by omega⟩)
  knz := x11 (ix2 b ⟨c.val, by omega⟩)
  vn d := x12 (ix3 0 ⟨c.val, by omega⟩ d)
  vns := x13 (ix2 b ⟨c.val, by omega⟩)
  vnz := x14 (ix2 b ⟨c.val, by omega⟩)

section

variable (i : grid0.Coords) (arg1 : Memref sig .tc .smem S24 .i32) (harg1 : arg1.IsWhole) (arg2 : Memref sig .tc .vmem S1x32x128 .f32) (harg2 : arg2.IsWhole) (arg3 : Memref sig .tc .vmem S24x32 .f32) (harg3 : arg3.IsWhole)
  (arg4 : Memref sig .tc .vmem S1x5x64x320 .i8) (harg4 : arg4.IsWhole) (arg5 : Memref sig .tc .vmem S5x24x320 .f32) (harg5 : arg5.IsWhole) (arg6 : Memref sig .tc .vmem S5x24x320 .f32) (harg6 : arg6.IsWhole)
  (arg7 : Memref sig .tc .vmem S1x5x64x320 .i8) (harg7 : arg7.IsWhole) (arg8 : Memref sig .tc .vmem S5x24x320 .f32) (harg8 : arg8.IsWhole) (arg9 : Memref sig .tc .vmem S5x24x320 .f32) (harg9 : arg9.IsWhole)
  (arg10 : Memref sig .tc .vmem S1x8x128 .f32) (harg10 : arg10.IsWhole) (arg11 : Memref sig .tc .vmem S24x8 .f32) (harg11 : arg11.IsWhole) (arg12 : Memref sig .tc .vmem S24x8 .f32) (harg12 : arg12.IsWhole)
  (arg13 : Memref sig .tc .vmem S1x8x128 .f32) (harg13 : arg13.IsWhole) (arg14 : Memref sig .tc .vmem S24x8 .f32) (harg14 : arg14.IsWhole) (arg15 : Memref sig .tc .vmem S24x8 .f32) (harg15 : arg15.IsWhole) (arg16 : Memref sig .tc .vmem S1x20x128 .f32) (harg16 : arg16.IsWhole)
  (x0 : Vec Ideal S24 .i32) (x1 : Vec Ideal S1x32x128 .f32) (x2 : Vec Ideal S24x32 .f32) (x3 : Vec Ideal S1x5x64x320 .i8) (x4 x5 : Vec Ideal S5x24x320 .f32)
  (x6 : Vec Ideal S1x5x64x320 .i8) (x7 x8 : Vec Ideal S5x24x320 .f32) (x9 : Vec Ideal S1x8x128 .f32) (x10 x11 : Vec Ideal S24x8 .f32)
  (x12 : Vec Ideal S1x8x128 .f32) (x13 x14 : Vec Ideal S24x8 .f32)

/-- The four query heads of one key head, from the loads at the given places of the blocks. -/
def loaded (len : BitVec 32) (oq : Fin 3 → ℕ) (iq : ∀ a, oq a + S1x4x128.size a ≤ S1x32x128.size a) (oc : Fin 4 → ℕ) (ic : ∀ a, oc a + S1x1x64x320.size a ≤ S1x5x64x320.size a)
    (os : Fin 3 → ℕ) (is : ∀ a, os a + S1x8x320.size a ≤ S5x24x320.size a) (on : Fin 3 → ℕ) (ino : ∀ a, on a + S1x1x128.size a ≤ S1x8x128.size a)
    (oe : Fin 2 → ℕ) (ie : ∀ a, oe a + S1x1.size a ≤ S24x8.size a) : FVec Ideal S4x128 .f32 :=
  head (F := Ideal) (k0_pay3 i) len
    (arg2.view.readAt (Elt Ideal) (Rect.unit (s := S1x32x128) oq S1x4x128.size iq).toLoadRect (harg2.unread x1))
    (arg4.view.readAt (Elt Ideal) (Rect.unit (s := S1x5x64x320) oc S1x1x64x320.size ic).toLoadRect (harg4.unread x3))
    (arg5.view.readAt (Elt Ideal) (Rect.unit (s := S5x24x320) os S1x8x320.size is).toLoadRect (harg5.unread x4))
    (arg6.view.readAt (Elt Ideal) (Rect.unit (s := S5x24x320) os S1x8x320.size is).toLoadRect (harg6.unread x5))
    (arg7.view.readAt (Elt Ideal) (Rect.unit (s := S1x5x64x320) oc S1x1x64x320.size ic).toLoadRect (harg7.unread x6))
    (arg8.view.readAt (Elt Ideal) (Rect.unit (s := S5x24x320) os S1x8x320.size is).toLoadRect (harg8.unread x7))
    (arg9.view.readAt (Elt Ideal) (Rect.unit (s := S5x24x320) os S1x8x320.size is).toLoadRect (harg9.unread x8))
    (arg10.view.readAt (Elt Ideal) (Rect.unit (s := S1x8x128) on S1x1x128.size ino).toLoadRect (harg10.unread x9))
    (arg11.view.readAt (Elt Ideal) (Rect.unit (s := S24x8) oe S1x1.size ie).toLoadRect (harg11.unread x10))
    (arg12.view.readAt (Elt Ideal) (Rect.unit (s := S24x8) oe S1x1.size ie).toLoadRect (harg12.unread x11))
    (arg13.view.readAt (Elt Ideal) (Rect.unit (s := S1x8x128) on S1x1x128.size ino).toLoadRect (harg13.unread x12))
    (arg14.view.readAt (Elt Ideal) (Rect.unit (s := S24x8) oe S1x1.size ie).toLoadRect (harg14.unread x13))
    (arg15.view.readAt (Elt Ideal) (Rect.unit (s := S24x8) oe S1x1.size ie).toLoadRect (harg15.unread x14))

/-- The value of `loaded` at an element, when the places are those of key head `c` at position `b`. -/
theorem loaded_at (len : BitVec 32) (oq : Fin 3 → ℕ) (iq : ∀ a, oq a + S1x4x128.size a ≤ S1x32x128.size a) (oc : Fin 4 → ℕ) (ic : ∀ a, oc a + S1x1x64x320.size a ≤ S1x5x64x320.size a)
    (os : Fin 3 → ℕ) (is : ∀ a, os a + S1x8x320.size a ≤ S5x24x320.size a) (on : Fin 3 → ℕ) (ino : ∀ a, on a + S1x1x128.size a ≤ S1x8x128.size a)
    (oe : Fin 2 → ℕ) (ie : ∀ a, oe a + S1x1.size a ≤ S24x8.size a) (b : Fin 24) (c : Fin 5) (m : Fin 4) (l : Fin 128) (r0 : Fin 8) (b8 : ℕ)
    (hl : len = x0 (ix1 b)) (hm : ∀ r : Fin 8, k0_pay3 i (ix2 r 0) = if r = r0 then 1#1 else 0#1) (hb : b8 + r0.val = b.val)
    (hq : oq = ![0, 4 * c.val, 0]) (hc : oc = ![0, c.val, 0, 0]) (hs : os = ![c.val, b8, 0]) (hn : on = ![0, c.val, 0]) (he : oe = ![b.val, c.val]) :
    loaded i arg2 harg2 arg4 harg4 arg5 harg5 arg6 harg6 arg7 harg7 arg8 harg8 arg9 harg9 arg10 harg10 arg11 harg11 arg12 harg12 arg13 harg13 arg14 harg14 arg15 harg15
        x1 x3 x4 x5 x6 x7 x8 x9 x10 x11 x12 x13 x14 len oq iq oc ic os is on ino oe ie (ix2 m l)
      = (blockRow x0 x1 x3 x4 x5 x6 x7 x8 x9 x10 x11 x12 x13 x14 b c m).out l := by
  subst hq hc hs hn he hl
  refine (head_at _ _ _ _ _ _ _ _ _ _ _ _ _ _ _ r0 hm m l).trans ?_
  refine congrArg (fun z => Row.out z l) ?_
  unfold rowOf blockRow
  congr 1
  · funext d; exact load_at harg2 x1 _ _ _ _ _ fun k => by fin_cases k <;> simp
  · funext t e; exact load_at harg4 x3 _ _ _ _ _ fun k => by fin_cases k <;> simp
  · funext t; exact load_at harg5 x4 _ _ _ _ _ fun k => by fin_cases k <;> simp <;> omega
  · funext t; exact load_at harg6 x5 _ _ _ _ _ fun k => by fin_cases k <;> simp <;> omega
  · funext t e; exact load_at harg7 x6 _ _ _ _ _ fun k => by fin_cases k <;> simp
  · funext t; exact load_at harg8 x7 _ _ _ _ _ fun k => by fin_cases k <;> simp <;> omega
  · funext t; exact load_at harg9 x8 _ _ _ _ _ fun k => by fin_cases k <;> simp <;> omega
  · funext d; exact load_at harg10 x9 _ _ _ _ _ fun k => by fin_cases k <;> simp
  · exact load_at harg11 x10 _ _ _ _ _ fun k => by fin_cases k <;> simp
  · exact load_at harg12 x11 _ _ _ _ _ fun k => by fin_cases k <;> simp
  · funext d; exact load_at harg13 x12 _ _ _ _ _ fun k => by fin_cases k <;> simp
  · exact load_at harg14 x13 _ _ _ _ _ fun k => by fin_cases k <;> simp
  · exact load_at harg15 x14 _ _ _ _ _ fun k => by fin_cases k <;> simp

end

/-- Which of the eight loaded rows is the position's own. -/
def own (t : Fin 24) : Fin 8 := ⟨t.val % 8, Nat.mod_lt _ (by decide)⟩

/-- The mask marks that row and no other. -/
theorem mask_at : ∀ (t : Fin 24) (r : Fin 8), k0_pay3 (grid0.coords t) (ix2 r 0) = if r = own t then 1#1 else 0#1 := by decide +kernel

/-- Where each key head's scales and minima are loaded from: the eight rows that hold the position's, and the new token's at the position. -/
theorem places : ∀ t : Fin 24,
    (k0_off2 (grid0.coords t) = ![0, t.val / 8 * 8, 0] ∧ k0_off3 (grid0.coords t) = ![t.val, 0])
    ∧ (k0_off4 (grid0.coords t) = ![1, t.val / 8 * 8, 0] ∧ k0_off5 (grid0.coords t) = ![t.val, 1])
    ∧ (k0_off6 (grid0.coords t) = ![2, t.val / 8 * 8, 0] ∧ k0_off7 (grid0.coords t) = ![t.val, 2])
    ∧ (k0_off8 (grid0.coords t) = ![3, t.val / 8 * 8, 0] ∧ k0_off9 (grid0.coords t) = ![t.val, 3])
    ∧ (k0_off10 (grid0.coords t) = ![4, t.val / 8 * 8, 0] ∧ k0_off11 (grid0.coords t) = ![t.val, 4])
    ∧ k0_off1 (grid0.coords t) = ![t.val] := by decide +kernel

section

variable (d : Dev nD) (t : Fin 24) (arg1 : Memref sig .tc .smem S24 .i32) (harg1 : arg1.IsWhole) (arg2 : Memref sig .tc .vmem S1x32x128 .f32) (harg2 : arg2.IsWhole) (arg3 : Memref sig .tc .vmem S24x32 .f32) (harg3 : arg3.IsWhole)
  (arg4 : Memref sig .tc .vmem S1x5x64x320 .i8) (harg4 : arg4.IsWhole) (arg5 : Memref sig .tc .vmem S5x24x320 .f32) (harg5 : arg5.IsWhole) (arg6 : Memref sig .tc .vmem S5x24x320 .f32) (harg6 : arg6.IsWhole)
  (arg7 : Memref sig .tc .vmem S1x5x64x320 .i8) (harg7 : arg7.IsWhole) (arg8 : Memref sig .tc .vmem S5x24x320 .f32) (harg8 : arg8.IsWhole) (arg9 : Memref sig .tc .vmem S5x24x320 .f32) (harg9 : arg9.IsWhole)
  (arg10 : Memref sig .tc .vmem S1x8x128 .f32) (harg10 : arg10.IsWhole) (arg11 : Memref sig .tc .vmem S24x8 .f32) (harg11 : arg11.IsWhole) (arg12 : Memref sig .tc .vmem S24x8 .f32) (harg12 : arg12.IsWhole)
  (arg13 : Memref sig .tc .vmem S1x8x128 .f32) (harg13 : arg13.IsWhole) (arg14 : Memref sig .tc .vmem S24x8 .f32) (harg14 : arg14.IsWhole) (arg15 : Memref sig .tc .vmem S24x8 .f32) (harg15 : arg15.IsWhole) (arg16 : Memref sig .tc .vmem S1x20x128 .f32) (harg16 : arg16.IsWhole)
  (x0 : Vec Ideal S24 .i32) (x1 : Vec Ideal S1x32x128 .f32) (x2 : Vec Ideal S24x32 .f32) (x3 : Vec Ideal S1x5x64x320 .i8) (x4 x5 : Vec Ideal S5x24x320 .f32)
  (x6 : Vec Ideal S1x5x64x320 .i8) (x7 x8 : Vec Ideal S5x24x320 .f32) (x9 : Vec Ideal S1x8x128 .f32) (x10 x11 : Vec Ideal S24x8 .f32)
  (x12 : Vec Ideal S1x8x128 .f32) (x13 x14 : Vec Ideal S24x8 .f32)

/-- The length the body loads is the position's. -/
theorem length_at : kernelRun0_A.sl.r (F := Ideal) d (grid0.coords t) arg1 harg1 x0 = x0 (ix1 t) := by
  refine load_at harg1 x0 _ _ _ _ _ fun k => ?_
  fin_cases k
  exact (congrFun (places t).2.2.2.2.2 0).symm

/-- The attention of one query head in the output block. -/
theorem block_at (c : Fin 5) (m : Fin 4) (l : Fin 128) :
    out0_A_15 (F := Ideal) d (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 (ix3 (0 : Fin 1) (⟨4 * c.val + m.val, by omega⟩ : Fin 20) l)
      = (blockRow x0 x1 x3 x4 x5 x6 x7 x8 x9 x10 x11 x12 x13 x14 t c m).out l := by
  have hl := length_at d t arg1 harg1 x0
  obtain ⟨⟨s0, e0⟩, ⟨s1, e1⟩, ⟨s2, e2⟩, ⟨s3, e3⟩, ⟨s4, e4⟩, -⟩ := places t
  have hb : t.val / 8 * 8 + (own t).val = t.val := Nat.div_add_mod' t.val 8
  have hm := m.isLt
  unfold out0_A_15 kernelRun0_A
  dsimp only
  have key := fun oq iq oc ic os is on ino oe ie =>
    loaded_at (grid0.coords t) arg2 harg2 arg4 harg4 arg5 harg5 arg6 harg6 arg7 harg7 arg8 harg8 arg9 harg9 arg10 harg10 arg11 harg11 arg12 harg12 arg13 harg13 arg14 harg14 arg15 harg15 x0 x1 x3 x4 x5 x6 x7 x8 x9 x10 x11 x12 x13 x14 (kernelRun0_A.sl.r (F := Ideal) d (grid0.coords t) arg1 harg1 x0)
      oq iq oc ic os is on ino oe ie t c m l (own t) (t.val / 8 * 8) hl (mask_at t) hb
  match c, key with
  | ⟨0, _⟩, key =>
    rw [read_rows_not _ _ _ _ _ _ _ _ (Or.inl (by simp <;> omega)), read_rows_not _ _ _ _ _ _ _ _ (Or.inl (by simp <;> omega)), read_rows_not _ _ _ _ _ _ _ _ (Or.inl (by simp <;> omega)), read_rows_not _ _ _ _ _ _ _ _ (Or.inl (by simp <;> omega)), read_rows_mem _ _ _ _ _ _ _ _ m rfl]
    exact (pay18_at _ m l).trans (key _ inb_S1x32x128_S1x4x128_0_0_0 _ inb_S1x5x64x320_S1x1x64x320_0_0_0_0 _ (k0_off2_inb _) _ inb_S1x8x128_S1x1x128_0_0_0 _ (k0_off3_inb _) rfl rfl s0 rfl e0)
  | ⟨1, _⟩, key =>
    rw [read_rows_not _ _ _ _ _ _ _ _ (Or.inl (by simp <;> omega)), read_rows_not _ _ _ _ _ _ _ _ (Or.inl (by simp <;> omega)), read_rows_not _ _ _ _ _ _ _ _ (Or.inl (by simp <;> omega)), read_rows_mem _ _ _ _ _ _ _ _ m rfl]
    exact (pay18_at _ m l).trans (key _ inb_S1x32x128_S1x4x128_0_4_0 _ inb_S1x5x64x320_S1x1x64x320_0_1_0_0 _ (k0_off4_inb _) _ inb_S1x8x128_S1x1x128_0_1_0 _ (k0_off5_inb _) rfl rfl s1 rfl e1)
  | ⟨2, _⟩, key =>
    rw [read_rows_not _ _ _ _ _ _ _ _ (Or.inl (by simp <;> omega)), read_rows_not _ _ _ _ _ _ _ _ (Or.inl (by simp <;> omega)), read_rows_mem _ _ _ _ _ _ _ _ m rfl]
    exact (pay18_at _ m l).trans (key _ inb_S1x32x128_S1x4x128_0_8_0 _ inb_S1x5x64x320_S1x1x64x320_0_2_0_0 _ (k0_off6_inb _) _ inb_S1x8x128_S1x1x128_0_2_0 _ (k0_off7_inb _) rfl rfl s2 rfl e2)
  | ⟨3, _⟩, key =>
    rw [read_rows_not _ _ _ _ _ _ _ _ (Or.inl (by simp <;> omega)), read_rows_mem _ _ _ _ _ _ _ _ m rfl]
    exact (pay18_at _ m l).trans (key _ inb_S1x32x128_S1x4x128_0_12_0 _ inb_S1x5x64x320_S1x1x64x320_0_3_0_0 _ (k0_off8_inb _) _ inb_S1x8x128_S1x1x128_0_3_0 _ (k0_off9_inb _) rfl rfl s3 rfl e3)
  | ⟨4, _⟩, key =>
    rw [read_rows_mem _ _ _ _ _ _ _ _ m rfl]
    exact (pay18_at _ m l).trans (key _ inb_S1x32x128_S1x4x128_0_16_0 _ inb_S1x5x64x320_S1x1x64x320_0_4_0_0 _ (k0_off10_inb _) _ inb_S1x8x128_S1x1x128_0_4_0 _ (k0_off11_inb _) rfl rfl s4 rfl e4)

end

end Cert.StreamIdeal.Hand
end
-- ==== Proof.StreamArrays.lean ====
/-
  Hand-written, untrusted. The streaming attention kernel's result after the run as a function of the arguments.
-/
module

public import proofs.«01_k».proof.Proof.StreamBlock
public import Idealize.ShloMosaic.Lib.Pipeline.ValueKit

@[expose] public section

set_option maxRecDepth 16384

noncomputable section

namespace Cert.StreamIdeal.Hand

open Cert.StreamIdeal Cert.StreamIdeal.Gen Cert.Stream Cert.Common Idealize.ShloMosaic Idealize.ShloMosaic.TcCoe Idealize.SL.Sem Idealize.ShloMosaic.Tactic
open Idealize.ShloMosaic.Pipeline (Dat)

section Arrays

variable {F : FTy → Type} [FloatOps F]
variable (m : (ℓ : Loc nD τ sig) → Buf (Elt F) ℓ)

/-- The keys' codes, transposed. -/
theorem V_main_v0 (c : Dev nD) : V m c main_v0 = transpose S24x5x64x320 [0, 1, 3, 2] (m ((c : Thread nD τ).loc main_arg3)) transposes_S24x5x320x64_S24x5x64x320_0_1_3_2 := by
  unfold_abbrev_sides; after_results
/-- The keys' scales, transposed. -/
theorem V_main_v1 (c : Dev nD) : V m c main_v1 = transpose S5x24x320 [1, 0, 2] (m ((c : Thread nD τ).loc main_arg4)) transposes_S24x5x320_S5x24x320_1_0_2 := by
  unfold_abbrev_sides; after_results
/-- The keys' minima, transposed. -/
theorem V_main_v2 (c : Dev nD) : V m c main_v2 = transpose S5x24x320 [1, 0, 2] (m ((c : Thread nD τ).loc main_arg5)) transposes_S24x5x320_S5x24x320_1_0_2 := by
  unfold_abbrev_sides; after_results
/-- The values' codes, transposed. -/
theorem V_main_v3 (c : Dev nD) : V m c main_v3 = transpose S24x5x64x320 [0, 1, 3, 2] (m ((c : Thread nD τ).loc main_arg6)) transposes_S24x5x320x64_S24x5x64x320_0_1_3_2 := by
  unfold_abbrev_sides; after_results
/-- The values' scales, transposed. -/
theorem V_main_v4 (c : Dev nD) : V m c main_v4 = transpose S5x24x320 [1, 0, 2] (m ((c : Thread nD τ).loc main_arg7)) transposes_S24x5x320_S5x24x320_1_0_2 := by
  unfold_abbrev_sides; after_results
/-- The values' minima, transposed. -/
theorem V_main_v5 (c : Dev nD) : V m c main_v5 = transpose S5x24x320 [1, 0, 2] (m ((c : Thread nD τ).loc main_arg8)) transposes_S24x5x320_S5x24x320_1_0_2 := by
  unfold_abbrev_sides; after_results

/-! Which block of its array each window holds at a grid point. -/

theorem idx0 : ∀ t : Fin cfg0.N, win0_0.index t = ![0] := (by decide +kernel : ∀ t : Fin grid0.N, _)
theorem idx1 : ∀ t : Fin cfg0.N, win0_1.index t = ![t.val, 0, 0] := (by decide +kernel : ∀ t : Fin grid0.N, _)
theorem idx3 : ∀ t : Fin cfg0.N, win0_3.index t = ![t.val, 0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![t.val, 0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![t.val, 0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![t.val, 0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![t.val, 0, 0] := (by decide +kernel : ∀ t : Fin grid0.N, _)

/-! Each window's block at an element. -/

theorem iblk0_at (d' : Dev nD) (t : Fin 24) (r : Fin 24) : iblk m d' 0 t (ix1 r) = V m d' main_arg0 (ix1 r) := by
  blk_simp [iblk]
  refine congrArg (V m d' main_arg0) ?_
  blk_ext [idx0 t]
theorem iblk1_at (d' : Dev nD) (t : Fin 24) (r : Fin 32) (d : Fin 128) : iblk m d' 1 t (ix3 (0 : Fin 1) r d) = V m d' main_arg1 (ix3 t r d) := by
  blk_simp [iblk]
  refine congrArg (V m d' main_arg1) ?_
  blk_ext [idx1 t]
theorem iblk3_at (d' : Dev nD) (t : Fin 24) (c : Fin 5) (e : Fin 64) (s : Fin 320) : iblk m d' 3 t (ix4 (0 : Fin 1) c e s) = V m d' main_v0 (ix4 t c e s) := by
  blk_simp [iblk]
  refine congrArg (V m d' main_v0) ?_
  blk_ext [idx3 t]
theorem iblk4_at (d' : Dev nD) (t : Fin 24) (c : Fin 5) (b : Fin 24) (s : Fin 320) : iblk m d' 4 t (ix3 c b s) = V m d' main_v1 (ix3 c b s) := by
  blk_simp [iblk]
  refine congrArg (V m d' main_v1) ?_
  blk_ext [idx4 t]
theorem iblk5_at (d' : Dev nD) (t : Fin 24) (c : Fin 5) (b : Fin 24) (s : Fin 320) : iblk m d' 5 t (ix3 c b s) = V m d' main_v2 (ix3 c b s) := by
  blk_simp [iblk]
  refine congrArg (V m d' main_v2) ?_
  blk_ext [idx5 t]
theorem iblk6_at (d' : Dev nD) (t : Fin 24) (c : Fin 5) (e : Fin 64) (s : Fin 320) : iblk m d' 6 t (ix4 (0 : Fin 1) c e s) = V m d' main_v3 (ix4 t c e s) := by
  blk_simp [iblk]
  refine congrArg (V m d' main_v3) ?_
  blk_ext [idx6 t]
theorem iblk7_at (d' : Dev nD) (t : Fin 24) (c : Fin 5) (b : Fin 24) (s : Fin 320) : iblk m d' 7 t (ix3 c b s) = V m d' main_v4 (ix3 c b s) := by
  blk_simp [iblk]
  refine congrArg (V m d' main_v4) ?_
  blk_ext [idx7 t]
theorem iblk8_at (d' : Dev nD) (t : Fin 24) (c : Fin 5) (b : Fin 24) (s : Fin 320) : iblk m d' 8 t (ix3 c b s) = V m d' main_v5 (ix3 c b s) := by
  blk_simp [iblk]
  refine congrArg (V m d' main_v5) ?_
  blk_ext [idx8 t]
theorem iblk9_at (d' : Dev nD) (t : Fin 24) (r : Fin 8) (d : Fin 128) : iblk m d' 9 t (ix3 (0 : Fin 1) r d) = V m d' main_arg9 (ix3 t r d) := by
  blk_simp [iblk]
  refine congrArg (V m d' main_arg9) ?_
  blk_ext [idx9 t]
theorem iblk10_at (d' : Dev nD) (t : Fin 24) (b : Fin 24) (r : Fin 8) : iblk m d' 10 t (ix2 b r) = V m d' main_arg10 (ix2 b r) := by
  blk_simp [iblk]
  refine congrArg (V m d' main_arg10) ?_
  blk_ext [idx10 t]
theorem iblk11_at (d' : Dev nD) (t : Fin 24) (b : Fin 24) (r : Fin 8) : iblk m d' 11 t (ix2 b r) = V m d' main_arg11 (ix2 b r) := by
  blk_simp [iblk]
  refine congrArg (V m d' main_arg11) ?_
  blk_ext [idx11 t]
theorem iblk12_at (d' : Dev nD) (t : Fin 24) (r : Fin 8) (d : Fin 128) : iblk m d' 12 t (ix3 (0 : Fin 1) r d) = V m d' main_arg12 (ix3 t r d) := by
  blk_simp [iblk]
  refine congrArg (V m d' main_arg12) ?_
  blk_ext [idx12 t]
theorem iblk13_at (d' : Dev nD) (t : Fin 24) (b : Fin 24) (r : Fin 8) : iblk m d' 13 t (ix2 b r) = V m d' main_arg13 (ix2 b r) := by
  blk_simp [iblk]
  refine congrArg (V m d' main_arg13) ?_
  blk_ext [idx13 t]
theorem iblk14_at (d' : Dev nD) (t : Fin 24) (b : Fin 24) (r : Fin 8) : iblk m d' 14 t (ix2 b r) = V m d' main_arg14 (ix2 b r) := by
  blk_simp [iblk]
  refine congrArg (V m d' main_arg14) ?_
  blk_ext [idx14 t]

end Arrays

/-- One query head's data in the blocks of a grid point is its data in the arguments. -/
theorem row_eq (m : (ℓ : Loc nD τ sig) → Buf (Elt Ideal) ℓ) (d' : Dev nD) (t : Fin 24) (c : Fin 5) (k : Fin 4) :
    blockRow (iblk m d' 0 t) (iblk m d' 1 t) (iblk m d' 3 t) (iblk m d' 4 t) (iblk m d' 5 t) (iblk m d' 6 t) (iblk m d' 7 t) (iblk m d' 8 t) (iblk m d' 9 t) (iblk m d' 10 t) (iblk m d' 11 t) (iblk m d' 12 t) (iblk m d' 13 t) (iblk m d' 14 t) t c k
      = argRow (m ((d' : Thread nD τ).loc main_arg0)) (m ((d' : Thread nD τ).loc main_arg1)) (m ((d' : Thread nD τ).loc main_arg3)) (m ((d' : Thread nD τ).loc main_arg4)) (m ((d' : Thread nD τ).loc main_arg5)) (m ((d' : Thread nD τ).loc main_arg6)) (m ((d' : Thread nD τ).loc main_arg7)) (m ((d' : Thread nD τ).loc main_arg8)) (m ((d' : Thread nD τ).loc main_arg9)) (m ((d' : Thread nD τ).loc main_arg10)) (m ((d' : Thread nD τ).loc main_arg11)) (m ((d' : Thread nD τ).loc main_arg12)) (m ((d' : Thread nD τ).loc main_arg13)) (m ((d' : Thread nD τ).loc main_arg14)) t c k := by
  unfold blockRow argRow
  congr 1
  · rw [iblk0_at, V_main_arg0]
  · funext d; rw [iblk1_at, V_main_arg1]
  · funext s e; rw [iblk3_at, V_main_v0]; exact transpose_apply _ _ _ _ _ fun b => by fin_cases b <;> rfl
  · funext s; rw [iblk4_at, V_main_v1]; exact transpose_apply _ _ _ _ _ fun b => by fin_cases b <;> rfl
  · funext s; rw [iblk5_at, V_main_v2]; exact transpose_apply _ _ _ _ _ fun b => by fin_cases b <;> rfl
  · funext s e; rw [iblk6_at, V_main_v3]; exact transpose_apply _ _ _ _ _ fun b => by fin_cases b <;> rfl
  · funext s; rw [iblk7_at, V_main_v4]; exact transpose_apply _ _ _ _ _ fun b => by fin_cases b <;> rfl
  · funext s; rw [iblk8_at, V_main_v5]; exact transpose_apply _ _ _ _ _ fun b => by fin_cases b <;> rfl
  · funext d; rw [iblk9_at, V_main_arg9]
  · rw [iblk10_at, V_main_arg10]
  · rw [iblk11_at, V_main_arg11]
  · funext d; rw [iblk12_at, V_main_arg12]
  · rw [iblk13_at, V_main_arg13]
  · rw [iblk14_at, V_main_arg14]

/-- The attention the arguments stand for, as an array: query head `h` belongs to key head `h / 4`. -/
def attention (m : (ℓ : Loc nD τ sig) → Buf (Elt Ideal) ℓ) (d' : Dev nD) : FVec Ideal S24x20x128 .f32 := fun y =>
  (argRow (m ((d' : Thread nD τ).loc main_arg0)) (m ((d' : Thread nD τ).loc main_arg1)) (m ((d' : Thread nD τ).loc main_arg3)) (m ((d' : Thread nD τ).loc main_arg4)) (m ((d' : Thread nD τ).loc main_arg5)) (m ((d' : Thread nD τ).loc main_arg6)) (m ((d' : Thread nD τ).loc main_arg7)) (m ((d' : Thread nD τ).loc main_arg8)) (m ((d' : Thread nD τ).loc main_arg9)) (m ((d' : Thread nD τ).loc main_arg10)) (m ((d' : Thread nD τ).loc main_arg11)) (m ((d' : Thread nD τ).loc main_arg12)) (m ((d' : Thread nD τ).loc main_arg13)) (m ((d' : Thread nD τ).loc main_arg14)) (y 0) ⟨(y 1).val / 4, by have h : (y 1).val < 20 := (y 1).isLt; omega⟩ ⟨(y 1).val % 4, by omega⟩).out (y 2)

/-- The result array after the run is that attention. -/
theorem final15 (m : (ℓ : Loc nD τ sig) → Buf (Elt Ideal) ℓ) (d' : Dev nD) : (dats m 0 d').arrAt 15 cfg0.N = attention m d' := by
  refine (dats m 0 d').arrAt_eq_of_covers 15 _ (by decide +kernel) fun t hf y => ?_
  blk_simp
  rw [after0_15]
  obtain ⟨r, h, l, rfl⟩ : ∃ (r : Fin 1) (h : Fin 20) (l : Fin 128), y = ix3 r h l := ⟨y 0, y 1, y 2, eq_ix3 y⟩
  obtain rfl : r = 0 := Subsingleton.elim _ _
  have he : ((win0_15.blk t).view.emb (ix3 (0 : Fin 1) h l)) = ix3 (t : Fin 24) h l := by
    blk_ext [idx15 t]
  refine Eq.trans ?_ (congrArg _ he.symm)
  have hh := h.isLt
  have hd : (⟨4 * (h.val / 4) + h.val % 4, by omega⟩ : Fin 20) = h := Fin.ext (Nat.div_add_mod h.val 4)
  refine Eq.trans ?_ ((block_at d' t _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t)
    (iblk m d' 0 t) (iblk m d' 1 t) (iblk m d' 2 t) (iblk m d' 3 t) (iblk m d' 4 t) (iblk m d' 5 t) (iblk m d' 6 t) (iblk m d' 7 t) (iblk m d' 8 t) (iblk m d' 9 t) (iblk m d' 10 t) (iblk m d' 11 t) (iblk m d' 12 t) (iblk m d' 13 t) (iblk m d' 14 t)
    ⟨h.val / 4, by omega⟩ ⟨h.val % 4, by omega⟩ l).trans ?_)
  · refine Eq.trans ?_ (congrArg (fun z => outsAt0 m d' t (ix3 (0 : Fin 1) z l)) hd.symm)
    rfl
  · exact congrArg (fun z => Row.out z l) (row_eq m d' t ⟨h.val / 4, by omega⟩ ⟨h.val % 4, by omega⟩)

end Cert.StreamIdeal.Hand
end
-- ==== Proof.StreamRefHead.lean ====
/-
  Hand-written, untrusted. The value of the streaming attention's reference at an element, as a function of the arrays its one region works on.
-/
module

public import proofs.«01_k».proof.Proof.StreamSpec
public import proofs.«01_k».proof.Proof.W4A8
public import proofs.«01_k».proof.Proof.Gen.StreamRefIdeal.Frame
public import Idealize.ShloMosaic.Lib.Pipeline.Value
public import Idealize.ShloMosaic.Lib.Pipeline.ValueKit

@[expose] public section

set_option maxRecDepth 16384

noncomputable section

namespace Cert.StreamRefIdeal.Hand

open Cert.StreamRefIdeal Cert.StreamRefIdeal.Gen Cert.Stream Cert.Common Idealize.ShloMosaic Idealize.ShloMosaic.TcCoe

variable (x0 : IVec S120x1x1 32) (x1 : FVec Ideal S120x4x128 .f32) (x2 : IVec S120x320x64 8) (x3 x4 : FVec Ideal S120x1x320 .f32)
  (x5 : IVec S120x320x64 8) (x6 x7 : FVec Ideal S120x1x320 .f32) (x8 : FVec Ideal S120x1x128 .f32) (x9 x10 : FVec Ideal S120x1x1 .f32)
  (x11 : FVec Ideal S120x1x128 .f32) (x12 x13 : FVec Ideal S120x1x1 .f32)

/-- One query head's data in the arrays of the region. -/
def rowOf (n : Fin 120) (m : Fin 4) : Row where
  len := x0 (ix3 n 0 0)
  q d := x1 (ix3 n m d)
  kc t e := x2 (ix3 n t e)
  ks t := x3 (ix3 n 0 t)
  kz t := x4 (ix3 n 0 t)
  vc t e := x5 (ix3 n t e)
  vs t := x6 (ix3 n 0 t)
  vz t := x7 (ix3 n 0 t)
  kn d := x8 (ix3 n 0 d)
  kns := x9 (ix3 n 0 0)
  knz := x10 (ix3 n 0 0)
  vn d := x11 (ix3 n 0 d)
  vns := x12 (ix3 n 0 0)
  vnz := x13 (ix3 n 0 0)

/-- A low half as the reference unpacks it: the byte widened and masked, read with sign. -/
theorem low_at (b : BitVec 8) : FloatOps.sitofp (F := Ideal) .bf16 (IntOp.andi (b.setWidth 32) 15#32) = (((b &&& 15#8).toNat : ℝ) : EReal) := by
  show ((((b.setWidth 32) &&& 15#32).toInt : ℝ) : EReal) = _
  rw [low_toInt]; rfl

/-- A high half as the reference unpacks it: the byte widened and shifted, read with sign. -/
theorem high_at (b : BitVec 8) : FloatOps.sitofp (F := Ideal) .bf16 (IntOp.shrsi .vector (b.setWidth 32) 4#32) = (((b >>> 4).toNat : ℝ) : EReal) := by
  show ((((b.setWidth 32).sshiftRight 4).toInt : ℝ) : EReal) = _
  rw [high_toInt]; rfl

/-- The query at bf16 is the query: no rounding at exact arithmetic. -/
theorem pay1_at (n : Fin 120) (m : Fin 4) (d : Fin 128) : k0_pay1 (F := Ideal) x1 (ix3 n m d) = x1 (ix3 n m d) := by
  pointwise [k0_pay1]

/-- The query's sum. -/
theorem pay2_at (n : Fin 120) (m : Fin 4) : k0_pay2 (F := Ideal) x1 (ix3 n m 0) = ∑ d, x1 (ix3 n m d) := by
  pointwise [k0_pay2, pay1_at]

/-- The number of each cached token. -/
def tokens : IVec S120x1x320 32 := iota .tc S120x1x320 32 [2] iota_S120x1x320_d2_w32

section Values

variable (n : Fin 120) (m : Fin 4)

/-- The masked scores at an element. -/
theorem scores_at (t : Fin 320) : k0_pay5 (F := Ideal) (k0_pay3 x1 x2 x3 x4) tokens (k0_pay4 (F := Ideal) x0) (ix3 n m t) = (rowOf x0 x1 x2 x3 x4 x5 x6 x7 x8 x9 x10 x11 x12 x13 n m).s t := by
  pointwise [k0_pay5, tokens, low_at, high_at, k0_pay3, k0_pay4, pay1_at, pay2_at, dot_S120x4x64_S120x320x64_S120x4x320_2_2_1_1_0_0]
  rfl

/-- The new token's score at an element. -/
theorem new_at : k0_pay6 (F := Ideal) (k0_pay1 x1) (k0_pay2 x1) x8 x9 x10 (ix3 n m 0) = (rowOf x0 x1 x2 x3 x4 x5 x6 x7 x8 x9 x10 x11 x12 x13 n m).sn := by
  pointwise [k0_pay6, pay1_at, pay2_at]
  rfl

/-- The largest score at an element. -/
theorem max_at : k0_pay7 (F := Ideal) (k0_pay1 x1) (k0_pay2 x1) (k0_pay3 x1 x2 x3 x4) tokens (k0_pay4 (F := Ideal) x0) x8 x9 x10 (ix3 n m 0) = (rowOf x0 x1 x2 x3 x4 x5 x6 x7 x8 x9 x10 x11 x12 x13 n m).mx := by
  pointwise [k0_pay7, scores_at x0 x1 x2 x3 x4 x5 x6 x7 x8 x9 x10 x11 x12 x13, new_at x0 x1 x2 x3 x4 x5 x6 x7 x8 x9 x10 x11 x12 x13]
  rfl

/-- The weights at an element. -/
theorem weight_at (t : Fin 320) : k0_pay8 (F := Ideal) (k0_pay1 x1) (k0_pay2 x1) (k0_pay3 x1 x2 x3 x4) tokens (k0_pay4 (F := Ideal) x0) x8 x9 x10 (ix3 n m t) = (rowOf x0 x1 x2 x3 x4 x5 x6 x7 x8 x9 x10 x11 x12 x13 n m).p t := by
  pointwise [k0_pay8, scores_at x0 x1 x2 x3 x4 x5 x6 x7 x8 x9 x10 x11 x12 x13, max_at x0 x1 x2 x3 x4 x5 x6 x7 x8 x9 x10 x11 x12 x13]
  rfl

/-- The new token's weight at an element. -/
theorem newWeight_at : k0_pay9 (F := Ideal) (k0_pay1 x1) (k0_pay2 x1) (k0_pay3 x1 x2 x3 x4) tokens (k0_pay4 (F := Ideal) x0) x8 x9 x10 (ix3 n m 0) = (rowOf x0 x1 x2 x3 x4 x5 x6 x7 x8 x9 x10 x11 x12 x13 n m).pn := by
  pointwise [k0_pay9, new_at x0 x1 x2 x3 x4 x5 x6 x7 x8 x9 x10 x11 x12 x13, max_at x0 x1 x2 x3 x4 x5 x6 x7 x8 x9 x10 x11 x12 x13]
  rfl

/-- The sum of the weights at an element. -/
theorem den_at : k0_pay10 (F := Ideal) (k0_pay1 x1) (k0_pay2 x1) (k0_pay3 x1 x2 x3 x4) tokens (k0_pay4 (F := Ideal) x0) x8 x9 x10 (ix3 n m 0) = (rowOf x0 x1 x2 x3 x4 x5 x6 x7 x8 x9 x10 x11 x12 x13 n m).den := by
  pointwise [k0_pay10, weight_at x0 x1 x2 x3 x4 x5 x6 x7 x8 x9 x10 x11 x12 x13, newWeight_at x0 x1 x2 x3 x4 x5 x6 x7 x8 x9 x10 x11 x12 x13]
  rfl

/-- The attention of one query head at a lane. -/
theorem out_at (b : Fin 24) (h : Fin 20) (l : Fin 128) (hn : 20 * b.val + h.val = 4 * n.val + m.val) :
    k0_pay13 (F := Ideal) (k0_pay8 (k0_pay1 x1) (k0_pay2 x1) (k0_pay3 x1 x2 x3 x4) tokens (k0_pay4 (F := Ideal) x0) x8 x9 x10) (k0_pay9 (k0_pay1 x1) (k0_pay2 x1) (k0_pay3 x1 x2 x3 x4) tokens (k0_pay4 (F := Ideal) x0) x8 x9 x10)
      (k0_pay10 (k0_pay1 x1) (k0_pay2 x1) (k0_pay3 x1 x2 x3 x4) tokens (k0_pay4 (F := Ideal) x0) x8 x9 x10) (k0_pay11 (F := Ideal) x5) k0_pay12 x6 x12 x11 x7 x13 (ix3 b h l) = (rowOf x0 x1 x2 x3 x4 x5 x6 x7 x8 x9 x10 x11 x12 x13 n m).out l := by
  unfold k0_pay13
  dsimp only
  refine (shapeCast_apply _ _ _ (ix3 n m l) ?_).trans ?_
  · rw [Shape.rowMajor_val_three, Shape.rowMajor_val_three]
    show (n.val * 4 + m.val) * 128 + l.val = (b.val * 20 + h.val) * 128 + l.val
    omega
  pointwise [k0_pay11, k0_pay12, low_at, high_at, weight_at x0 x1 x2 x3 x4 x5 x6 x7 x8 x9 x10 x11 x12 x13, newWeight_at x0 x1 x2 x3 x4 x5 x6 x7 x8 x9 x10 x11 x12 x13,
    den_at x0 x1 x2 x3 x4 x5 x6 x7 x8 x9 x10 x11 x12 x13, dot_S120x4x320_S120x320x64_S120x4x64_2_1_1_2_0_0]
  unfold Row.out nib
  by_cases hl : l.val < 64 <;> simp only [hl, ↓reduceDIte] <;> rfl

end Values

end Cert.StreamRefIdeal.Hand
end
-- ==== Proof.StreamRefValue.lean ====
/-
  Hand-written, untrusted. The run of the streaming attention's reference with its result named as a function of the arguments.
-/
module

public import proofs.«01_k».proof.Proof.StreamRefHead
public import Idealize.ShloMosaic.Lib.Claim

@[expose] public section

set_option maxRecDepth 16384

noncomputable section

namespace Cert.StreamRefIdeal.Hand

open Cert.StreamRefIdeal Cert.StreamRefIdeal.Gen Cert.Stream Cert.Common Idealize.ShloMosaic Idealize.ShloMosaic.TcCoe Idealize.SL.Sem Idealize.ShloMosaic.Tactic
open Idealize.ShloMosaic.Pipeline (Dat)

section Arrays

variable {F : FTy → Type} [FloatOps F]
variable (m : (ℓ : Loc nD τ sig) → Buf (Elt F) ℓ) (ρ : Dev nD → PrngReg)

/-- The run ends with the result array the proof data name, and the arguments unchanged: no window stages an argument, and the run leaves the
    region's other buffers as they were. -/
theorem run_blocks : θ_run defs (onTc (τ := τ) (main (F := F))) ⟨m, fun _ => 0, ρ⟩ fun r => ∀ c : Dev nD,
      r.2.mem ((c : Thread nD τ).loc main_v23) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1 14,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

/-- The one grid point. -/
def t₀ : Fin cfg0.N := ⟨0, by decide⟩

/-! ## The arrays the region works on, as functions of the arguments -/

/-- The lengths, one for each position and key head. -/
theorem V_main_v2 (c : Dev nD) : V m c main_v2 = shapeCast S120x1x1 (broadcastInDim S24x5 ![0, 1] bcast_S24x1_S24x5_0_1 (broadcastInDim S24x1 ![0] bcast_S24_S24x1_0 (m ((c : Thread nD τ).loc main_arg0)))) shapeCasts_S24x5_S120x1x1 := by
  unfold_abbrev_sides; after_results; rfl
/-- The queries. -/
theorem V_main_v4 (c : Dev nD) : V m c main_v4 = shapeCast S120x4x128 (extractStridedSlice S24x20x128 ![0, 0, 0] (m ((c : Thread nD τ).loc main_arg1)) slices_S24x32x128_S24x20x128_0_0_0) shapeCasts_S24x20x128_S120x4x128 := by
  unfold_abbrev_sides; after_results; rfl
/-- The keys' codes. -/
theorem V_main_v5 (c : Dev nD) : V m c main_v5 = shapeCast S120x320x64 (m ((c : Thread nD τ).loc main_arg3)) shapeCasts_S24x5x320x64_S120x320x64 := by
  unfold_abbrev_sides; after_results; rfl
/-- The keys' scales. -/
theorem V_main_v6 (c : Dev nD) : V m c main_v6 = shapeCast S120x1x320 (m ((c : Thread nD τ).loc main_arg4)) shapeCasts_S24x5x320_S120x1x320 := by
  unfold_abbrev_sides; after_results; rfl
/-- The keys' minima. -/
theorem V_main_v7 (c : Dev nD) : V m c main_v7 = shapeCast S120x1x320 (m ((c : Thread nD τ).loc main_arg5)) shapeCasts_S24x5x320_S120x1x320 := by
  unfold_abbrev_sides; after_results; rfl
/-- The values' codes. -/
theorem V_main_v8 (c : Dev nD) : V m c main_v8 = shapeCast S120x320x64 (m ((c : Thread nD τ).loc main_arg6)) shapeCasts_S24x5x320x64_S120x320x64 := by
  unfold_abbrev_sides; after_results; rfl
/-- The values' scales. -/
theorem V_main_v9 (c : Dev nD) : V m c main_v9 = shapeCast S120x1x320 (m ((c : Thread nD τ).loc main_arg7)) shapeCasts_S24x5x320_S120x1x320 := by
  unfold_abbrev_sides; after_results; rfl
/-- The values' minima. -/
theorem V_main_v10 (c : Dev nD) : V m c main_v10 = shapeCast S120x1x320 (m ((c : Thread nD τ).loc main_arg8)) shapeCasts_S24x5x320_S120x1x320 := by
  unfold_abbrev_sides; after_results; rfl
/-- The new keys' codes. -/
theorem V_main_v12 (c : Dev nD) : V m c main_v12 = shapeCast S120x1x128 (extractStridedSlice S24x5x128 ![0, 0, 0] (m ((c : Thread nD τ).loc main_arg9)) slices_S24x8x128_S24x5x128_0_0_0) shapeCasts_S24x5x128_S120x1x128 := by
  unfold_abbrev_sides; after_results; rfl
/-- The new keys' scales. -/
theorem V_main_v14 (c : Dev nD) : V m c main_v14 = shapeCast S120x1x1 (extractStridedSlice S24x5 ![0, 0] (m ((c : Thread nD τ).loc main_arg10)) slices_S24x8_S24x5_0_0) shapeCasts_S24x5_S120x1x1 := by
  unfold_abbrev_sides; after_results; rfl
/-- The new keys' minima. -/
theorem V_main_v16 (c : Dev nD) : V m c main_v16 = shapeCast S120x1x1 (extractStridedSlice S24x5 ![0, 0] (m ((c : Thread nD τ).loc main_arg11)) slices_S24x8_S24x5_0_0) shapeCasts_S24x5_S120x1x1 := by
  unfold_abbrev_sides; after_results; rfl
/-- The new values' codes. -/
theorem V_main_v18 (c : Dev nD) : V m c main_v18 = shapeCast S120x1x128 (extractStridedSlice S24x5x128 ![0, 0, 0] (m ((c : Thread nD τ).loc main_arg12)) slices_S24x8x128_S24x5x128_0_0_0) shapeCasts_S24x5x128_S120x1x128 := by
  unfold_abbrev_sides; after_results; rfl
/-- The new values' scales. -/
theorem V_main_v20 (c : Dev nD) : V m c main_v20 = shapeCast S120x1x1 (extractStridedSlice S24x5 ![0, 0] (m ((c : Thread nD τ).loc main_arg13)) slices_S24x8_S24x5_0_0) shapeCasts_S24x5_S120x1x1 := by
  unfold_abbrev_sides; after_results; rfl
/-- The new values' minima. -/
theorem V_main_v22 (c : Dev nD) : V m c main_v22 = shapeCast S120x1x1 (extractStridedSlice S24x5 ![0, 0] (m ((c : Thread nD τ).loc main_arg14)) slices_S24x8_S24x5_0_0) shapeCasts_S24x5_S120x1x1 := by
  unfold_abbrev_sides; after_results; rfl

/-! Each input window's one block is its whole array. -/

theorem iblk_0 (c : Dev nD) : iblk m c 0 t₀ = V m c main_v2 := by
  funext y
  have e : win0_0.index t₀ = ![0, 0, 0] := by decide +kernel
  blk_simp [iblk]
  refine congrArg (V m c main_v2) ?_
  blk_ext [e]
theorem iblk_1 (c : Dev nD) : iblk m c 1 t₀ = V m c main_v4 := by
  funext y
  have e : win0_1.index t₀ = ![0, 0, 0] := by decide +kernel
  blk_simp [iblk]
  refine congrArg (V m c main_v4) ?_
  blk_ext [e]
theorem iblk_2 (c : Dev nD) : iblk m c 2 t₀ = V m c main_v5 := by
  funext y
  have e : win0_2.index t₀ = ![0, 0, 0] := by decide +kernel
  blk_simp [iblk]
  refine congrArg (V m c main_v5) ?_
  blk_ext [e]
theorem iblk_3 (c : Dev nD) : iblk m c 3 t₀ = V m c main_v6 := by
  funext y
  have e : win0_3.index t₀ = ![0, 0, 0] := by decide +kernel
  blk_simp [iblk]
  refine congrArg (V m c main_v6) ?_
  blk_ext [e]
theorem iblk_4 (c : Dev nD) : iblk m c 4 t₀ = V m c main_v7 := by
  funext y
  have e : win0_4.index t₀ = ![0, 0, 0] := by decide +kernel
  blk_simp [iblk]
  refine congrArg (V m c main_v7) ?_
  blk_ext [e]
theorem iblk_5 (c : Dev nD) : iblk m c 5 t₀ = V m c main_v8 := by
  funext y
  have e : win0_5.index t₀ = ![0, 0, 0] := by decide +kernel
  blk_simp [iblk]
  refine congrArg (V m c main_v8) ?_
  blk_ext [e]
theorem iblk_6 (c : Dev nD) : iblk m c 6 t₀ = V m c main_v9 := by
  funext y
  have e : win0_6.index t₀ = ![0, 0, 0] := by decide +kernel
  blk_simp [iblk]
  refine congrArg (V m c main_v9) ?_
  blk_ext [e]
theorem iblk_7 (c : Dev nD) : iblk m c 7 t₀ = V m c main_v10 := by
  funext y
  have e : win0_7.index t₀ = ![0, 0, 0] := by decide +kernel
  blk_simp [iblk]
  refine congrArg (V m c main_v10) ?_
  blk_ext [e]
theorem iblk_8 (c : Dev nD) : iblk m c 8 t₀ = V m c main_v12 := by
  funext y
  have e : win0_8.index t₀ = ![0, 0, 0] := by decide +kernel
  blk_simp [iblk]
  refine congrArg (V m c main_v12) ?_
  blk_ext [e]
theorem iblk_9 (c : Dev nD) : iblk m c 9 t₀ = V m c main_v14 := by
  funext y
  have e : win0_9.index t₀ = ![0, 0, 0] := by decide +kernel
  blk_simp [iblk]
  refine congrArg (V m c main_v14) ?_
  blk_ext [e]
theorem iblk_10 (c : Dev nD) : iblk m c 10 t₀ = V m c main_v16 := by
  funext y
  have e : win0_10.index t₀ = ![0, 0, 0] := by decide +kernel
  blk_simp [iblk]
  refine congrArg (V m c main_v16) ?_
  blk_ext [e]
theorem iblk_11 (c : Dev nD) : iblk m c 11 t₀ = V m c main_v18 := by
  funext y
  have e : win0_11.index t₀ = ![0, 0, 0] := by decide +kernel
  blk_simp [iblk]
  refine congrArg (V m c main_v18) ?_
  blk_ext [e]
theorem iblk_12 (c : Dev nD) : iblk m c 12 t₀ = V m c main_v20 := by
  funext y
  have e : win0_12.index t₀ = ![0, 0, 0] := by decide +kernel
  blk_simp [iblk]
  refine congrArg (V m c main_v20) ?_
  blk_ext [e]
theorem iblk_13 (c : Dev nD) : iblk m c 13 t₀ = V m c main_v22 := by
  funext y
  have e : win0_13.index t₀ = ![0, 0, 0] := by decide +kernel
  blk_simp [iblk]
  refine congrArg (V m c main_v22) ?_
  blk_ext [e]

theorem hz3 (a b d : ℕ) : (![0, 0, 0] : Fin (⟨3, ![a, b, d]⟩ : Shape).rank → ℕ) = fun _ => 0 := funext fun k => by fin_cases k <;> rfl

theorem ld0 (x : Vec F S120x4x128 .f32) : View.ld x r0_0 = x := View.ld_unit_zero (hz3 120 4 128) _ _
theorem ld1 (x : Vec F S120x320x64 .i8) : View.ld x r0_1 = x := View.ld_unit_zero (hz3 120 320 64) _ _
theorem ld2 (x : Vec F S120x1x320 .f32) : View.ld x r0_2 = x := View.ld_unit_zero (hz3 120 1 320) _ _
theorem ld3 {e : EltTy} (x : Vec F S120x1x1 e) : View.ld x r0_3 = x := View.ld_unit_zero (hz3 120 1 1) _ _
theorem ld4 (x : Vec F S120x1x128 .f32) : View.ld x r0_4 = x := View.ld_unit_zero (hz3 120 1 128) _ _

/-- The body's result as one term of the arrays. -/
theorem out14_eq (x0 : Vec F S120x1x1 .i32) (x1 : Vec F S120x4x128 .f32) (x2 : Vec F S120x320x64 .i8) (x3 x4 : Vec F S120x1x320 .f32)
    (x5 : Vec F S120x320x64 .i8) (x6 x7 : Vec F S120x1x320 .f32) (x8 : Vec F S120x1x128 .f32) (x9 x10 : Vec F S120x1x1 .f32)
    (x11 : Vec F S120x1x128 .f32) (x12 x13 : Vec F S120x1x1 .f32) :
    out0_14 x0 x1 x2 x3 x4 x5 x6 x7 x8 x9 x10 x11 x12 x13 = k0_pay13 (k0_pay8 (k0_pay1 x1) (k0_pay2 x1) (k0_pay3 x1 x2 x3 x4) tokens (k0_pay4 (F := F) x0) x8 x9 x10) (k0_pay9 (k0_pay1 x1) (k0_pay2 x1) (k0_pay3 x1 x2 x3 x4) tokens (k0_pay4 (F := F) x0) x8 x9 x10) (k0_pay10 (k0_pay1 x1) (k0_pay2 x1) (k0_pay3 x1 x2 x3 x4) tokens (k0_pay4 (F := F) x0) x8 x9 x10) (k0_pay11 (F := F) x5) k0_pay12 x6 x12 x11 x7 x13 := by
  unfold out0_14 k0_pay14 k0_pay15 k0_pay16 k0_pay17 k0_pay18
  rw [View.canon_unit_zero (hz3 24 20 128)]
  simp only [ld0, ld1, ld2, ld3, ld4]
  unfold tokens
  rfl

end Arrays

section Rows

variable {α : Type} (n : Fin 120) (b : Fin 24) (c : Fin 5) (hn : n.val = 5 * b.val + c.val)

include hn in
/-- Position and key head merged into one axis, on a rank-2 array. -/
theorem merge2 (x : S24x5.Idx → α) (h : S24x5.ShapeCasts S120x1x1) : shapeCast S120x1x1 x h (ix3 n 0 0) = x (ix2 b c) := by
  refine shapeCast_apply _ _ _ _ ?_
  rw [Shape.rowMajor_val_two, Shape.rowMajor_val_three]
  show b.val * 5 + c.val = (n.val * 1 + 0) * 1 + 0
  omega

include hn in
/-- Position and key head merged into one axis, on a rank-3 array. -/
theorem merge3 {k : ℕ} (x : (⟨3, ![24, 5, k]⟩ : Shape).Idx → α) (h : (⟨3, ![24, 5, k]⟩ : Shape).ShapeCasts ⟨3, ![120, 1, k]⟩) (l : Fin k) :
    shapeCast ⟨3, ![120, 1, k]⟩ x h (ix3 n 0 l) = x (ix3 b c l) := by
  refine shapeCast_apply _ _ _ _ ?_
  rw [Shape.rowMajor_val_three, Shape.rowMajor_val_three]
  show (b.val * 5 + c.val) * k + l.val = (n.val * 1 + 0) * k + l.val
  rw [hn]; ring

include hn in
/-- Position and key head merged into one axis, on the packed codes. -/
theorem merge4 (x : S24x5x320x64.Idx → α) (h : S24x5x320x64.ShapeCasts S120x320x64) (t : Fin 320) (e : Fin 64) :
    shapeCast S120x320x64 x h (ix3 n t e) = x (ix4 b c t e) := by
  refine shapeCast_apply _ _ _ _ ?_
  rw [Shape.rowMajor_val_four, Shape.rowMajor_val_three]
  show ((b.val * 5 + c.val) * 320 + t.val) * 64 + e.val = (n.val * 320 + t.val) * 64 + e.val
  omega

include hn in
/-- Query heads grouped by key head. -/
theorem mergeQ (x : S24x20x128.Idx → α) (h : S24x20x128.ShapeCasts S120x4x128) (k : Fin 4) (l : Fin 128) :
    shapeCast S120x4x128 x h (ix3 n k l) = x (ix3 b ⟨4 * c.val + k.val, by omega⟩ l) := by
  refine shapeCast_apply _ _ _ _ ?_
  rw [Shape.rowMajor_val_three, Shape.rowMajor_val_three]
  show (b.val * 20 + (4 * c.val + k.val)) * 128 + l.val = (n.val * 4 + k.val) * 128 + l.val
  omega

end Rows

variable (m : (ℓ : Loc nD τ sig) → Buf (Elt Ideal) ℓ)

/-- One query head's data in the arrays of the region is its data in the arguments. -/
theorem row_eq (c : Dev nD) (n : Fin 120) (b : Fin 24) (g : Fin 5) (k : Fin 4) (hn : n.val = 5 * b.val + g.val) :
    rowOf (V m c main_v2) (V m c main_v4) (V m c main_v5) (V m c main_v6) (V m c main_v7) (V m c main_v8) (V m c main_v9) (V m c main_v10) (V m c main_v12) (V m c main_v14) (V m c main_v16) (V m c main_v18) (V m c main_v20) (V m c main_v22) n k
      = argRow (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) b g k := by
  unfold rowOf argRow
  congr 1
  · rw [V_main_v2, merge2 n b g hn]; pointwise
  · funext d; rw [V_main_v4, mergeQ n b g hn]; pointwise
  · funext t e; rw [V_main_v5, merge4 n b g hn]
  · funext t; rw [V_main_v6]; exact merge3 n b g hn _ _ _
  · funext t; rw [V_main_v7]; exact merge3 n b g hn _ _ _
  · funext t e; rw [V_main_v8, merge4 n b g hn]
  · funext t; rw [V_main_v9]; exact merge3 n b g hn _ _ _
  · funext t; rw [V_main_v10]; exact merge3 n b g hn _ _ _
  · funext d; rw [V_main_v12]; refine (merge3 n b g hn _ _ _).trans ?_; pointwise
  · rw [V_main_v14, merge2 n b g hn]; pointwise
  · rw [V_main_v16, merge2 n b g hn]; pointwise
  · funext d; rw [V_main_v18]; refine (merge3 n b g hn _ _ _).trans ?_; pointwise
  · rw [V_main_v20, merge2 n b g hn]; pointwise
  · rw [V_main_v22, merge2 n b g hn]; pointwise

/-- The result array after the run, at an element: query head `h` belongs to key head `h / 4`. -/
theorem final14_at (c : Dev nD) (b : Fin 24) (h : Fin 20) (l : Fin 128) :
    (dats m 0 c).arrAt 14 cfg0.N (ix3 b h l)
      = (argRow (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) b ⟨h.val / 4, by omega⟩ ⟨h.val % 4, by omega⟩).out l := by
  have hf : (dats m 0 c).arrAt 14 cfg0.N = out0_14 (V m c main_v2) (V m c main_v4) (V m c main_v5) (V m c main_v6) (V m c main_v7) (V m c main_v8) (V m c main_v9) (V m c main_v10) (V m c main_v12) (V m c main_v14) (V m c main_v16) (V m c main_v18) (V m c main_v20) (V m c main_v22) := by
    refine (dats m 0 c).arrAt_eq_of_after_last 14 t₀ (by decide +kernel) _ fun j => ?_
    rw [after0_14, iblk_0, iblk_1, iblk_2, iblk_3, iblk_4, iblk_5, iblk_6, iblk_7, iblk_8, iblk_9, iblk_10, iblk_11, iblk_12, iblk_13]
    rfl
  rw [hf, out14_eq]
  have hh := h.isLt
  have hb := b.isLt
  refine (out_at _ _ _ _ _ _ _ _ _ _ _ _ _ _ (⟨5 * b.val + h.val / 4, by omega⟩ : Fin 120) ⟨h.val % 4, by omega⟩ b h l (by simp only []; omega)).trans ?_
  exact congrArg (fun z => Row.out z l) (row_eq m c _ b ⟨h.val / 4, by omega⟩ ⟨h.val % 4, by omega⟩ rfl)

end Cert.StreamRefIdeal.Hand

end
-- ==== Proof.StreamBits.lean ====
/-
  Hand-written, untrusted. The streaming heads' attention at bit patterns: it is printed with the text of its idealization, so the frame proved for
  any instance of the floats is its frame too.
-/
module

public import proofs.«01_k».proof.Proof.Gen.StreamIdeal.Frame
public import proofs.«01_k».proof.Proof.Gen.Stream

@[expose] public section

set_option maxRecDepth 65536
set_option maxHeartbeats 2000000
noncomputable section

namespace Cert.StreamSame
open Idealize.ShloMosaic Idealize.ShloMosaic.TcCoe Idealize.SL.Sem
variable {F : FTy → Type} [FloatOps F]

/-- The two texts of the kernel's body are one. -/
theorem body_eq : @Stream.cc0_stream F _ _ = @StreamIdeal.cc0_stream F _ _ := rfl

/-- So are the tables of bodies. -/
theorem defs₀_eq : (Stream.defs₀ (F := F)) = (StreamIdeal.defs₀ (F := F)) := by
  unfold Stream.defs₀ StreamIdeal.defs₀
  refine congrArg Defs.onTc ?_
  funext ℓ a
  match ℓ, a with
  | 0, (t, s) => rfl
  | ⟨_ + 1, h⟩, _ => exact absurd h (Nat.not_lt.2 (Nat.le_add_left _ _))

/-- So are the tables with the pipelines' own bodies. -/
theorem defs_eq : (Stream.defs (F := F)) = (StreamIdeal.defs (F := F)) := by
  unfold Stream.defs StreamIdeal.defs
  rw [defs₀_eq]
  rfl

/-- So are the two mains. -/
theorem main_eq : (Stream.main (F := F)) = (StreamIdeal.main (F := F)) := rfl

variable (m : (ℓ : Loc Stream.nD Stream.τ Stream.sig) → Buf (Elt F) ℓ) (ρ : Dev Stream.nD → PrngReg)

open Stream in
/-- The frame: every weakly fair execution ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) := by
  rw [defs_eq]
  exact StreamIdeal.Gen.frame (F := F) m ρ

end Cert.StreamSame
end
-- ==== Proof.StreamFinal.lean ====
/-
  Hand-written, untrusted. The streaming heads' attention and its reference run to equal results from equal arguments.
-/
module

public import proofs.«01_k».proof.Proof.StreamArrays
public import proofs.«01_k».proof.Proof.StreamRefValue
public import proofs.«01_k».proof.Proof.StreamBits
public import proofs.«01_k».proof.Defs

@[expose] public section

set_option maxRecDepth 16384

noncomputable section

namespace Cert.StreamFinal

open Cert.Common Idealize.ShloMosaic Idealize.ShloMosaic.TcCoe Idealize.SL.Sem Idealize.ShloMosaic.Tactic

/-- The frame of the kernel at bit patterns. -/
theorem quiescent_stream : Cert.quiescent_Stream (hStream := Cert.Stream.Gen.facts) := fun m g _ => Cert.StreamSame.frame m g

/-- The frame of the kernel at exact arithmetic. -/
theorem quiescent_streamIdeal : Cert.quiescent_StreamIdeal (hStreamIdeal := Cert.StreamIdeal.Gen.facts) := fun m g _ => Cert.StreamIdeal.Gen.frame m g

/-- The frame of the reference. -/
theorem quiescent_streamRef : Cert.quiescent_StreamRefIdeal (hStreamRefIdeal := Cert.StreamRefIdeal.Gen.facts) := fun m g _ => Cert.StreamRefIdeal.Gen.frame m g

/-- The kernel and its reference end with equal attention rows. -/
theorem algebraic : Cert.algebraic_StreamIdeal_StreamRefIdeal (hStreamIdeal := Cert.StreamIdeal.Gen.facts) (hStreamRefIdeal := Cert.StreamRefIdeal.Gen.facts) := by
  intro m g m' g' _ hagree
  refine ⟨fun c => (StreamIdeal.Gen.dats m 0 c).arrAt 15 StreamIdeal.cfg0.N, StreamIdeal.Value.run_blocks m g, ?_⟩
  refine (θ_run StreamRefIdeal.defs _ _).mono (fun r h c => ?_) (StreamRefIdeal.Hand.run_blocks m' g')
  obtain ⟨h0, hk⟩ := h c
  refine ⟨h0.trans ?_, hk⟩
  refine Eq.trans ?_ (StreamIdeal.Hand.final15 m c).symm
  funext y
  obtain ⟨b, q, l, rfl⟩ : ∃ (b : Fin 24) (q : Fin 20) (l : Fin 128), y = ix3 b q l := ⟨y 0, y 1, y 2, eq_ix3 y⟩
  refine (StreamRefIdeal.Hand.final14_at m' c b q l).trans ?_
  obtain ⟨e0, e1, e2, e3, e4, e5, e6, e7, e8, e9, e10, e11, e12, e13, e14⟩ := hagree c
  rw [e0, e1, e3, e4, e5, e6, e7, e8, e9, e10, e11, e12, e13, e14]
  rfl

end Cert.StreamFinal

end
-- ==== Proof.lean ====
module

public import proofs.«01_k».proof.Defs
public import proofs.«01_k».proof.Proof.OprojFinal
public import proofs.«01_k».proof.Proof.QkvFinal
public import proofs.«01_k».proof.Proof.StreamFinal
public import proofs.«01_k».proof.Proof.Gen.StreamIdeal.Value
public import proofs.«01_k».proof.Proof.Gen.StreamRefIdeal.Frame
public import proofs.«01_k».proof.Proof.Gen.Stream
public import proofs.«01_k».proof.Proof.Gen.QkvIdeal.Frame
public import proofs.«01_k».proof.Proof.Gen.QkvIdeal.Launch
public import proofs.«01_k».proof.Proof.Gen.QkvIdeal.Skeleton
public import proofs.«01_k».proof.Proof.Gen.QkvIdeal.Points
public import proofs.«01_k».proof.Proof.Gen.QkvRefIdeal.Frame
public import proofs.«01_k».proof.Proof.Gen.Qkv
public import proofs.«01_k».proof.Proof.Gen.On_code_lanes
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.Qkv.Gen.facts, Cert.QkvIdeal.Gen.facts, Cert.QkvRefIdeal.Gen.facts, Cert.Oproj.Gen.facts,
  Cert.OprojIdeal.Gen.facts, Cert.OprojRefIdeal.Gen.facts, Cert.Stream.Gen.facts, Cert.StreamIdeal.Gen.facts,
  Cert.StreamRefIdeal.Gen.facts, Cert.On_code_lanes.Gen.facts,
  Cert.QkvFinal.quiescent_qkv, Cert.QkvFinal.quiescent_qkvIdeal, Cert.QkvFinal.quiescent_qkvRef,
  Cert.OprojFinal.quiescent_oproj, Cert.OprojFinal.quiescent_oprojIdeal, Cert.OprojFinal.quiescent_oprojRef,
  Cert.StreamFinal.quiescent_stream, Cert.StreamFinal.quiescent_streamIdeal, Cert.StreamFinal.quiescent_streamRef,
  trivial, Cert.QkvFinal.algebraic, trivial, Cert.OprojFinal.algebraic, trivial, Cert.StreamFinal.algebraic⟩

end Cert.Proof

end
